-- ==== Defs.lean ====
def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaRefIdeal (m : (ℓ : Loc Cert.GlaRefIdeal.nD Cert.GlaRefIdeal.τ Cert.GlaRefIdeal.sig) → Buf (Elt Ideal) ℓ) : Prop :=
  True

def Pre_GlaPrompt (m : (ℓ : Loc Cert.GlaPrompt.nD Cert.GlaPrompt.τ Cert.GlaPrompt.sig) → Buf (Elt Bits) ℓ) : Prop :=
  True

def Pre_GlaPromptIdeal (m : (ℓ : Loc Cert.GlaPromptIdeal.nD Cert.GlaPromptIdeal.τ Cert.GlaPromptIdeal.sig) → Buf (Elt Ideal) ℓ) : Prop :=
  True

def Pre_GlaPromptRefIdeal (m : (ℓ : Loc Cert.GlaPromptRefIdeal.nD Cert.GlaPromptRefIdeal.τ Cert.GlaPromptRefIdeal.sig) → Buf (Elt Ideal) ℓ) : Prop :=
  True

def Pre_Gdn (m : (ℓ : Loc Cert.Gdn.nD Cert.Gdn.τ Cert.Gdn.sig) → Buf (Elt Bits) ℓ) : Prop :=
  True

def Pre_GdnIdeal (m : (ℓ : Loc Cert.GdnIdeal.nD Cert.GdnIdeal.τ Cert.GdnIdeal.sig) → Buf (Elt Ideal) ℓ) : Prop :=
  True

def Pre_GdnIdeal_gdn_finite [hPre_gdn_finite : Cert.Pre_gdn_finite.Facts] (m : (ℓ : Loc Cert.GdnIdeal.nD Cert.GdnIdeal.τ Cert.GdnIdeal.sig) → Buf (Elt Ideal) ℓ) : Prop :=
  ∀ c : Dev Cert.GdnIdeal.nD,
    (Cert.Pre_gdn_finite.fn (F := Ideal) (m ((c.tc : Thread Cert.GdnIdeal.nD Cert.GdnIdeal.τ).loc Cert.GdnIdeal.main_arg0)) (m ((c.tc : Thread Cert.GdnIdeal.nD Cert.GdnIdeal.τ).loc Cert.GdnIdeal.main_arg1)) (m ((c.tc : Thread Cert.GdnIdeal.nD Cert.GdnIdeal.τ).loc Cert.GdnIdeal.main_arg2)) (m ((c.tc : Thread Cert.GdnIdeal.nD Cert.GdnIdeal.τ).loc Cert.GdnIdeal.main_arg3)) (m ((c.tc : Thread Cert.GdnIdeal.nD Cert.GdnIdeal.τ).loc Cert.GdnIdeal.main_arg4)) (m ((c.tc : Thread Cert.GdnIdeal.nD Cert.GdnIdeal.τ).loc Cert.GdnIdeal.main_arg5)) (m ((c.tc : Thread Cert.GdnIdeal.nD Cert.GdnIdeal.τ).loc Cert.GdnIdeal.main_arg6))).1 = (fun _ => 1#1)
    ∧ (Cert.Pre_gdn_finite.fn (F := Ideal) (m ((c.tc : Thread Cert.GdnIdeal.nD Cert.GdnIdeal.τ).loc Cert.GdnIdeal.main_arg0)) (m ((c.tc : Thread Cert.GdnIdeal.nD Cert.GdnIdeal.τ).loc Cert.GdnIdeal.main_arg1)) (m ((c.tc : Thread Cert.GdnIdeal.nD Cert.GdnIdeal.τ).loc Cert.GdnIdeal.main_arg2)) (m ((c.tc : Thread Cert.GdnIdeal.nD Cert.GdnIdeal.τ).loc Cert.GdnIdeal.main_arg3)) (m ((c.tc : Thread Cert.GdnIdeal.nD Cert.GdnIdeal.τ).loc Cert.GdnIdeal.main_arg4)) (m ((c.tc : Thread Cert.GdnIdeal.nD Cert.GdnIdeal.τ).loc Cert.GdnIdeal.main_arg5)) (m ((c.tc : Thread Cert.GdnIdeal.nD Cert.GdnIdeal.τ).loc Cert.GdnIdeal.main_arg6))).2.1 = (fun _ => 1#1)
    ∧ (Cert.Pre_gdn_finite.fn (F := Ideal) (m ((c.tc : Thread Cert.GdnIdeal.nD Cert.GdnIdeal.τ).loc Cert.GdnIdeal.main_arg0)) (m ((c.tc : Thread Cert.GdnIdeal.nD Cert.GdnIdeal.τ).loc Cert.GdnIdeal.main_arg1)) (m ((c.tc : Thread Cert.GdnIdeal.nD Cert.GdnIdeal.τ).loc Cert.GdnIdeal.main_arg2)) (m ((c.tc : Thread Cert.GdnIdeal.nD Cert.GdnIdeal.τ).loc Cert.GdnIdeal.main_arg3)) (m ((c.tc : Thread Cert.GdnIdeal.nD Cert.GdnIdeal.τ).loc Cert.GdnIdeal.main_arg4)) (m ((c.tc : Thread Cert.GdnIdeal.nD Cert.GdnIdeal.τ).loc Cert.GdnIdeal.main_arg5)) (m ((c.tc : Thread Cert.GdnIdeal.nD Cert.GdnIdeal.τ).loc Cert.GdnIdeal.main_arg6))).2.2 = (fun _ => 1#1)

def Pre_GdnRefIdeal (m : (ℓ : Loc Cert.GdnRefIdeal.nD Cert.GdnRefIdeal.τ Cert.GdnRefIdeal.sig) → Buf (Elt Ideal) ℓ) : Prop :=
  True

def Pre_GdnRefIdeal_gdn_finite [hPre_gdn_finite : Cert.Pre_gdn_finite.Facts] (m : (ℓ : Loc Cert.GdnRefIdeal.nD Cert.GdnRefIdeal.τ Cert.GdnRefIdeal.sig) → Buf (Elt Ideal) ℓ) : Prop :=
  ∀ c : Dev Cert.GdnRefIdeal.nD,
    (Cert.Pre_gdn_finite.fn (F := Ideal) (m ((c.tc : Thread Cert.GdnRefIdeal.nD Cert.GdnRefIdeal.τ).loc Cert.GdnRefIdeal.main_arg0)) (m ((c.tc : Thread Cert.GdnRefIdeal.nD Cert.GdnRefIdeal.τ).loc Cert.GdnRefIdeal.main_arg1)) (m ((c.tc : Thread Cert.GdnRefIdeal.nD Cert.GdnRefIdeal.τ).loc Cert.GdnRefIdeal.main_arg2)) (m ((c.tc : Thread Cert.GdnRefIdeal.nD Cert.GdnRefIdeal.τ).loc Cert.GdnRefIdeal.main_arg3)) (m ((c.tc : Thread Cert.GdnRefIdeal.nD Cert.GdnRefIdeal.τ).loc Cert.GdnRefIdeal.main_arg4)) (m ((c.tc : Thread Cert.GdnRefIdeal.nD Cert.GdnRefIdeal.τ).loc Cert.GdnRefIdeal.main_arg5)) (m ((c.tc : Thread Cert.GdnRefIdeal.nD Cert.GdnRefIdeal.τ).loc Cert.GdnRefIdeal.main_arg6))).1 = (fun _ => 1#1)
    ∧ (Cert.Pre_gdn_finite.fn (F := Ideal) (m ((c.tc : Thread Cert.GdnRefIdeal.nD Cert.GdnRefIdeal.τ).loc Cert.GdnRefIdeal.main_arg0)) (m ((c.tc : Thread Cert.GdnRefIdeal.nD Cert.GdnRefIdeal.τ).loc Cert.GdnRefIdeal.main_arg1)) (m ((c.tc : Thread Cert.GdnRefIdeal.nD Cert.GdnRefIdeal.τ).loc Cert.GdnRefIdeal.main_arg2)) (m ((c.tc : Thread Cert.GdnRefIdeal.nD Cert.GdnRefIdeal.τ).loc Cert.GdnRefIdeal.main_arg3)) (m ((c.tc : Thread Cert.GdnRefIdeal.nD Cert.GdnRefIdeal.τ).loc Cert.GdnRefIdeal.main_arg4)) (m ((c.tc : Thread Cert.GdnRefIdeal.nD Cert.GdnRefIdeal.τ).loc Cert.GdnRefIdeal.main_arg5)) (m ((c.tc : Thread Cert.GdnRefIdeal.nD Cert.GdnRefIdeal.τ).loc Cert.GdnRefIdeal.main_arg6))).2.1 = (fun _ => 1#1)
    ∧ (Cert.Pre_gdn_finite.fn (F := Ideal) (m ((c.tc : Thread Cert.GdnRefIdeal.nD Cert.GdnRefIdeal.τ).loc Cert.GdnRefIdeal.main_arg0)) (m ((c.tc : Thread Cert.GdnRefIdeal.nD Cert.GdnRefIdeal.τ).loc Cert.GdnRefIdeal.main_arg1)) (m ((c.tc : Thread Cert.GdnRefIdeal.nD Cert.GdnRefIdeal.τ).loc Cert.GdnRefIdeal.main_arg2)) (m ((c.tc : Thread Cert.GdnRefIdeal.nD Cert.GdnRefIdeal.τ).loc Cert.GdnRefIdeal.main_arg3)) (m ((c.tc : Thread Cert.GdnRefIdeal.nD Cert.GdnRefIdeal.τ).loc Cert.GdnRefIdeal.main_arg4)) (m ((c.tc : Thread Cert.GdnRefIdeal.nD Cert.GdnRefIdeal.τ).loc Cert.GdnRefIdeal.main_arg5)) (m ((c.tc : Thread Cert.GdnRefIdeal.nD Cert.GdnRefIdeal.τ).loc Cert.GdnRefIdeal.main_arg6))).2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidIdeal_mid_finite [hPre_mid_finite : Cert.Pre_mid_finite.Facts] (m : (ℓ : Loc Cert.MidIdeal.nD Cert.MidIdeal.τ Cert.MidIdeal.sig) → Buf (Elt Ideal) ℓ) : Prop :=
  ∀ c : Dev Cert.MidIdeal.nD,
    (Cert.Pre_mid_finite.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6))).1 = (fun _ => 1#1)
    ∧ (Cert.Pre_mid_finite.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6))).2 = (fun _ => 1#1)

def Pre_MidRefIdeal (m : (ℓ : Loc Cert.MidRefIdeal.nD Cert.MidRefIdeal.τ Cert.MidRefIdeal.sig) → Buf (Elt Ideal) ℓ) : Prop :=
  True

def Pre_MidRefIdeal_mid_finite [hPre_mid_finite : Cert.Pre_mid_finite.Facts] (m : (ℓ : Loc Cert.MidRefIdeal.nD Cert.MidRefIdeal.τ Cert.MidRefIdeal.sig) → Buf (Elt Ideal) ℓ) : Prop :=
  ∀ c : Dev Cert.MidRefIdeal.nD,
    (Cert.Pre_mid_finite.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6))).1 = (fun _ => 1#1)
    ∧ (Cert.Pre_mid_finite.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6))).2 = (fun _ => 1#1)

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_PleFinal (m : (ℓ : Loc Cert.PleFinal.nD Cert.PleFinal.τ Cert.PleFinal.sig) → Buf (Elt Bits) ℓ) : Prop :=
  True

def Pre_PleFinalIdeal (m : (ℓ : Loc Cert.PleFinalIdeal.nD Cert.PleFinalIdeal.τ Cert.PleFinalIdeal.sig) → Buf (Elt Ideal) ℓ) : Prop :=
  True

def Pre_PleFinalRefIdeal (m : (ℓ : Loc Cert.PleFinalRefIdeal.nD Cert.PleFinalRefIdeal.τ Cert.PleFinalRefIdeal.sig) → Buf (Elt Ideal) ℓ) : Prop :=
  True

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4))
      ∧ r.2.sem = fun _ => 0)

def quiescent_GlaPrompt [hGlaPrompt : Cert.GlaPrompt.Facts] : Prop :=
  ∀ (m : (ℓ : Loc Cert.GlaPrompt.nD Cert.GlaPrompt.τ Cert.GlaPrompt.sig) → Buf (Elt Bits) ℓ) (g : Dev Cert.GlaPrompt.nD → PrngReg), Pre_GlaPrompt m →
    θ_run (Cert.GlaPrompt.defs (F := Bits)) (onTc (τ := Cert.GlaPrompt.τ) (Cert.GlaPrompt.main (F := Bits))) ⟨m, fun _ => 0, g⟩ (fun r => (∀ c : Dev Cert.GlaPrompt.nD,
      r.2.mem ((c.tc : Thread Cert.GlaPrompt.nD Cert.GlaPrompt.τ).loc Cert.GlaPrompt.main_arg0) = m ((c.tc : Thread Cert.GlaPrompt.nD Cert.GlaPrompt.τ).loc Cert.GlaPrompt.main_arg0)
      ∧ r.2.mem ((c.tc : Thread Cert.GlaPrompt.nD Cert.GlaPrompt.τ).loc Cert.GlaPrompt.main_arg1) = m ((c.tc : Thread Cert.GlaPrompt.nD Cert.GlaPrompt.τ).loc Cert.GlaPrompt.main_arg1)
      ∧ r.2.mem ((c.tc : Thread Cert.GlaPrompt.nD Cert.GlaPrompt.τ).loc Cert.GlaPrompt.main_arg2) = m ((c.tc : Thread Cert.GlaPrompt.nD Cert.GlaPrompt.τ).loc Cert.GlaPrompt.main_arg2)
      ∧ r.2.mem ((c.tc : Thread Cert.GlaPrompt.nD Cert.GlaPrompt.τ).loc Cert.GlaPrompt.main_arg3) = m ((c.tc : Thread Cert.GlaPrompt.nD Cert.GlaPrompt.τ).loc Cert.GlaPrompt.main_arg3)
      ∧ r.2.mem ((c.tc : Thread Cert.GlaPrompt.nD Cert.GlaPrompt.τ).loc Cert.GlaPrompt.main_arg4) = m ((c.tc : Thread Cert.GlaPrompt.nD Cert.GlaPrompt.τ).loc Cert.GlaPrompt.main_arg4))
      ∧ r.2.sem = fun _ => 0)

def quiescent_GlaPromptIdeal [hGlaPromptIdeal : Cert.GlaPromptIdeal.Facts] : Prop :=
  ∀ (m : (ℓ : Loc Cert.GlaPromptIdeal.nD Cert.GlaPromptIdeal.τ Cert.GlaPromptIdeal.sig) → Buf (Elt Ideal) ℓ) (g : Dev Cert.GlaPromptIdeal.nD → PrngReg), Pre_GlaPromptIdeal m →
    θ_run (Cert.GlaPromptIdeal.defs (F := Ideal)) (onTc (τ := Cert.GlaPromptIdeal.τ) (Cert.GlaPromptIdeal.main (F := Ideal))) ⟨m, fun _ => 0, g⟩ (fun r => (∀ c : Dev Cert.GlaPromptIdeal.nD,
      r.2.mem ((c.tc : Thread Cert.GlaPromptIdeal.nD Cert.GlaPromptIdeal.τ).loc Cert.GlaPromptIdeal.main_arg0) = m ((c.tc : Thread Cert.GlaPromptIdeal.nD Cert.GlaPromptIdeal.τ).loc Cert.GlaPromptIdeal.main_arg0)
      ∧ r.2.mem ((c.tc : Thread Cert.GlaPromptIdeal.nD Cert.GlaPromptIdeal.τ).loc Cert.GlaPromptIdeal.main_arg1) = m ((c.tc : Thread Cert.GlaPromptIdeal.nD Cert.GlaPromptIdeal.τ).loc Cert.GlaPromptIdeal.main_arg1)
      ∧ r.2.mem ((c.tc : Thread Cert.GlaPromptIdeal.nD Cert.GlaPromptIdeal.τ).loc Cert.GlaPromptIdeal.main_arg2) = m ((c.tc : Thread Cert.GlaPromptIdeal.nD Cert.GlaPromptIdeal.τ).loc Cert.GlaPromptIdeal.main_arg2)
      ∧ r.2.mem ((c.tc : Thread Cert.GlaPromptIdeal.nD Cert.GlaPromptIdeal.τ).loc Cert.GlaPromptIdeal.main_arg3) = m ((c.tc : Thread Cert.GlaPromptIdeal.nD Cert.GlaPromptIdeal.τ).loc Cert.GlaPromptIdeal.main_arg3)
      ∧ r.2.mem ((c.tc : Thread Cert.GlaPromptIdeal.nD Cert.GlaPromptIdeal.τ).loc Cert.GlaPromptIdeal.main_arg4) = m ((c.tc : Thread Cert.GlaPromptIdeal.nD Cert.GlaPromptIdeal.τ).loc Cert.GlaPromptIdeal.main_arg4))
      ∧ r.2.sem = fun _ => 0)

def quiescent_GlaPromptRefIdeal [hGlaPromptRefIdeal : Cert.GlaPromptRefIdeal.Facts] : Prop :=
  ∀ (m : (ℓ : Loc Cert.GlaPromptRefIdeal.nD Cert.GlaPromptRefIdeal.τ Cert.GlaPromptRefIdeal.sig) → Buf (Elt Ideal) ℓ) (g : Dev Cert.GlaPromptRefIdeal.nD → PrngReg), Pre_GlaPromptRefIdeal m →
    θ_run (Cert.GlaPromptRefIdeal.defs (F := Ideal)) (onTc (τ := Cert.GlaPromptRefIdeal.τ) (Cert.GlaPromptRefIdeal.main (F := Ideal))) ⟨m, fun _ => 0, g⟩ (fun r => (∀ c : Dev Cert.GlaPromptRefIdeal.nD,
      r.2.mem ((c.tc : Thread Cert.GlaPromptRefIdeal.nD Cert.GlaPromptRefIdeal.τ).loc Cert.GlaPromptRefIdeal.main_arg0) = m ((c.tc : Thread Cert.GlaPromptRefIdeal.nD Cert.GlaPromptRefIdeal.τ).loc Cert.GlaPromptRefIdeal.main_arg0)
      ∧ r.2.mem ((c.tc : Thread Cert.GlaPromptRefIdeal.nD Cert.GlaPromptRefIdeal.τ).loc Cert.GlaPromptRefIdeal.main_arg1) = m ((c.tc : Thread Cert.GlaPromptRefIdeal.nD Cert.GlaPromptRefIdeal.τ).loc Cert.GlaPromptRefIdeal.main_arg1)
      ∧ r.2.mem ((c.tc : Thread Cert.GlaPromptRefIdeal.nD Cert.GlaPromptRefIdeal.τ).loc Cert.GlaPromptRefIdeal.main_arg2) = m ((c.tc : Thread Cert.GlaPromptRefIdeal.nD Cert.GlaPromptRefIdeal.τ).loc Cert.GlaPromptRefIdeal.main_arg2)
      ∧ r.2.mem ((c.tc : Thread Cert.GlaPromptRefIdeal.nD Cert.GlaPromptRefIdeal.τ).loc Cert.GlaPromptRefIdeal.main_arg3) = m ((c.tc : Thread Cert.GlaPromptRefIdeal.nD Cert.GlaPromptRefIdeal.τ).loc Cert.GlaPromptRefIdeal.main_arg3)
      ∧ r.2.mem ((c.tc : Thread Cert.GlaPromptRefIdeal.nD Cert.GlaPromptRefIdeal.τ).loc Cert.GlaPromptRefIdeal.main_arg4) = m ((c.tc : Thread Cert.GlaPromptRefIdeal.nD Cert.GlaPromptRefIdeal.τ).loc Cert.GlaPromptRefIdeal.main_arg4))
      ∧ r.2.sem = fun _ => 0)

def quiescent_Gdn [hGdn : Cert.Gdn.Facts] : Prop :=
  ∀ (m : (ℓ : Loc Cert.Gdn.nD Cert.Gdn.τ Cert.Gdn.sig) → Buf (Elt Bits) ℓ) (g : Dev Cert.Gdn.nD → PrngReg), Pre_Gdn m →
    θ_run (Cert.Gdn.defs (F := Bits)) (onTc (τ := Cert.Gdn.τ) (Cert.Gdn.main (F := Bits))) ⟨m, fun _ => 0, g⟩ (fun r => (∀ c : Dev Cert.Gdn.nD,
      r.2.mem ((c.tc : Thread Cert.Gdn.nD Cert.Gdn.τ).loc Cert.Gdn.main_arg0) = m ((c.tc : Thread Cert.Gdn.nD Cert.Gdn.τ).loc Cert.Gdn.main_arg0)
      ∧ r.2.mem ((c.tc : Thread Cert.Gdn.nD Cert.Gdn.τ).loc Cert.Gdn.main_arg1) = m ((c.tc : Thread Cert.Gdn.nD Cert.Gdn.τ).loc Cert.Gdn.main_arg1)
      ∧ r.2.mem ((c.tc : Thread Cert.Gdn.nD Cert.Gdn.τ).loc Cert.Gdn.main_arg2) = m ((c.tc : Thread Cert.Gdn.nD Cert.Gdn.τ).loc Cert.Gdn.main_arg2)
      ∧ r.2.mem ((c.tc : Thread Cert.Gdn.nD Cert.Gdn.τ).loc Cert.Gdn.main_arg3) = m ((c.tc : Thread Cert.Gdn.nD Cert.Gdn.τ).loc Cert.Gdn.main_arg3)
      ∧ r.2.mem ((c.tc : Thread Cert.Gdn.nD Cert.Gdn.τ).loc Cert.Gdn.main_arg4) = m ((c.tc : Thread Cert.Gdn.nD Cert.Gdn.τ).loc Cert.Gdn.main_arg4)
      ∧ r.2.mem ((c.tc : Thread Cert.Gdn.nD Cert.Gdn.τ).loc Cert.Gdn.main_arg5) = m ((c.tc : Thread Cert.Gdn.nD Cert.Gdn.τ).loc Cert.Gdn.main_arg5)
      ∧ r.2.mem ((c.tc : Thread Cert.Gdn.nD Cert.Gdn.τ).loc Cert.Gdn.main_arg6) = m ((c.tc : Thread Cert.Gdn.nD Cert.Gdn.τ).loc Cert.Gdn.main_arg6))
      ∧ r.2.sem = fun _ => 0)

def quiescent_GdnIdeal [hGdnIdeal : Cert.GdnIdeal.Facts] : Prop :=
  ∀ (m : (ℓ : Loc Cert.GdnIdeal.nD Cert.GdnIdeal.τ Cert.GdnIdeal.sig) → Buf (Elt Ideal) ℓ) (g : Dev Cert.GdnIdeal.nD → PrngReg), Pre_GdnIdeal m →
    θ_run (Cert.GdnIdeal.defs (F := Ideal)) (onTc (τ := Cert.GdnIdeal.τ) (Cert.GdnIdeal.main (F := Ideal))) ⟨m, fun _ => 0, g⟩ (fun r => (∀ c : Dev Cert.GdnIdeal.nD,
      r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
      ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
      ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
      ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3)
      ∧ r.2.mem ((c.tc : Thread Cert.GdnIdeal.nD Cert.GdnIdeal.τ).loc Cert.GdnIdeal.main_arg4) = m ((c.tc : Thread Cert.GdnIdeal.nD Cert.GdnIdeal.τ).loc Cert.GdnIdeal.main_arg4)
      ∧ r.2.mem ((c.tc : Thread Cert.GdnIdeal.nD Cert.GdnIdeal.τ).loc Cert.GdnIdeal.main_arg5) = m ((c.tc : Thread Cert.GdnIdeal.nD Cert.GdnIdeal.τ).loc Cert.GdnIdeal.main_arg5)
      ∧ r.2.mem ((c.tc : Thread Cert.GdnIdeal.nD Cert.GdnIdeal.τ).loc Cert.GdnIdeal.main_arg6) = m ((c.tc : Thread Cert.GdnIdeal.nD Cert.GdnIdeal.τ).loc Cert.GdnIdeal.main_arg6))
      ∧ r.2.sem = fun _ => 0)

def quiescent_GdnIdeal_pre_gdn_finite [hGdnIdeal : Cert.GdnIdeal.Facts] [hPre_gdn_finite : Cert.Pre_gdn_finite.Facts] : Prop :=
  ∀ (m : (ℓ : Loc Cert.GdnIdeal.nD Cert.GdnIdeal.τ Cert.GdnIdeal.sig) → Buf (Elt Ideal) ℓ) (g : Dev Cert.GdnIdeal.nD → PrngReg), Pre_GdnIdeal_gdn_finite m →
    θ_run (Cert.GdnIdeal.defs (F := Ideal)) (onTc (τ := Cert.GdnIdeal.τ) (Cert.GdnIdeal.main (F := Ideal))) ⟨m, fun _ => 0, g⟩ (fun r => (∀ c : Dev Cert.GdnIdeal.nD,
      r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
      ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
      ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
      ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3)
      ∧ r.2.mem ((c.tc : Thread Cert.GdnIdeal.nD Cert.GdnIdeal.τ).loc Cert.GdnIdeal.main_arg4) = m ((c.tc : Thread Cert.GdnIdeal.nD Cert.GdnIdeal.τ).loc Cert.GdnIdeal.main_arg4)
      ∧ r.2.mem ((c.tc : Thread Cert.GdnIdeal.nD Cert.GdnIdeal.τ).loc Cert.GdnIdeal.main_arg5) = m ((c.tc : Thread Cert.GdnIdeal.nD Cert.GdnIdeal.τ).loc Cert.GdnIdeal.main_arg5)
      ∧ r.2.mem ((c.tc : Thread Cert.GdnIdeal.nD Cert.GdnIdeal.τ).loc Cert.GdnIdeal.main_arg6) = m ((c.tc : Thread Cert.GdnIdeal.nD Cert.GdnIdeal.τ).loc Cert.GdnIdeal.main_arg6))
      ∧ r.2.sem = fun _ => 0)

def quiescent_GdnRefIdeal [hGdnRefIdeal : Cert.GdnRefIdeal.Facts] : Prop :=
  ∀ (m : (ℓ : Loc Cert.GdnRefIdeal.nD Cert.GdnRefIdeal.τ Cert.GdnRefIdeal.sig) → Buf (Elt Ideal) ℓ) (g : Dev Cert.GdnRefIdeal.nD → PrngReg), Pre_GdnRefIdeal m →
    θ_run (Cert.GdnRefIdeal.defs (F := Ideal)) (onTc (τ := Cert.GdnRefIdeal.τ) (Cert.GdnRefIdeal.main (F := Ideal))) ⟨m, fun _ => 0, g⟩ (fun r => (∀ c : Dev Cert.GdnRefIdeal.nD,
      r.2.mem ((c.tc : Thread Cert.GdnRefIdeal.nD Cert.GdnRefIdeal.τ).loc Cert.GdnRefIdeal.main_arg0) = m ((c.tc : Thread Cert.GdnRefIdeal.nD Cert.GdnRefIdeal.τ).loc Cert.GdnRefIdeal.main_arg0)
      ∧ r.2.mem ((c.tc : Thread Cert.GdnRefIdeal.nD Cert.GdnRefIdeal.τ).loc Cert.GdnRefIdeal.main_arg1) = m ((c.tc : Thread Cert.GdnRefIdeal.nD Cert.GdnRefIdeal.τ).loc Cert.GdnRefIdeal.main_arg1)
      ∧ r.2.mem ((c.tc : Thread Cert.GdnRefIdeal.nD Cert.GdnRefIdeal.τ).loc Cert.GdnRefIdeal.main_arg2) = m ((c.tc : Thread Cert.GdnRefIdeal.nD Cert.GdnRefIdeal.τ).loc Cert.GdnRefIdeal.main_arg2)
      ∧ r.2.mem ((c.tc : Thread Cert.GdnRefIdeal.nD Cert.GdnRefIdeal.τ).loc Cert.GdnRefIdeal.main_arg3) = m ((c.tc : Thread Cert.GdnRefIdeal.nD Cert.GdnRefIdeal.τ).loc Cert.GdnRefIdeal.main_arg3)
      ∧ r.2.mem ((c.tc : Thread Cert.GdnRefIdeal.nD Cert.GdnRefIdeal.τ).loc Cert.GdnRefIdeal.main_arg4) = m ((c.tc : Thread Cert.GdnRefIdeal.nD Cert.GdnRefIdeal.τ).loc Cert.GdnRefIdeal.main_arg4)
      ∧ r.2.mem ((c.tc : Thread Cert.GdnRefIdeal.nD Cert.GdnRefIdeal.τ).loc Cert.GdnRefIdeal.main_arg5) = m ((c.tc : Thread Cert.GdnRefIdeal.nD Cert.GdnRefIdeal.τ).loc Cert.GdnRefIdeal.main_arg5)
      ∧ r.2.mem ((c.tc : Thread Cert.GdnRefIdeal.nD Cert.GdnRefIdeal.τ).loc Cert.GdnRefIdeal.main_arg6) = m ((c.tc : Thread Cert.GdnRefIdeal.nD Cert.GdnRefIdeal.τ).loc Cert.GdnRefIdeal.main_arg6))
      ∧ r.2.sem = fun _ => 0)

def quiescent_GdnRefIdeal_pre_gdn_finite [hGdnRefIdeal : Cert.GdnRefIdeal.Facts] [hPre_gdn_finite : Cert.Pre_gdn_finite.Facts] : Prop :=
  ∀ (m : (ℓ : Loc Cert.GdnRefIdeal.nD Cert.GdnRefIdeal.τ Cert.GdnRefIdeal.sig) → Buf (Elt Ideal) ℓ) (g : Dev Cert.GdnRefIdeal.nD → PrngReg), Pre_GdnRefIdeal_gdn_finite m →
    θ_run (Cert.GdnRefIdeal.defs (F := Ideal)) (onTc (τ := Cert.GdnRefIdeal.τ) (Cert.GdnRefIdeal.main (F := Ideal))) ⟨m, fun _ => 0, g⟩ (fun r => (∀ c : Dev Cert.GdnRefIdeal.nD,
      r.2.mem ((c.tc : Thread Cert.GdnRefIdeal.nD Cert.GdnRefIdeal.τ).loc Cert.GdnRefIdeal.main_arg0) = m ((c.tc : Thread Cert.GdnRefIdeal.nD Cert.GdnRefIdeal.τ).loc Cert.GdnRefIdeal.main_arg0)
      ∧ r.2.mem ((c.tc : Thread Cert.GdnRefIdeal.nD Cert.GdnRefIdeal.τ).loc Cert.GdnRefIdeal.main_arg1) = m ((c.tc : Thread Cert.GdnRefIdeal.nD Cert.GdnRefIdeal.τ).loc Cert.GdnRefIdeal.main_arg1)
      ∧ r.2.mem ((c.tc : Thread Cert.GdnRefIdeal.nD Cert.GdnRefIdeal.τ).loc Cert.GdnRefIdeal.main_arg2) = m ((c.tc : Thread Cert.GdnRefIdeal.nD Cert.GdnRefIdeal.τ).loc Cert.GdnRefIdeal.main_arg2)
      ∧ r.2.mem ((c.tc : Thread Cert.GdnRefIdeal.nD Cert.GdnRefIdeal.τ).loc Cert.GdnRefIdeal.main_arg3) = m ((c.tc : Thread Cert.GdnRefIdeal.nD Cert.GdnRefIdeal.τ).loc Cert.GdnRefIdeal.main_arg3)
      ∧ r.2.mem ((c.tc : Thread Cert.GdnRefIdeal.nD Cert.GdnRefIdeal.τ).loc Cert.GdnRefIdeal.main_arg4) = m ((c.tc : Thread Cert.GdnRefIdeal.nD Cert.GdnRefIdeal.τ).loc Cert.GdnRefIdeal.main_arg4)
      ∧ r.2.mem ((c.tc : Thread Cert.GdnRefIdeal.nD Cert.GdnRefIdeal.τ).loc Cert.GdnRefIdeal.main_arg5) = m ((c.tc : Thread Cert.GdnRefIdeal.nD Cert.GdnRefIdeal.τ).loc Cert.GdnRefIdeal.main_arg5)
      ∧ r.2.mem ((c.tc : Thread Cert.GdnRefIdeal.nD Cert.GdnRefIdeal.τ).loc Cert.GdnRefIdeal.main_arg6) = m ((c.tc : Thread Cert.GdnRefIdeal.nD Cert.GdnRefIdeal.τ).loc Cert.GdnRefIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6))
      ∧ r.2.sem = fun _ => 0)

def quiescent_MidIdeal_pre_mid_finite [hMidIdeal : Cert.MidIdeal.Facts] [hPre_mid_finite : Cert.Pre_mid_finite.Facts] : Prop :=
  ∀ (m : (ℓ : Loc Cert.MidIdeal.nD Cert.MidIdeal.τ Cert.MidIdeal.sig) → Buf (Elt Ideal) ℓ) (g : Dev Cert.MidIdeal.nD → PrngReg), Pre_MidIdeal_mid_finite m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6))
      ∧ r.2.sem = fun _ => 0)

def quiescent_MidRefIdeal_pre_mid_finite [hMidRefIdeal : Cert.MidRefIdeal.Facts] [hPre_mid_finite : Cert.Pre_mid_finite.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal_mid_finite m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5)
      ∧ r.2.mem ((c.tc : Thread Cert.Ple.nD Cert.Ple.τ).loc Cert.Ple.main_arg6) = m ((c.tc : Thread Cert.Ple.nD Cert.Ple.τ).loc Cert.Ple.main_arg6)
      ∧ r.2.mem ((c.tc : Thread Cert.Ple.nD Cert.Ple.τ).loc Cert.Ple.main_arg7) = m ((c.tc : Thread Cert.Ple.nD Cert.Ple.τ).loc Cert.Ple.main_arg7))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6)
      ∧ r.2.mem ((c.tc : Thread Cert.PleIdeal.nD Cert.PleIdeal.τ).loc Cert.PleIdeal.main_arg7) = m ((c.tc : Thread Cert.PleIdeal.nD Cert.PleIdeal.τ).loc Cert.PleIdeal.main_arg7))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6)
      ∧ r.2.mem ((c.tc : Thread Cert.PleRefIdeal.nD Cert.PleRefIdeal.τ).loc Cert.PleRefIdeal.main_arg7) = m ((c.tc : Thread Cert.PleRefIdeal.nD Cert.PleRefIdeal.τ).loc Cert.PleRefIdeal.main_arg7))
      ∧ r.2.sem = fun _ => 0)

def quiescent_PleFinal [hPleFinal : Cert.PleFinal.Facts] : Prop :=
  ∀ (m : (ℓ : Loc Cert.PleFinal.nD Cert.PleFinal.τ Cert.PleFinal.sig) → Buf (Elt Bits) ℓ) (g : Dev Cert.PleFinal.nD → PrngReg), Pre_PleFinal m →
    θ_run (Cert.PleFinal.defs (F := Bits)) (onTc (τ := Cert.PleFinal.τ) (Cert.PleFinal.main (F := Bits))) ⟨m, fun _ => 0, g⟩ (fun r => (∀ c : Dev Cert.PleFinal.nD,
      r.2.mem ((c.tc : Thread Cert.PleFinal.nD Cert.PleFinal.τ).loc Cert.PleFinal.main_arg0) = m ((c.tc : Thread Cert.PleFinal.nD Cert.PleFinal.τ).loc Cert.PleFinal.main_arg0)
      ∧ r.2.mem ((c.tc : Thread Cert.PleFinal.nD Cert.PleFinal.τ).loc Cert.PleFinal.main_arg1) = m ((c.tc : Thread Cert.PleFinal.nD Cert.PleFinal.τ).loc Cert.PleFinal.main_arg1)
      ∧ r.2.mem ((c.tc : Thread Cert.PleFinal.nD Cert.PleFinal.τ).loc Cert.PleFinal.main_arg2) = m ((c.tc : Thread Cert.PleFinal.nD Cert.PleFinal.τ).loc Cert.PleFinal.main_arg2)
      ∧ r.2.mem ((c.tc : Thread Cert.PleFinal.nD Cert.PleFinal.τ).loc Cert.PleFinal.main_arg3) = m ((c.tc : Thread Cert.PleFinal.nD Cert.PleFinal.τ).loc Cert.PleFinal.main_arg3)
      ∧ r.2.mem ((c.tc : Thread Cert.PleFinal.nD Cert.PleFinal.τ).loc Cert.PleFinal.main_arg4) = m ((c.tc : Thread Cert.PleFinal.nD Cert.PleFinal.τ).loc Cert.PleFinal.main_arg4)
      ∧ r.2.mem ((c.tc : Thread Cert.PleFinal.nD Cert.PleFinal.τ).loc Cert.PleFinal.main_arg5) = m ((c.tc : Thread Cert.PleFinal.nD Cert.PleFinal.τ).loc Cert.PleFinal.main_arg5)
      ∧ r.2.mem ((c.tc : Thread Cert.PleFinal.nD Cert.PleFinal.τ).loc Cert.PleFinal.main_arg6) = m ((c.tc : Thread Cert.PleFinal.nD Cert.PleFinal.τ).loc Cert.PleFinal.main_arg6)
      ∧ r.2.mem ((c.tc : Thread Cert.PleFinal.nD Cert.PleFinal.τ).loc Cert.PleFinal.main_arg7) = m ((c.tc : Thread Cert.PleFinal.nD Cert.PleFinal.τ).loc Cert.PleFinal.main_arg7))
      ∧ r.2.sem = fun _ => 0)

def quiescent_PleFinalIdeal [hPleFinalIdeal : Cert.PleFinalIdeal.Facts] : Prop :=
  ∀ (m : (ℓ : Loc Cert.PleFinalIdeal.nD Cert.PleFinalIdeal.τ Cert.PleFinalIdeal.sig) → Buf (Elt Ideal) ℓ) (g : Dev Cert.PleFinalIdeal.nD → PrngReg), Pre_PleFinalIdeal m →
    θ_run (Cert.PleFinalIdeal.defs (F := Ideal)) (onTc (τ := Cert.PleFinalIdeal.τ) (Cert.PleFinalIdeal.main (F := Ideal))) ⟨m, fun _ => 0, g⟩ (fun r => (∀ c : Dev Cert.PleFinalIdeal.nD,
      r.2.mem ((c.tc : Thread Cert.PleFinalIdeal.nD Cert.PleFinalIdeal.τ).loc Cert.PleFinalIdeal.main_arg0) = m ((c.tc : Thread Cert.PleFinalIdeal.nD Cert.PleFinalIdeal.τ).loc Cert.PleFinalIdeal.main_arg0)
      ∧ r.2.mem ((c.tc : Thread Cert.PleFinalIdeal.nD Cert.PleFinalIdeal.τ).loc Cert.PleFinalIdeal.main_arg1) = m ((c.tc : Thread Cert.PleFinalIdeal.nD Cert.PleFinalIdeal.τ).loc Cert.PleFinalIdeal.main_arg1)
      ∧ r.2.mem ((c.tc : Thread Cert.PleFinalIdeal.nD Cert.PleFinalIdeal.τ).loc Cert.PleFinalIdeal.main_arg2) = m ((c.tc : Thread Cert.PleFinalIdeal.nD Cert.PleFinalIdeal.τ).loc Cert.PleFinalIdeal.main_arg2)
      ∧ r.2.mem ((c.tc : Thread Cert.PleFinalIdeal.nD Cert.PleFinalIdeal.τ).loc Cert.PleFinalIdeal.main_arg3) = m ((c.tc : Thread Cert.PleFinalIdeal.nD Cert.PleFinalIdeal.τ).loc Cert.PleFinalIdeal.main_arg3)
      ∧ r.2.mem ((c.tc : Thread Cert.PleFinalIdeal.nD Cert.PleFinalIdeal.τ).loc Cert.PleFinalIdeal.main_arg4) = m ((c.tc : Thread Cert.PleFinalIdeal.nD Cert.PleFinalIdeal.τ).loc Cert.PleFinalIdeal.main_arg4)
      ∧ r.2.mem ((c.tc : Thread Cert.PleFinalIdeal.nD Cert.PleFinalIdeal.τ).loc Cert.PleFinalIdeal.main_arg5) = m ((c.tc : Thread Cert.PleFinalIdeal.nD Cert.PleFinalIdeal.τ).loc Cert.PleFinalIdeal.main_arg5)
      ∧ r.2.mem ((c.tc : Thread Cert.PleFinalIdeal.nD Cert.PleFinalIdeal.τ).loc Cert.PleFinalIdeal.main_arg6) = m ((c.tc : Thread Cert.PleFinalIdeal.nD Cert.PleFinalIdeal.τ).loc Cert.PleFinalIdeal.main_arg6)
      ∧ r.2.mem ((c.tc : Thread Cert.PleFinalIdeal.nD Cert.PleFinalIdeal.τ).loc Cert.PleFinalIdeal.main_arg7) = m ((c.tc : Thread Cert.PleFinalIdeal.nD Cert.PleFinalIdeal.τ).loc Cert.PleFinalIdeal.main_arg7))
      ∧ r.2.sem = fun _ => 0)

def quiescent_PleFinalRefIdeal [hPleFinalRefIdeal : Cert.PleFinalRefIdeal.Facts] : Prop :=
  ∀ (m : (ℓ : Loc Cert.PleFinalRefIdeal.nD Cert.PleFinalRefIdeal.τ Cert.PleFinalRefIdeal.sig) → Buf (Elt Ideal) ℓ) (g : Dev Cert.PleFinalRefIdeal.nD → PrngReg), Pre_PleFinalRefIdeal m →
    θ_run (Cert.PleFinalRefIdeal.defs (F := Ideal)) (onTc (τ := Cert.PleFinalRefIdeal.τ) (Cert.PleFinalRefIdeal.main (F := Ideal))) ⟨m, fun _ => 0, g⟩ (fun r => (∀ c : Dev Cert.PleFinalRefIdeal.nD,
      r.2.mem ((c.tc : Thread Cert.PleFinalRefIdeal.nD Cert.PleFinalRefIdeal.τ).loc Cert.PleFinalRefIdeal.main_arg0) = m ((c.tc : Thread Cert.PleFinalRefIdeal.nD Cert.PleFinalRefIdeal.τ).loc Cert.PleFinalRefIdeal.main_arg0)
      ∧ r.2.mem ((c.tc : Thread Cert.PleFinalRefIdeal.nD Cert.PleFinalRefIdeal.τ).loc Cert.PleFinalRefIdeal.main_arg1) = m ((c.tc : Thread Cert.PleFinalRefIdeal.nD Cert.PleFinalRefIdeal.τ).loc Cert.PleFinalRefIdeal.main_arg1)
      ∧ r.2.mem ((c.tc : Thread Cert.PleFinalRefIdeal.nD Cert.PleFinalRefIdeal.τ).loc Cert.PleFinalRefIdeal.main_arg2) = m ((c.tc : Thread Cert.PleFinalRefIdeal.nD Cert.PleFinalRefIdeal.τ).loc Cert.PleFinalRefIdeal.main_arg2)
      ∧ r.2.mem ((c.tc : Thread Cert.PleFinalRefIdeal.nD Cert.PleFinalRefIdeal.τ).loc Cert.PleFinalRefIdeal.main_arg3) = m ((c.tc : Thread Cert.PleFinalRefIdeal.nD Cert.PleFinalRefIdeal.τ).loc Cert.PleFinalRefIdeal.main_arg3)
      ∧ r.2.mem ((c.tc : Thread Cert.PleFinalRefIdeal.nD Cert.PleFinalRefIdeal.τ).loc Cert.PleFinalRefIdeal.main_arg4) = m ((c.tc : Thread Cert.PleFinalRefIdeal.nD Cert.PleFinalRefIdeal.τ).loc Cert.PleFinalRefIdeal.main_arg4)
      ∧ r.2.mem ((c.tc : Thread Cert.PleFinalRefIdeal.nD Cert.PleFinalRefIdeal.τ).loc Cert.PleFinalRefIdeal.main_arg5) = m ((c.tc : Thread Cert.PleFinalRefIdeal.nD Cert.PleFinalRefIdeal.τ).loc Cert.PleFinalRefIdeal.main_arg5)
      ∧ r.2.mem ((c.tc : Thread Cert.PleFinalRefIdeal.nD Cert.PleFinalRefIdeal.τ).loc Cert.PleFinalRefIdeal.main_arg6) = m ((c.tc : Thread Cert.PleFinalRefIdeal.nD Cert.PleFinalRefIdeal.τ).loc Cert.PleFinalRefIdeal.main_arg6)
      ∧ r.2.mem ((c.tc : Thread Cert.PleFinalRefIdeal.nD Cert.PleFinalRefIdeal.τ).loc Cert.PleFinalRefIdeal.main_arg7) = m ((c.tc : Thread Cert.PleFinalRefIdeal.nD Cert.PleFinalRefIdeal.τ).loc Cert.PleFinalRefIdeal.main_arg7))
      ∧ r.2.sem = fun _ => 0)

def preserves_Gla_GlaIdeal : Prop :=
  True

def algebraic_GlaIdeal_GlaRefIdeal [hGlaIdeal : Cert.GlaIdeal.Facts] [hGlaRefIdeal : Cert.GlaRefIdeal.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)
      ∧ m' ((c.tc : Thread Cert.GlaRefIdeal.nD Cert.GlaRefIdeal.τ).loc Cert.GlaRefIdeal.main_arg4) = m ((c.tc : Thread Cert.GlaIdeal.nD Cert.GlaIdeal.τ).loc Cert.GlaIdeal.main_arg4)) →
    ∃ (v0 : (c : Dev Cert.GlaIdeal.nD) → Buf (Elt Ideal) ((c.tc : Thread Cert.GlaIdeal.nD Cert.GlaIdeal.τ).loc Cert.GlaIdeal.main_v8_0)) (v1 : (c : Dev Cert.GlaIdeal.nD) → Buf (Elt Ideal) ((c.tc : Thread Cert.GlaIdeal.nD Cert.GlaIdeal.τ).loc Cert.GlaIdeal.main_v8_1)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v8_0) = v0 c
          ∧ r.2.mem ((c.tc : Thread Cert.GlaIdeal.nD Cert.GlaIdeal.τ).loc Cert.GlaIdeal.main_v8_1) = v1 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v75) = v0 c
          ∧ r.2.mem ((c.tc : Thread Cert.GlaRefIdeal.nD Cert.GlaRefIdeal.τ).loc Cert.GlaRefIdeal.main_v76) = v1 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3)
          ∧ r.2.mem ((c.tc : Thread Cert.GlaRefIdeal.nD Cert.GlaRefIdeal.τ).loc Cert.GlaRefIdeal.main_arg4) = m' ((c.tc : Thread Cert.GlaRefIdeal.nD Cert.GlaRefIdeal.τ).loc Cert.GlaRefIdeal.main_arg4))

def preserves_GlaPrompt_GlaPromptIdeal : Prop :=
  True

def algebraic_GlaPromptIdeal_GlaPromptRefIdeal [hGlaPromptIdeal : Cert.GlaPromptIdeal.Facts] [hGlaPromptRefIdeal : Cert.GlaPromptRefIdeal.Facts] : Prop :=
  ∀ (m : (ℓ : Loc Cert.GlaPromptIdeal.nD Cert.GlaPromptIdeal.τ Cert.GlaPromptIdeal.sig) → Buf (Elt Ideal) ℓ) (g : Dev Cert.GlaPromptIdeal.nD → PrngReg)
    (m' : (ℓ : Loc Cert.GlaPromptRefIdeal.nD Cert.GlaPromptRefIdeal.τ Cert.GlaPromptRefIdeal.sig) → Buf (Elt Ideal) ℓ) (g' : Dev Cert.GlaPromptRefIdeal.nD → PrngReg), Pre_GlaPromptIdeal m →
    (∀ c : Dev Cert.GlaPromptIdeal.nD,
      m' ((c.tc : Thread Cert.GlaPromptRefIdeal.nD Cert.GlaPromptRefIdeal.τ).loc Cert.GlaPromptRefIdeal.main_arg0) = m ((c.tc : Thread Cert.GlaPromptIdeal.nD Cert.GlaPromptIdeal.τ).loc Cert.GlaPromptIdeal.main_arg0)
      ∧ m' ((c.tc : Thread Cert.GlaPromptRefIdeal.nD Cert.GlaPromptRefIdeal.τ).loc Cert.GlaPromptRefIdeal.main_arg1) = m ((c.tc : Thread Cert.GlaPromptIdeal.nD Cert.GlaPromptIdeal.τ).loc Cert.GlaPromptIdeal.main_arg1)
      ∧ m' ((c.tc : Thread Cert.GlaPromptRefIdeal.nD Cert.GlaPromptRefIdeal.τ).loc Cert.GlaPromptRefIdeal.main_arg2) = m ((c.tc : Thread Cert.GlaPromptIdeal.nD Cert.GlaPromptIdeal.τ).loc Cert.GlaPromptIdeal.main_arg2)
      ∧ m' ((c.tc : Thread Cert.GlaPromptRefIdeal.nD Cert.GlaPromptRefIdeal.τ).loc Cert.GlaPromptRefIdeal.main_arg3) = m ((c.tc : Thread Cert.GlaPromptIdeal.nD Cert.GlaPromptIdeal.τ).loc Cert.GlaPromptIdeal.main_arg3)
      ∧ m' ((c.tc : Thread Cert.GlaPromptRefIdeal.nD Cert.GlaPromptRefIdeal.τ).loc Cert.GlaPromptRefIdeal.main_arg4) = m ((c.tc : Thread Cert.GlaPromptIdeal.nD Cert.GlaPromptIdeal.τ).loc Cert.GlaPromptIdeal.main_arg4)) →
    ∃ (v0 : (c : Dev Cert.GlaPromptIdeal.nD) → Buf (Elt Ideal) ((c.tc : Thread Cert.GlaPromptIdeal.nD Cert.GlaPromptIdeal.τ).loc Cert.GlaPromptIdeal.main_v13_1)),
      θ_run (Cert.GlaPromptIdeal.defs (F := Ideal)) (onTc (τ := Cert.GlaPromptIdeal.τ) (Cert.GlaPromptIdeal.main (F := Ideal))) ⟨m, fun _ => 0, g⟩ (fun r => ∀ c : Dev Cert.GlaPromptIdeal.nD,
          r.2.mem ((c.tc : Thread Cert.GlaPromptIdeal.nD Cert.GlaPromptIdeal.τ).loc Cert.GlaPromptIdeal.main_v13_1) = v0 c
          ∧ r.2.mem ((c.tc : Thread Cert.GlaPromptIdeal.nD Cert.GlaPromptIdeal.τ).loc Cert.GlaPromptIdeal.main_arg0) = m ((c.tc : Thread Cert.GlaPromptIdeal.nD Cert.GlaPromptIdeal.τ).loc Cert.GlaPromptIdeal.main_arg0)
          ∧ r.2.mem ((c.tc : Thread Cert.GlaPromptIdeal.nD Cert.GlaPromptIdeal.τ).loc Cert.GlaPromptIdeal.main_arg1) = m ((c.tc : Thread Cert.GlaPromptIdeal.nD Cert.GlaPromptIdeal.τ).loc Cert.GlaPromptIdeal.main_arg1)
          ∧ r.2.mem ((c.tc : Thread Cert.GlaPromptIdeal.nD Cert.GlaPromptIdeal.τ).loc Cert.GlaPromptIdeal.main_arg2) = m ((c.tc : Thread Cert.GlaPromptIdeal.nD Cert.GlaPromptIdeal.τ).loc Cert.GlaPromptIdeal.main_arg2)
          ∧ r.2.mem ((c.tc : Thread Cert.GlaPromptIdeal.nD Cert.GlaPromptIdeal.τ).loc Cert.GlaPromptIdeal.main_arg3) = m ((c.tc : Thread Cert.GlaPromptIdeal.nD Cert.GlaPromptIdeal.τ).loc Cert.GlaPromptIdeal.main_arg3)
          ∧ r.2.mem ((c.tc : Thread Cert.GlaPromptIdeal.nD Cert.GlaPromptIdeal.τ).loc Cert.GlaPromptIdeal.main_arg4) = m ((c.tc : Thread Cert.GlaPromptIdeal.nD Cert.GlaPromptIdeal.τ).loc Cert.GlaPromptIdeal.main_arg4))
      ∧ θ_run (Cert.GlaPromptRefIdeal.defs (F := Ideal)) (onTc (τ := Cert.GlaPromptRefIdeal.τ) (Cert.GlaPromptRefIdeal.main (F := Ideal))) ⟨m', fun _ => 0, g'⟩ (fun r => ∀ c : Dev Cert.GlaPromptRefIdeal.nD,
          r.2.mem ((c.tc : Thread Cert.GlaPromptRefIdeal.nD Cert.GlaPromptRefIdeal.τ).loc Cert.GlaPromptRefIdeal.main_v31) = v0 c
          ∧ r.2.mem ((c.tc : Thread Cert.GlaPromptRefIdeal.nD Cert.GlaPromptRefIdeal.τ).loc Cert.GlaPromptRefIdeal.main_arg0) = m' ((c.tc : Thread Cert.GlaPromptRefIdeal.nD Cert.GlaPromptRefIdeal.τ).loc Cert.GlaPromptRefIdeal.main_arg0)
          ∧ r.2.mem ((c.tc : Thread Cert.GlaPromptRefIdeal.nD Cert.GlaPromptRefIdeal.τ).loc Cert.GlaPromptRefIdeal.main_arg1) = m' ((c.tc : Thread Cert.GlaPromptRefIdeal.nD Cert.GlaPromptRefIdeal.τ).loc Cert.GlaPromptRefIdeal.main_arg1)
          ∧ r.2.mem ((c.tc : Thread Cert.GlaPromptRefIdeal.nD Cert.GlaPromptRefIdeal.τ).loc Cert.GlaPromptRefIdeal.main_arg2) = m' ((c.tc : Thread Cert.GlaPromptRefIdeal.nD Cert.GlaPromptRefIdeal.τ).loc Cert.GlaPromptRefIdeal.main_arg2)
          ∧ r.2.mem ((c.tc : Thread Cert.GlaPromptRefIdeal.nD Cert.GlaPromptRefIdeal.τ).loc Cert.GlaPromptRefIdeal.main_arg3) = m' ((c.tc : Thread Cert.GlaPromptRefIdeal.nD Cert.GlaPromptRefIdeal.τ).loc Cert.GlaPromptRefIdeal.main_arg3)
          ∧ r.2.mem ((c.tc : Thread Cert.GlaPromptRefIdeal.nD Cert.GlaPromptRefIdeal.τ).loc Cert.GlaPromptRefIdeal.main_arg4) = m' ((c.tc : Thread Cert.GlaPromptRefIdeal.nD Cert.GlaPromptRefIdeal.τ).loc Cert.GlaPromptRefIdeal.main_arg4))

def preserves_Gdn_GdnIdeal : Prop :=
  True

def algebraic_GdnIdeal_GdnRefIdeal_pre_gdn_finite [hGdnIdeal : Cert.GdnIdeal.Facts] [hGdnRefIdeal : Cert.GdnRefIdeal.Facts] [hPre_gdn_finite : Cert.Pre_gdn_finite.Facts] : Prop :=
  ∀ (m : (ℓ : Loc Cert.GdnIdeal.nD Cert.GdnIdeal.τ Cert.GdnIdeal.sig) → Buf (Elt Ideal) ℓ) (g : Dev Cert.GdnIdeal.nD → PrngReg)
    (m' : (ℓ : Loc Cert.GdnRefIdeal.nD Cert.GdnRefIdeal.τ Cert.GdnRefIdeal.sig) → Buf (Elt Ideal) ℓ) (g' : Dev Cert.GdnRefIdeal.nD → PrngReg), Pre_GdnIdeal_gdn_finite m →
    (∀ c : Dev Cert.GdnIdeal.nD,
      m' ((c.tc : Thread Cert.GdnRefIdeal.nD Cert.GdnRefIdeal.τ).loc Cert.GdnRefIdeal.main_arg0) = m ((c.tc : Thread Cert.GdnIdeal.nD Cert.GdnIdeal.τ).loc Cert.GdnIdeal.main_arg0)
      ∧ m' ((c.tc : Thread Cert.GdnRefIdeal.nD Cert.GdnRefIdeal.τ).loc Cert.GdnRefIdeal.main_arg1) = m ((c.tc : Thread Cert.GdnIdeal.nD Cert.GdnIdeal.τ).loc Cert.GdnIdeal.main_arg1)
      ∧ m' ((c.tc : Thread Cert.GdnRefIdeal.nD Cert.GdnRefIdeal.τ).loc Cert.GdnRefIdeal.main_arg2) = m ((c.tc : Thread Cert.GdnIdeal.nD Cert.GdnIdeal.τ).loc Cert.GdnIdeal.main_arg2)
      ∧ m' ((c.tc : Thread Cert.GdnRefIdeal.nD Cert.GdnRefIdeal.τ).loc Cert.GdnRefIdeal.main_arg3) = m ((c.tc : Thread Cert.GdnIdeal.nD Cert.GdnIdeal.τ).loc Cert.GdnIdeal.main_arg3)
      ∧ m' ((c.tc : Thread Cert.GdnRefIdeal.nD Cert.GdnRefIdeal.τ).loc Cert.GdnRefIdeal.main_arg4) = m ((c.tc : Thread Cert.GdnIdeal.nD Cert.GdnIdeal.τ).loc Cert.GdnIdeal.main_arg4)
      ∧ m' ((c.tc : Thread Cert.GdnRefIdeal.nD Cert.GdnRefIdeal.τ).loc Cert.GdnRefIdeal.main_arg5) = m ((c.tc : Thread Cert.GdnIdeal.nD Cert.GdnIdeal.τ).loc Cert.GdnIdeal.main_arg5)
      ∧ m' ((c.tc : Thread Cert.GdnRefIdeal.nD Cert.GdnRefIdeal.τ).loc Cert.GdnRefIdeal.main_arg6) = m ((c.tc : Thread Cert.GdnIdeal.nD Cert.GdnIdeal.τ).loc Cert.GdnIdeal.main_arg6)) →
    ∃ (v0 : (c : Dev Cert.GdnIdeal.nD) → Buf (Elt Ideal) ((c.tc : Thread Cert.GdnIdeal.nD Cert.GdnIdeal.τ).loc Cert.GdnIdeal.main_v9_0)) (v1 : (c : Dev Cert.GdnIdeal.nD) → Buf (Elt Ideal) ((c.tc : Thread Cert.GdnIdeal.nD Cert.GdnIdeal.τ).loc Cert.GdnIdeal.main_v9_1)) (v2 : (c : Dev Cert.GdnIdeal.nD) → Buf (Elt Ideal) ((c.tc : Thread Cert.GdnIdeal.nD Cert.GdnIdeal.τ).loc Cert.GdnIdeal.main_v9_2)),
      θ_run (Cert.GdnIdeal.defs (F := Ideal)) (onTc (τ := Cert.GdnIdeal.τ) (Cert.GdnIdeal.main (F := Ideal))) ⟨m, fun _ => 0, g⟩ (fun r => ∀ c : Dev Cert.GdnIdeal.nD,
          r.2.mem ((c.tc : Thread Cert.GdnIdeal.nD Cert.GdnIdeal.τ).loc Cert.GdnIdeal.main_v9_0) = v0 c
          ∧ r.2.mem ((c.tc : Thread Cert.GdnIdeal.nD Cert.GdnIdeal.τ).loc Cert.GdnIdeal.main_v9_1) = v1 c
          ∧ r.2.mem ((c.tc : Thread Cert.GdnIdeal.nD Cert.GdnIdeal.τ).loc Cert.GdnIdeal.main_v9_2) = v2 c
          ∧ r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
          ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
          ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
          ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3)
          ∧ r.2.mem ((c.tc : Thread Cert.GdnIdeal.nD Cert.GdnIdeal.τ).loc Cert.GdnIdeal.main_arg4) = m ((c.tc : Thread Cert.GdnIdeal.nD Cert.GdnIdeal.τ).loc Cert.GdnIdeal.main_arg4)
          ∧ r.2.mem ((c.tc : Thread Cert.GdnIdeal.nD Cert.GdnIdeal.τ).loc Cert.GdnIdeal.main_arg5) = m ((c.tc : Thread Cert.GdnIdeal.nD Cert.GdnIdeal.τ).loc Cert.GdnIdeal.main_arg5)
          ∧ r.2.mem ((c.tc : Thread Cert.GdnIdeal.nD Cert.GdnIdeal.τ).loc Cert.GdnIdeal.main_arg6) = m ((c.tc : Thread Cert.GdnIdeal.nD Cert.GdnIdeal.τ).loc Cert.GdnIdeal.main_arg6))
      ∧ θ_run (Cert.GdnRefIdeal.defs (F := Ideal)) (onTc (τ := Cert.GdnRefIdeal.τ) (Cert.GdnRefIdeal.main (F := Ideal))) ⟨m', fun _ => 0, g'⟩ (fun r => ∀ c : Dev Cert.GdnRefIdeal.nD,
          r.2.mem ((c.tc : Thread Cert.GdnRefIdeal.nD Cert.GdnRefIdeal.τ).loc Cert.GdnRefIdeal.main_v343) = v0 c
          ∧ r.2.mem ((c.tc : Thread Cert.GdnRefIdeal.nD Cert.GdnRefIdeal.τ).loc Cert.GdnRefIdeal.main_v326) = v1 c
          ∧ r.2.mem ((c.tc : Thread Cert.GdnRefIdeal.nD Cert.GdnRefIdeal.τ).loc Cert.GdnRefIdeal.main_v34) = v2 c
          ∧ r.2.mem ((c.tc : Thread Cert.GdnRefIdeal.nD Cert.GdnRefIdeal.τ).loc Cert.GdnRefIdeal.main_arg0) = m' ((c.tc : Thread Cert.GdnRefIdeal.nD Cert.GdnRefIdeal.τ).loc Cert.GdnRefIdeal.main_arg0)
          ∧ r.2.mem ((c.tc : Thread Cert.GdnRefIdeal.nD Cert.GdnRefIdeal.τ).loc Cert.GdnRefIdeal.main_arg1) = m' ((c.tc : Thread Cert.GdnRefIdeal.nD Cert.GdnRefIdeal.τ).loc Cert.GdnRefIdeal.main_arg1)
          ∧ r.2.mem ((c.tc : Thread Cert.GdnRefIdeal.nD Cert.GdnRefIdeal.τ).loc Cert.GdnRefIdeal.main_arg2) = m' ((c.tc : Thread Cert.GdnRefIdeal.nD Cert.GdnRefIdeal.τ).loc Cert.GdnRefIdeal.main_arg2)
          ∧ r.2.mem ((c.tc : Thread Cert.GdnRefIdeal.nD Cert.GdnRefIdeal.τ).loc Cert.GdnRefIdeal.main_arg3) = m' ((c.tc : Thread Cert.GdnRefIdeal.nD Cert.GdnRefIdeal.τ).loc Cert.GdnRefIdeal.main_arg3)
          ∧ r.2.mem ((c.tc : Thread Cert.GdnRefIdeal.nD Cert.GdnRefIdeal.τ).loc Cert.GdnRefIdeal.main_arg4) = m' ((c.tc : Thread Cert.GdnRefIdeal.nD Cert.GdnRefIdeal.τ).loc Cert.GdnRefIdeal.main_arg4)
          ∧ r.2.mem ((c.tc : Thread Cert.GdnRefIdeal.nD Cert.GdnRefIdeal.τ).loc Cert.GdnRefIdeal.main_arg5) = m' ((c.tc : Thread Cert.GdnRefIdeal.nD Cert.GdnRefIdeal.τ).loc Cert.GdnRefIdeal.main_arg5)
          ∧ r.2.mem ((c.tc : Thread Cert.GdnRefIdeal.nD Cert.GdnRefIdeal.τ).loc Cert.GdnRefIdeal.main_arg6) = m' ((c.tc : Thread Cert.GdnRefIdeal.nD Cert.GdnRefIdeal.τ).loc Cert.GdnRefIdeal.main_arg6))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v9_0)) (v1 : (c : Dev Cert.InProjIdeal.nD) → Buf (Elt Ideal) ((c.tc : Thread Cert.InProjIdeal.nD Cert.InProjIdeal.τ).loc Cert.InProjIdeal.main_v9_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v9_0) = v0 c
          ∧ r.2.mem ((c.tc : Thread Cert.InProjIdeal.nD Cert.InProjIdeal.τ).loc Cert.InProjIdeal.main_v9_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v15) = v0 c
          ∧ r.2.mem ((c.tc : Thread Cert.InProjRefIdeal.nD Cert.InProjRefIdeal.τ).loc Cert.InProjRefIdeal.main_v17) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Mid_MidIdeal : Prop :=
  True

def algebraic_MidIdeal_MidRefIdeal_pre_mid_finite [hMidIdeal : Cert.MidIdeal.Facts] [hMidRefIdeal : Cert.MidRefIdeal.Facts] [hPre_mid_finite : Cert.Pre_mid_finite.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal_mid_finite m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)) →
    ∃ (v0 : (c : Dev Cert.MidIdeal.nD) → Buf (Elt Ideal) ((c.tc : Thread Cert.MidIdeal.nD Cert.MidIdeal.τ).loc Cert.MidIdeal.main_v7_0)) (v1 : (c : Dev Cert.MidIdeal.nD) → Buf (Elt Ideal) ((c.tc : Thread Cert.MidIdeal.nD Cert.MidIdeal.τ).loc Cert.MidIdeal.main_v7_1)) (v2 : (c : Dev Cert.MidIdeal.nD) → Buf (Elt Ideal) ((c.tc : Thread Cert.MidIdeal.nD Cert.MidIdeal.τ).loc Cert.MidIdeal.main_v7_2)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v7_0) = v0 c
          ∧ r.2.mem ((c.tc : Thread Cert.MidIdeal.nD Cert.MidIdeal.τ).loc Cert.MidIdeal.main_v7_1) = v1 c
          ∧ r.2.mem ((c.tc : Thread Cert.MidIdeal.nD Cert.MidIdeal.τ).loc Cert.MidIdeal.main_v7_2) = v2 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v2) = v0 c
          ∧ r.2.mem ((c.tc : Thread Cert.MidRefIdeal.nD Cert.MidRefIdeal.τ).loc Cert.MidRefIdeal.main_v19) = v1 c
          ∧ r.2.mem ((c.tc : Thread Cert.MidRefIdeal.nD Cert.MidRefIdeal.τ).loc Cert.MidRefIdeal.main_v20) = v2 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)
      ∧ m' ((c.tc : Thread Cert.PleRefIdeal.nD Cert.PleRefIdeal.τ).loc Cert.PleRefIdeal.main_arg6) = m ((c.tc : Thread Cert.PleIdeal.nD Cert.PleIdeal.τ).loc Cert.PleIdeal.main_arg6)
      ∧ m' ((c.tc : Thread Cert.PleRefIdeal.nD Cert.PleRefIdeal.τ).loc Cert.PleRefIdeal.main_arg7) = m ((c.tc : Thread Cert.PleIdeal.nD Cert.PleIdeal.τ).loc Cert.PleIdeal.main_arg7)) →
    ∃ (v0 : (c : Dev Cert.PleIdeal.nD) → Buf (Elt Ideal) ((c.tc : Thread Cert.PleIdeal.nD Cert.PleIdeal.τ).loc Cert.PleIdeal.main_v5)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v5) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
          ∧ r.2.mem ((c.tc : Thread Cert.PleIdeal.nD Cert.PleIdeal.τ).loc Cert.PleIdeal.main_arg6) = m ((c.tc : Thread Cert.PleIdeal.nD Cert.PleIdeal.τ).loc Cert.PleIdeal.main_arg6)
          ∧ r.2.mem ((c.tc : Thread Cert.PleIdeal.nD Cert.PleIdeal.τ).loc Cert.PleIdeal.main_arg7) = m ((c.tc : Thread Cert.PleIdeal.nD Cert.PleIdeal.τ).loc Cert.PleIdeal.main_arg7))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v26) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5)
          ∧ r.2.mem ((c.tc : Thread Cert.PleRefIdeal.nD Cert.PleRefIdeal.τ).loc Cert.PleRefIdeal.main_arg6) = m' ((c.tc : Thread Cert.PleRefIdeal.nD Cert.PleRefIdeal.τ).loc Cert.PleRefIdeal.main_arg6)
          ∧ r.2.mem ((c.tc : Thread Cert.PleRefIdeal.nD Cert.PleRefIdeal.τ).loc Cert.PleRefIdeal.main_arg7) = m' ((c.tc : Thread Cert.PleRefIdeal.nD Cert.PleRefIdeal.τ).loc Cert.PleRefIdeal.main_arg7))

def preserves_PleFinal_PleFinalIdeal : Prop :=
  True

def algebraic_PleFinalIdeal_PleFinalRefIdeal [hPleFinalIdeal : Cert.PleFinalIdeal.Facts] [hPleFinalRefIdeal : Cert.PleFinalRefIdeal.Facts] : Prop :=
  ∀ (m : (ℓ : Loc Cert.PleFinalIdeal.nD Cert.PleFinalIdeal.τ Cert.PleFinalIdeal.sig) → Buf (Elt Ideal) ℓ) (g : Dev Cert.PleFinalIdeal.nD → PrngReg)
    (m' : (ℓ : Loc Cert.PleFinalRefIdeal.nD Cert.PleFinalRefIdeal.τ Cert.PleFinalRefIdeal.sig) → Buf (Elt Ideal) ℓ) (g' : Dev Cert.PleFinalRefIdeal.nD → PrngReg), Pre_PleFinalIdeal m →
    (∀ c : Dev Cert.PleFinalIdeal.nD,
      m' ((c.tc : Thread Cert.PleFinalRefIdeal.nD Cert.PleFinalRefIdeal.τ).loc Cert.PleFinalRefIdeal.main_arg0) = m ((c.tc : Thread Cert.PleFinalIdeal.nD Cert.PleFinalIdeal.τ).loc Cert.PleFinalIdeal.main_arg0)
      ∧ m' ((c.tc : Thread Cert.PleFinalRefIdeal.nD Cert.PleFinalRefIdeal.τ).loc Cert.PleFinalRefIdeal.main_arg1) = m ((c.tc : Thread Cert.PleFinalIdeal.nD Cert.PleFinalIdeal.τ).loc Cert.PleFinalIdeal.main_arg1)
      ∧ m' ((c.tc : Thread Cert.PleFinalRefIdeal.nD Cert.PleFinalRefIdeal.τ).loc Cert.PleFinalRefIdeal.main_arg2) = m ((c.tc : Thread Cert.PleFinalIdeal.nD Cert.PleFinalIdeal.τ).loc Cert.PleFinalIdeal.main_arg2)
      ∧ m' ((c.tc : Thread Cert.PleFinalRefIdeal.nD Cert.PleFinalRefIdeal.τ).loc Cert.PleFinalRefIdeal.main_arg3) = m ((c.tc : Thread Cert.PleFinalIdeal.nD Cert.PleFinalIdeal.τ).loc Cert.PleFinalIdeal.main_arg3)
      ∧ m' ((c.tc : Thread Cert.PleFinalRefIdeal.nD Cert.PleFinalRefIdeal.τ).loc Cert.PleFinalRefIdeal.main_arg4) = m ((c.tc : Thread Cert.PleFinalIdeal.nD Cert.PleFinalIdeal.τ).loc Cert.PleFinalIdeal.main_arg4)
      ∧ m' ((c.tc : Thread Cert.PleFinalRefIdeal.nD Cert.PleFinalRefIdeal.τ).loc Cert.PleFinalRefIdeal.main_arg5) = m ((c.tc : Thread Cert.PleFinalIdeal.nD Cert.PleFinalIdeal.τ).loc Cert.PleFinalIdeal.main_arg5)
      ∧ m' ((c.tc : Thread Cert.PleFinalRefIdeal.nD Cert.PleFinalRefIdeal.τ).loc Cert.PleFinalRefIdeal.main_arg6) = m ((c.tc : Thread Cert.PleFinalIdeal.nD Cert.PleFinalIdeal.τ).loc Cert.PleFinalIdeal.main_arg6)
      ∧ m' ((c.tc : Thread Cert.PleFinalRefIdeal.nD Cert.PleFinalRefIdeal.τ).loc Cert.PleFinalRefIdeal.main_arg7) = m ((c.tc : Thread Cert.PleFinalIdeal.nD Cert.PleFinalIdeal.τ).loc Cert.PleFinalIdeal.main_arg7)) →
    ∃ (v0 : (c : Dev Cert.PleFinalIdeal.nD) → Buf (Elt Ideal) ((c.tc : Thread Cert.PleFinalIdeal.nD Cert.PleFinalIdeal.τ).loc Cert.PleFinalIdeal.main_v5)),
      θ_run (Cert.PleFinalIdeal.defs (F := Ideal)) (onTc (τ := Cert.PleFinalIdeal.τ) (Cert.PleFinalIdeal.main (F := Ideal))) ⟨m, fun _ => 0, g⟩ (fun r => ∀ c : Dev Cert.PleFinalIdeal.nD,
          r.2.mem ((c.tc : Thread Cert.PleFinalIdeal.nD Cert.PleFinalIdeal.τ).loc Cert.PleFinalIdeal.main_v5) = v0 c
          ∧ r.2.mem ((c.tc : Thread Cert.PleFinalIdeal.nD Cert.PleFinalIdeal.τ).loc Cert.PleFinalIdeal.main_arg0) = m ((c.tc : Thread Cert.PleFinalIdeal.nD Cert.PleFinalIdeal.τ).loc Cert.PleFinalIdeal.main_arg0)
          ∧ r.2.mem ((c.tc : Thread Cert.PleFinalIdeal.nD Cert.PleFinalIdeal.τ).loc Cert.PleFinalIdeal.main_arg1) = m ((c.tc : Thread Cert.PleFinalIdeal.nD Cert.PleFinalIdeal.τ).loc Cert.PleFinalIdeal.main_arg1)
          ∧ r.2.mem ((c.tc : Thread Cert.PleFinalIdeal.nD Cert.PleFinalIdeal.τ).loc Cert.PleFinalIdeal.main_arg2) = m ((c.tc : Thread Cert.PleFinalIdeal.nD Cert.PleFinalIdeal.τ).loc Cert.PleFinalIdeal.main_arg2)
          ∧ r.2.mem ((c.tc : Thread Cert.PleFinalIdeal.nD Cert.PleFinalIdeal.τ).loc Cert.PleFinalIdeal.main_arg3) = m ((c.tc : Thread Cert.PleFinalIdeal.nD Cert.PleFinalIdeal.τ).loc Cert.PleFinalIdeal.main_arg3)
          ∧ r.2.mem ((c.tc : Thread Cert.PleFinalIdeal.nD Cert.PleFinalIdeal.τ).loc Cert.PleFinalIdeal.main_arg4) = m ((c.tc : Thread Cert.PleFinalIdeal.nD Cert.PleFinalIdeal.τ).loc Cert.PleFinalIdeal.main_arg4)
          ∧ r.2.mem ((c.tc : Thread Cert.PleFinalIdeal.nD Cert.PleFinalIdeal.τ).loc Cert.PleFinalIdeal.main_arg5) = m ((c.tc : Thread Cert.PleFinalIdeal.nD Cert.PleFinalIdeal.τ).loc Cert.PleFinalIdeal.main_arg5)
          ∧ r.2.mem ((c.tc : Thread Cert.PleFinalIdeal.nD Cert.PleFinalIdeal.τ).loc Cert.PleFinalIdeal.main_arg6) = m ((c.tc : Thread Cert.PleFinalIdeal.nD Cert.PleFinalIdeal.τ).loc Cert.PleFinalIdeal.main_arg6)
          ∧ r.2.mem ((c.tc : Thread Cert.PleFinalIdeal.nD Cert.PleFinalIdeal.τ).loc Cert.PleFinalIdeal.main_arg7) = m ((c.tc : Thread Cert.PleFinalIdeal.nD Cert.PleFinalIdeal.τ).loc Cert.PleFinalIdeal.main_arg7))
      ∧ θ_run (Cert.PleFinalRefIdeal.defs (F := Ideal)) (onTc (τ := Cert.PleFinalRefIdeal.τ) (Cert.PleFinalRefIdeal.main (F := Ideal))) ⟨m', fun _ => 0, g'⟩ (fun r => ∀ c : Dev Cert.PleFinalRefIdeal.nD,
          r.2.mem ((c.tc : Thread Cert.PleFinalRefIdeal.nD Cert.PleFinalRefIdeal.τ).loc Cert.PleFinalRefIdeal.main_v39) = v0 c
          ∧ r.2.mem ((c.tc : Thread Cert.PleFinalRefIdeal.nD Cert.PleFinalRefIdeal.τ).loc Cert.PleFinalRefIdeal.main_arg0) = m' ((c.tc : Thread Cert.PleFinalRefIdeal.nD Cert.PleFinalRefIdeal.τ).loc Cert.PleFinalRefIdeal.main_arg0)
          ∧ r.2.mem ((c.tc : Thread Cert.PleFinalRefIdeal.nD Cert.PleFinalRefIdeal.τ).loc Cert.PleFinalRefIdeal.main_arg1) = m' ((c.tc : Thread Cert.PleFinalRefIdeal.nD Cert.PleFinalRefIdeal.τ).loc Cert.PleFinalRefIdeal.main_arg1)
          ∧ r.2.mem ((c.tc : Thread Cert.PleFinalRefIdeal.nD Cert.PleFinalRefIdeal.τ).loc Cert.PleFinalRefIdeal.main_arg2) = m' ((c.tc : Thread Cert.PleFinalRefIdeal.nD Cert.PleFinalRefIdeal.τ).loc Cert.PleFinalRefIdeal.main_arg2)
          ∧ r.2.mem ((c.tc : Thread Cert.PleFinalRefIdeal.nD Cert.PleFinalRefIdeal.τ).loc Cert.PleFinalRefIdeal.main_arg3) = m' ((c.tc : Thread Cert.PleFinalRefIdeal.nD Cert.PleFinalRefIdeal.τ).loc Cert.PleFinalRefIdeal.main_arg3)
          ∧ r.2.mem ((c.tc : Thread Cert.PleFinalRefIdeal.nD Cert.PleFinalRefIdeal.τ).loc Cert.PleFinalRefIdeal.main_arg4) = m' ((c.tc : Thread Cert.PleFinalRefIdeal.nD Cert.PleFinalRefIdeal.τ).loc Cert.PleFinalRefIdeal.main_arg4)
          ∧ r.2.mem ((c.tc : Thread Cert.PleFinalRefIdeal.nD Cert.PleFinalRefIdeal.τ).loc Cert.PleFinalRefIdeal.main_arg5) = m' ((c.tc : Thread Cert.PleFinalRefIdeal.nD Cert.PleFinalRefIdeal.τ).loc Cert.PleFinalRefIdeal.main_arg5)
          ∧ r.2.mem ((c.tc : Thread Cert.PleFinalRefIdeal.nD Cert.PleFinalRefIdeal.τ).loc Cert.PleFinalRefIdeal.main_arg6) = m' ((c.tc : Thread Cert.PleFinalRefIdeal.nD Cert.PleFinalRefIdeal.τ).loc Cert.PleFinalRefIdeal.main_arg6)
          ∧ r.2.mem ((c.tc : Thread Cert.PleFinalRefIdeal.nD Cert.PleFinalRefIdeal.τ).loc Cert.PleFinalRefIdeal.main_arg7) = m' ((c.tc : Thread Cert.PleFinalRefIdeal.nD Cert.PleFinalRefIdeal.τ).loc Cert.PleFinalRefIdeal.main_arg7))

def Claim : Prop :=
  ∃ (hGla : Cert.Gla.Facts) (hGlaIdeal : Cert.GlaIdeal.Facts) (hGlaRefIdeal : Cert.GlaRefIdeal.Facts) (hGlaPrompt : Cert.GlaPrompt.Facts) (hGlaPromptIdeal : Cert.GlaPromptIdeal.Facts) (hGlaPromptRefIdeal : Cert.GlaPromptRefIdeal.Facts) (hGdn : Cert.Gdn.Facts) (hGdnIdeal : Cert.GdnIdeal.Facts) (hGdnRefIdeal : Cert.GdnRefIdeal.Facts) (hInProj : Cert.InProj.Facts) (hInProjIdeal : Cert.InProjIdeal.Facts) (hInProjRefIdeal : Cert.InProjRefIdeal.Facts) (hMid : Cert.Mid.Facts) (hMidIdeal : Cert.MidIdeal.Facts) (hMidRefIdeal : Cert.MidRefIdeal.Facts) (hPle : Cert.Ple.Facts) (hPleIdeal : Cert.PleIdeal.Facts) (hPleRefIdeal : Cert.PleRefIdeal.Facts) (hPleFinal : Cert.PleFinal.Facts) (hPleFinalIdeal : Cert.PleFinalIdeal.Facts) (hPleFinalRefIdeal : Cert.PleFinalRefIdeal.Facts) (hPre_gdn_finite : Cert.Pre_gdn_finite.Facts) (hPre_mid_finite : Cert.Pre_mid_finite.Facts),
    quiescent_Gla (hGla := hGla)
    ∧ quiescent_GlaIdeal (hGlaIdeal := hGlaIdeal)
    ∧ quiescent_GlaRefIdeal (hGlaRefIdeal := hGlaRefIdeal)
    ∧ quiescent_GlaPrompt (hGlaPrompt := hGlaPrompt)
    ∧ quiescent_GlaPromptIdeal (hGlaPromptIdeal := hGlaPromptIdeal)
    ∧ quiescent_GlaPromptRefIdeal (hGlaPromptRefIdeal := hGlaPromptRefIdeal)
    ∧ quiescent_Gdn (hGdn := hGdn)
    ∧ quiescent_GdnIdeal (hGdnIdeal := hGdnIdeal)
    ∧ quiescent_GdnIdeal_pre_gdn_finite (hGdnIdeal := hGdnIdeal) (hPre_gdn_finite := hPre_gdn_finite)
    ∧ quiescent_GdnRefIdeal (hGdnRefIdeal := hGdnRefIdeal)
    ∧ quiescent_GdnRefIdeal_pre_gdn_finite (hGdnRefIdeal := hGdnRefIdeal) (hPre_gdn_finite := hPre_gdn_finite)
    ∧ quiescent_InProj (hInProj := hInProj)
    ∧ quiescent_InProjIdeal (hInProjIdeal := hInProjIdeal)
    ∧ quiescent_InProjRefIdeal (hInProjRefIdeal := hInProjRefIdeal)
    ∧ quiescent_Mid (hMid := hMid)
    ∧ quiescent_MidIdeal (hMidIdeal := hMidIdeal)
    ∧ quiescent_MidIdeal_pre_mid_finite (hMidIdeal := hMidIdeal) (hPre_mid_finite := hPre_mid_finite)
    ∧ quiescent_MidRefIdeal (hMidRefIdeal := hMidRefIdeal)
    ∧ quiescent_MidRefIdeal_pre_mid_finite (hMidRefIdeal := hMidRefIdeal) (hPre_mid_finite := hPre_mid_finite)
    ∧ quiescent_Ple (hPle := hPle)
    ∧ quiescent_PleIdeal (hPleIdeal := hPleIdeal)
    ∧ quiescent_PleRefIdeal (hPleRefIdeal := hPleRefIdeal)
    ∧ quiescent_PleFinal (hPleFinal := hPleFinal)
    ∧ quiescent_PleFinalIdeal (hPleFinalIdeal := hPleFinalIdeal)
    ∧ quiescent_PleFinalRefIdeal (hPleFinalRefIdeal := hPleFinalRefIdeal)
    ∧ preserves_Gla_GlaIdeal
    ∧ algebraic_GlaIdeal_GlaRefIdeal (hGlaIdeal := hGlaIdeal) (hGlaRefIdeal := hGlaRefIdeal)
    ∧ preserves_GlaPrompt_GlaPromptIdeal
    ∧ algebraic_GlaPromptIdeal_GlaPromptRefIdeal (hGlaPromptIdeal := hGlaPromptIdeal) (hGlaPromptRefIdeal := hGlaPromptRefIdeal)
    ∧ preserves_Gdn_GdnIdeal
    ∧ algebraic_GdnIdeal_GdnRefIdeal_pre_gdn_finite (hGdnIdeal := hGdnIdeal) (hGdnRefIdeal := hGdnRefIdeal) (hPre_gdn_finite := hPre_gdn_finite)
    ∧ preserves_InProj_InProjIdeal
    ∧ algebraic_InProjIdeal_InProjRefIdeal (hInProjIdeal := hInProjIdeal) (hInProjRefIdeal := hInProjRefIdeal)
    ∧ preserves_Mid_MidIdeal
    ∧ algebraic_MidIdeal_MidRefIdeal_pre_mid_finite (hMidIdeal := hMidIdeal) (hMidRefIdeal := hMidRefIdeal) (hPre_mid_finite := hPre_mid_finite)
    ∧ preserves_Ple_PleIdeal
    ∧ algebraic_PleIdeal_PleRefIdeal (hPleIdeal := hPleIdeal) (hPleRefIdeal := hPleRefIdeal)
    ∧ preserves_PleFinal_PleFinalIdeal
    ∧ algebraic_PleFinalIdeal_PleFinalRefIdeal (hPleFinalIdeal := hPleFinalIdeal) (hPleFinalRefIdeal := hPleFinalRefIdeal)
-- ==== Pre_gdn_finite.lean ====
abbrev S17408x2056 : Shape := ⟨2, ![17408, 2056]⟩
abbrev S128x4x128x128 : Shape := ⟨4, ![128, 4, 128, 128]⟩
abbrev S128x3x1536 : Shape := ⟨3, ![128, 3, 1536]⟩
abbrev S4x1536 : Shape := ⟨2, ![4, 1536]⟩
abbrev S4 : Shape := ⟨1, ![4]⟩
abbrev S128 : Shape := ⟨1, ![128]⟩
abbrev S1024x512 : Shape := ⟨2, ![1024, 512]⟩
abbrev S128x3x512 : Shape := ⟨3, ![128, 3, 512]⟩
abbrev S4x512 : Shape := ⟨2, ![4, 512]⟩
abbrev S_ : Shape := ⟨0, ![]⟩

class Facts : Prop where
  slices_S17408x2056_S1024x512_16384_1024 : S17408x2056.Slices ![16384, 1024] S1024x512
  slices_S128x3x1536_S128x3x512_0_0_1024 : S128x3x1536.Slices ![0, 0, 1024] S128x3x512
  slices_S4x1536_S4x512_0_1024 : S4x1536.Slices ![0, 1024] S4x512
  bcast_S_S1024x512 : S_.BroadcastsInDim S1024x512 (![] : Fin 0 → Fin S1024x512.rank)
  bcast_S_S128x3x512 : S_.BroadcastsInDim S128x3x512 (![] : Fin 0 → Fin S128x3x512.rank)
  bcast_S_S4x512 : S_.BroadcastsInDim S4x512 (![] : Fin 0 → Fin S4x512.rank)

variable [Facts]

def fn {F : FTy → Type} [FloatOps F] (main_arg0 : FVec F S17408x2056 .f32) (main_arg1 : FVec F S128x4x128x128 .f32) (main_arg2 : FVec F S128x3x1536 .f32) (main_arg3 : FVec F S4x1536 .f32) (main_arg4 : FVec F S4 .f32) (main_arg5 : FVec F S4 .f32) (main_arg6 : FVec F S128 .f32) : IVec S1024x512 1 × IVec S128x3x512 1 × IVec S4x512 1 :=
  let main_v0 : FVec F S1024x512 .f32 := (extractStridedSlice S1024x512 ![16384, 1024] · slices_S17408x2056_S1024x512_16384_1024) main_arg0
  let main_v1 : FVec F S128x3x512 .f32 := (extractStridedSlice S128x3x512 ![0, 0, 1024] · slices_S128x3x1536_S128x3x512_0_0_1024) main_arg2
  let main_v2 : FVec F S4x512 .f32 := (extractStridedSlice S4x512 ![0, 1024] · slices_S4x1536_S4x512_0_1024) main_arg3
  let main_v3 : FVec F S1024x512 .f32 := Host.absf main_v0
  let main_cst : FVec F S_ .f32 := constant S_ .f32 0x7F800000#32
  let main_v4 : FVec F S1024x512 .f32 := broadcastInDim S1024x512 ![] bcast_S_S1024x512 main_cst
  let main_v5 : IVec S1024x512 1 := cmpf .olt main_v3 main_v4
  let main_v6 : FVec F S128x3x512 .f32 := Host.absf main_v1
  let main_cst_0 : FVec F S_ .f32 := constant S_ .f32 0x7F800000#32
  let main_v7 : FVec F S128x3x512 .f32 := broadcastInDim S128x3x512 ![] bcast_S_S128x3x512 main_cst_0
  let main_v8 : IVec S128x3x512 1 := cmpf .olt main_v6 main_v7
  let main_v9 : FVec F S4x512 .f32 := Host.absf main_v2
  let main_cst_1 : FVec F S_ .f32 := constant S_ .f32 0x7F800000#32
  let main_v10 : FVec F S4x512 .f32 := broadcastInDim S4x512 ![] bcast_S_S4x512 main_cst_1
  let main_v11 : IVec S4x512 1 := cmpf .olt main_v9 main_v10
  (main_v5, main_v8, main_v11)
-- ==== Pre_mid_finite.lean ====
abbrev S17408x1024 : Shape := ⟨2, ![17408, 1024]⟩
abbrev S17408x512 : Shape := ⟨2, ![17408, 512]⟩
abbrev S1024x1024 : Shape := ⟨2, ![1024, 1024]⟩
abbrev S1024 : Shape := ⟨1, ![1024]⟩
abbrev S1024x2048 : Shape := ⟨2, ![1024, 2048]⟩
abbrev S8x2x128x128 : Shape := ⟨4, ![8, 2, 128, 128]⟩
abbrev S_ : Shape := ⟨0, ![]⟩

class Facts : Prop where
  bcast_S_S1024 : S_.BroadcastsInDim S1024 (![] : Fin 0 → Fin S1024.rank)
  bcast_S_S1024x2048 : S_.BroadcastsInDim S1024x2048 (![] : Fin 0 → Fin S1024x2048.rank)

variable [Facts]

def fn {F : FTy → Type} [FloatOps F] (main_arg0 : FVec F S17408x1024 .f32) (main_arg1 : FVec F S17408x512 .f32) (main_arg2 : FVec F S17408x512 .f32) (main_arg3 : FVec F S1024x1024 .f32) (main_arg4 : FVec F S1024 .f32) (main_arg5 : FVec F S1024x2048 .f32) (main_arg6 : FVec F S8x2x128x128 .f32) : IVec S1024 1 × IVec S1024x2048 1 :=
  let main_v0 : FVec F S1024 .f32 := Host.absf main_arg4
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x2048 .f32 := Host.absf main_arg5
  let main_cst_0 : FVec F S_ .f32 := constant S_ .f32 0x7F800000#32
  let main_v4 : FVec F S1024x2048 .f32 := broadcastInDim S1024x2048 ![] bcast_S_S1024x2048 main_cst_0
  let main_v5 : IVec S1024x2048 1 := cmpf .olt main_v3 main_v4
  (main_v2, main_v5)
-- ==== Gla.lean ====
abbrev S17408x1552 : Shape := ⟨2, ![17408, 1552]⟩
abbrev S16x256 : Shape := ⟨2, ![16, 256]⟩
abbrev S256 : Shape := ⟨1, ![256]⟩
abbrev S128 : Shape := ⟨1, ![128]⟩
abbrev S128x4x64x128 : Shape := ⟨4, ![128, 4, 64, 128]⟩
abbrev S17408x1536 : Shape := ⟨2, ![17408, 1536]⟩
abbrev S17408x16 : Shape := ⟨2, ![17408, 16]⟩
abbrev S_ : Shape := ⟨0, ![]⟩
abbrev S17408x128 : Shape := ⟨2, ![17408, 128]⟩
abbrev S17408x1664 : Shape := ⟨2, ![17408, 1664]⟩
abbrev S128x256 : Shape := ⟨2, ![128, 256]⟩
abbrev S128x2x128x128 : Shape := ⟨4, ![128, 2, 128, 128]⟩
abbrev S1x256 : Shape := ⟨2, ![1, 256]⟩
abbrev S1x128 : Shape := ⟨2, ![1, 128]⟩
abbrev S1024x512 : Shape := ⟨2, ![1024, 512]⟩
abbrev S128x1664 : Shape := ⟨2, ![128, 1664]⟩
abbrev S16x2x128x128 : Shape := ⟨4, ![16, 2, 128, 128]⟩
abbrev S128x512 : Shape := ⟨2, ![128, 512]⟩
abbrev S1x1x128 : Shape := ⟨3, ![1, 1, 128]⟩
abbrev S16x8x8 : Shape := ⟨3, ![16, 8, 8]⟩
abbrev S1x8x1 : Shape := ⟨3, ![1, 8, 1]⟩
abbrev S1x8x8 : Shape := ⟨3, ![1, 8, 8]⟩
abbrev S1x128x128 : Shape := ⟨3, ![1, 128, 128]⟩
abbrev S1x128x1 : Shape := ⟨3, ![1, 128, 1]⟩
abbrev S128x128 : Shape := ⟨2, ![128, 128]⟩
abbrev S16x8x256 : Shape := ⟨3, ![16, 8, 256]⟩
abbrev S16x1x8x128 : Shape := ⟨4, ![16, 1, 8, 128]⟩
abbrev S16x2x8x128 : Shape := ⟨4, ![16, 2, 8, 128]⟩
abbrev S32x8x128 : Shape := ⟨3, ![32, 8, 128]⟩
abbrev S16x1x8x256 : Shape := ⟨4, ![16, 1, 8, 256]⟩
abbrev S16x2x8x256 : Shape := ⟨4, ![16, 2, 8, 256]⟩
abbrev S32x8x256 : Shape := ⟨3, ![32, 8, 256]⟩
abbrev S32x128x128 : Shape := ⟨3, ![32, 128, 128]⟩
abbrev S32x8x8 : Shape := ⟨3, ![32, 8, 8]⟩
abbrev S32x1x128 : Shape := ⟨3, ![32, 1, 128]⟩
abbrev S32x8 : Shape := ⟨2, ![32, 8]⟩
abbrev S32x8x1 : Shape := ⟨3, ![32, 8, 1]⟩
abbrev S32x128x256 : Shape := ⟨3, ![32, 128, 256]⟩
abbrev S16x8x128 : Shape := ⟨3, ![16, 8, 128]⟩

abbrev nBuf : Space → Nat
  | .hbm => 19
  | .vmem => 11
  | .smem => 0
  | _ => 0

abbrev bufTy : (tb : Table) → Fin (tcTables nBuf tb) → BufTy
  | .hbm, ⟨0, _⟩ => ⟨S17408x1552, .f32⟩
  | .hbm, ⟨1, _⟩ => ⟨S16x256, .f32⟩
  | .hbm, ⟨2, _⟩ => ⟨S256, .f32⟩
  | .hbm, ⟨3, _⟩ => ⟨S128, .f32⟩
  | .hbm, ⟨4, _⟩ => ⟨S128x4x64x128, .f32⟩
  | .hbm, ⟨5, _⟩ => ⟨S17408x1536, .f32⟩
  | .hbm, ⟨6, _⟩ => ⟨S17408x16, .f32⟩
  | .hbm, ⟨7, _⟩ => ⟨S_, .i32⟩
  | .hbm, ⟨8, _⟩ => ⟨S_, .f32⟩
  | .hbm, ⟨9, _⟩ => ⟨S17408x128, .f32⟩
  | .hbm, ⟨10, _⟩ => ⟨S17408x1664, .f32⟩
  | .hbm, ⟨11, _⟩ => ⟨S_, .i32⟩
  | .hbm, ⟨12, _⟩ => ⟨S_, .f32⟩
  | .hbm, ⟨13, _⟩ => ⟨S128x256, .f32⟩
  | .hbm, ⟨14, _⟩ => ⟨S128x2x128x128, .f32⟩
  | .hbm, ⟨15, _⟩ => ⟨S1x256, .f32⟩
  | .hbm, ⟨16, _⟩ => ⟨S1x128, .f32⟩
  | .hbm, ⟨17, _⟩ => ⟨S1024x512, .f32⟩
  | .hbm, ⟨18, _⟩ => ⟨S128x2x128x128, .f32⟩
  | .local _ .vmem, ⟨0, _⟩ => ⟨S128x1664, .f32⟩
  | .local _ .vmem, ⟨1, _⟩ => ⟨S128x1664, .f32⟩
  | .local _ .vmem, ⟨2, _⟩ => ⟨S16x2x128x128, .f32⟩
  | .local _ .vmem, ⟨3, _⟩ => ⟨S16x2x128x128, .f32⟩
  | .local _ .vmem, ⟨4, _⟩ => ⟨S128x256, .f32⟩
  | .local _ .vmem, ⟨5, _⟩ => ⟨S1x256, .f32⟩
  | .local _ .vmem, ⟨6, _⟩ => ⟨S1x128, .f32⟩
  | .local _ .vmem, ⟨7, _⟩ => ⟨S128x512, .f32⟩
  | .local _ .vmem, ⟨8, _⟩ => ⟨S128x512, .f32⟩
  | .local _ .vmem, ⟨9, _⟩ => ⟨S16x2x128x128, .f32⟩
  | .local _ .vmem, ⟨10, _⟩ => ⟨S16x2x128x128, .f32⟩
  | _, _ => ⟨S17408x1552, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x2x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x2x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== GlaRefIdeal.lean ====
abbrev S17408x1552 : Shape := ⟨2, ![17408, 1552]⟩
abbrev S16x256 : Shape := ⟨2, ![16, 256]⟩
abbrev S256 : Shape := ⟨1, ![256]⟩
abbrev S128 : Shape := ⟨1, ![128]⟩
abbrev S128x4x64x128 : Shape := ⟨4, ![128, 4, 64, 128]⟩
abbrev S1024x1552 : Shape := ⟨2, ![1024, 1552]⟩
abbrev S128x8x1552 : Shape := ⟨3, ![128, 8, 1552]⟩
abbrev S128x8x256 : Shape := ⟨3, ![128, 8, 256]⟩
abbrev S128x8x512 : Shape := ⟨3, ![128, 8, 512]⟩
abbrev S128x8x16 : Shape := ⟨3, ![128, 8, 16]⟩
abbrev S1x1x256 : Shape := ⟨3, ![1, 1, 256]⟩
abbrev S_ : Shape := ⟨0, ![]⟩
abbrev S128x8x4x64 : Shape := ⟨4, ![128, 8, 4, 64]⟩
abbrev S128x8x4x128 : Shape := ⟨4, ![128, 8, 4, 128]⟩
abbrev S8x8 : Shape := ⟨2, ![8, 8]⟩
abbrev S1x8x8x1x1 : Shape := ⟨5, ![1, 8, 8, 1, 1]⟩
abbrev S128x8x1x4x64 : Shape := ⟨5, ![128, 8, 1, 4, 64]⟩
abbrev S128x1x8x4x64 : Shape := ⟨5, ![128, 1, 8, 4, 64]⟩
abbrev S128x8x8x4x64 : Shape := ⟨5, ![128, 8, 8, 4, 64]⟩
abbrev S128x8x8x4 : Shape := ⟨4, ![128, 8, 8, 4]⟩
abbrev S128x4x128x8 : Shape := ⟨4, ![128, 4, 128, 8]⟩
abbrev S128x1x4x64 : Shape := ⟨4, ![128, 1, 4, 64]⟩
abbrev S128x4x64 : Shape := ⟨3, ![128, 4, 64]⟩
abbrev S128x4x64x1 : Shape := ⟨4, ![128, 4, 64, 1]⟩
abbrev S128x8x4 : Shape := ⟨3, ![128, 8, 4]⟩
abbrev S128x8x4x1 : Shape := ⟨4, ![128, 8, 4, 1]⟩
abbrev S1x1x1x128 : Shape := ⟨4, ![1, 1, 1, 128]⟩
abbrev S1024x512 : Shape := ⟨2, ![1024, 512]⟩
abbrev S128x2x128x128 : Shape := ⟨4, ![128, 2, 128, 128]⟩

abbrev nBuf : Space → Nat
  | .hbm => 130
  | .vmem => 0
  | .smem => 0
  | _ => 0

abbrev hbmTy0_0 (i : Nat) : BufTy := match i % 128 with
  | 0 => ⟨S17408x1552, .f32⟩
  | 1 => ⟨S16x256, .f32⟩
  | 2 => ⟨S256, .f32⟩
  | 3 => ⟨S128, .f32⟩
  | 4 => ⟨S128x4x64x128, .f32⟩
  | 5 => ⟨S1024x1552, .f32⟩
  | 6 => ⟨S128x8x1552, .f32⟩
  | 7 => ⟨S128x8x256, .f32⟩
  | 8 => ⟨S128x8x256, .f32⟩
  | 9 => ⟨S128x8x512, .f32⟩
  | 10 => ⟨S128x8x512, .f32⟩
  | 11 => ⟨S128x8x16, .f32⟩
  | 12 => ⟨S128x8x256, .f32⟩
  | 13 => ⟨S1x1x256, .f32⟩
  | 14 => ⟨S128x8x256, .f32⟩
  | 15 => ⟨S128x8x256, .f32⟩
  | 16 => ⟨S128x8x256, .f32⟩
  | 17 => ⟨S_, .f32⟩
  | 18 => ⟨S128x8x256, .f32⟩
  | 19 => ⟨S128x8x256, .f32⟩
  | 20 => ⟨S128x8x256, .f32⟩
  | 21 => ⟨S128x8x256, .f32⟩
  | 22 => ⟨S128x8x256, .i1⟩
  | 23 => ⟨S128x8x256, .f32⟩
  | 24 => ⟨S128x8x256, .f32⟩
  | 25 => ⟨S128x8x256, .f32⟩
  | 26 => ⟨S128x8x256, .f32⟩
  | 27 => ⟨S128x8x256, .f32⟩
  | 28 => ⟨S128x8x256, .f32⟩
  | 29 => ⟨S128x8x256, .f32⟩
  | 30 => ⟨S128x8x256, .f32⟩
  | 31 => ⟨S128x8x256, .f32⟩
  | 32 => ⟨S_, .f32⟩
  | 33 => ⟨S128x8x256, .f32⟩
  | 34 => ⟨S128x8x256, .f32⟩
  | 35 => ⟨S128x8x4x64, .f32⟩
  | 36 => ⟨S_, .f32⟩
  | 37 => ⟨S128x8x4x64, .f32⟩
  | 38 => ⟨S128x8x4x64, .f32⟩
  | 39 => ⟨S128x8x4x64, .f32⟩
  | 40 => ⟨S128x8x4x128, .f32⟩
  | 41 => ⟨S128x8x4x64, .f32⟩
  | 42 => ⟨S_, .i1⟩
  | 43 => ⟨S8x8, .i1⟩
  | 44 => ⟨S8x8, .i32⟩
  | 45 => ⟨S_, .i32⟩
  | 46 => ⟨S8x8, .i32⟩
  | 47 => ⟨S8x8, .i32⟩
  | 48 => ⟨S8x8, .i32⟩
  | 49 => ⟨S8x8, .i1⟩
  | 50 => ⟨S_, .i1⟩
  | 51 => ⟨S8x8, .i1⟩
  | 52 => ⟨S8x8, .i1⟩
  | 53 => ⟨S1x8x8x1x1, .i1⟩
  | 54 => ⟨S_, .f32⟩
  | 55 => ⟨S_, .f32⟩
  | 56 => ⟨S128x8x4x64, .f32⟩
  | 57 => ⟨S128x8x1x4x64, .f32⟩
  | 58 => ⟨S128x1x8x4x64, .f32⟩
  | 59 => ⟨S128x8x8x4x64, .f32⟩
  | 60 => ⟨S128x8x8x4x64, .f32⟩
  | 61 => ⟨S128x8x8x4x64, .f32⟩
  | 62 => ⟨S_, .f32⟩
  | 63 => ⟨S_, .f32⟩
  | 64 => ⟨S128x8x8x4x64, .i1⟩
  | 65 => ⟨S128x8x8x4x64, .f32⟩
  | 66 => ⟨S128x8x8x4x64, .f32⟩
  | 67 => ⟨S128x8x8x4x64, .f32⟩
  | 68 => ⟨S_, .f32⟩
  | 69 => ⟨S_, .f32⟩
  | 70 => ⟨S128x8x8x4x64, .i1⟩
  | 71 => ⟨S128x8x8x4x64, .f32⟩
  | 72 => ⟨S128x8x8x4x64, .f32⟩
  | 73 => ⟨S128x8x1x4x64, .f32⟩
  | 74 => ⟨S128x1x8x4x64, .f32⟩
  | 75 => ⟨S128x8x8x4x64, .f32⟩
  | 76 => ⟨S128x8x8x4x64, .f32⟩
  | 77 => ⟨S128x8x8x4x64, .f32⟩
  | 78 => ⟨S128x8x8x4x64, .f32⟩
  | 79 => ⟨S_, .f32⟩
  | 80 => ⟨S128x8x8x4, .f32⟩
  | 81 => ⟨S128x4x128x8, .f32⟩
  | 82 => ⟨S128x8x4x128, .f32⟩
  | 83 => ⟨S128x8x4x64, .f32⟩
  | 84 => ⟨S128x8x4x64, .f32⟩
  | 85 => ⟨S128x4x128x8, .f32⟩
  | 86 => ⟨S128x8x4x128, .f32⟩
  | 87 => ⟨S128x8x4x128, .f32⟩
  | 88 => ⟨S128x1x4x64, .f32⟩
  | 89 => ⟨S128x4x64, .f32⟩
  | 90 => ⟨S128x4x64, .f32⟩
  | 91 => ⟨S128x4x64x1, .f32⟩
  | 92 => ⟨S128x4x64x128, .f32⟩
  | 93 => ⟨S128x4x64x128, .f32⟩
  | 94 => ⟨S128x1x4x64, .f32⟩
  | 95 => ⟨S128x8x4x64, .f32⟩
  | 96 => ⟨S128x8x4x64, .f32⟩
  | 97 => ⟨S128x8x4x64, .f32⟩
  | 98 => ⟨S128x8x4x64, .f32⟩
  | 99 => ⟨S128x4x64x128, .f32⟩
  | 100 => ⟨S128x4x64x128, .f32⟩
  | 101 => ⟨S128x8x4x128, .f32⟩
  | 102 => ⟨S_, .f32⟩
  | 103 => ⟨S128x8x4, .f32⟩
  | 104 => ⟨S128x8x4x1, .f32⟩
  | 105 => ⟨S_, .f32⟩
  | 106 => ⟨S128x8x4x1, .f32⟩
  | 107 => ⟨S128x8x4x1, .f32⟩
  | 108 => ⟨S_, .f32⟩
  | 109 => ⟨S128x8x4x1, .f32⟩
  | 110 => ⟨S128x8x4x1, .f32⟩
  | 111 => ⟨S128x8x4x1, .f32⟩
  | 112 => ⟨S128x8x4x128, .f32⟩
  | 113 => ⟨S128x8x4x128, .f32⟩
  | 114 => ⟨S1x1x1x128, .f32⟩
  | 115 => ⟨S128x8x4x128, .f32⟩
  | 116 => ⟨S128x8x4x128, .f32⟩
  | 117 => ⟨S128x8x512, .f32⟩
  | 118 => ⟨S128x8x512, .f32⟩
  | 119 => ⟨S128x8x512, .f32⟩
  | 120 => ⟨S_, .f32⟩
  | 121 => ⟨S128x8x512, .f32⟩
  | 122 => ⟨S128x8x512, .f32⟩
  | 123 => ⟨S_, .f32⟩
  | 124 => ⟨S128x8x512, .f32⟩
  | 125 => ⟨S128x8x512, .f32⟩
  | 126 => ⟨S128x8x512, .f32⟩
  | 127 => ⟨S128x8x512, .f32⟩
  | _ => ⟨S17408x1552, .f32⟩

abbrev hbmTy0_1 (i : Nat) : BufTy := match i % 128 with
  | 0 => ⟨S1024x512, .f32⟩
  | 1 => ⟨S128x2x128x128, .f32⟩
  | _ => ⟨S17408x1552, .f32⟩

abbrev hbmTy (i : Nat) : BufTy := match i / 128 with
  | 0 => hbmTy0_0 i
  | 1 => hbmTy0_1 i
  | _ => ⟨S17408x1552, .f32⟩

abbrev bufTy : (tb : Table) → Fin (tcTables nBuf tb) → BufTy
  | .hbm, ⟨i, _⟩ => hbmTy i
  | _, _ => ⟨S17408x1552, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_0 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c : Ref sig .tc := ⟨.hbm, 42, rfl⟩
abbrev main_v20 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_c_0 : Ref sig .tc := ⟨.hbm, 50, rfl⟩
abbrev main_call1_v5 : Ref sig .tc := ⟨.hbm, 51, rfl⟩
abbrev main_v21 : Ref sig .tc := ⟨.hbm, 52, rfl⟩
abbrev main_v22 : Ref sig .tc := ⟨.hbm, 53, rfl⟩
abbrev main_call2_call0_cst : Ref sig .tc := ⟨.hbm, 54, rfl⟩
abbrev main_call2_call0_v0 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_cst_1 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_v29 : Ref sig .tc := ⟨.hbm, 66, rfl⟩
abbrev main_v30 : Ref sig .tc := ⟨.hbm, 67, rfl⟩
abbrev main_cst_2 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_cst_3 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_cst_4 : Ref sig .tc := ⟨.hbm, 102, rfl⟩
abbrev main_v60 : Ref sig .tc := ⟨.hbm, 103, rfl⟩
abbrev main_v61 : Ref sig .tc := ⟨.hbm, 104, rfl⟩
abbrev main_cst_5 : Ref sig .tc := ⟨.hbm, 105, rfl⟩
abbrev main_v62 : Ref sig .tc := ⟨.hbm, 106, rfl⟩
abbrev main_v63 : Ref sig .tc := ⟨.hbm, 107, rfl⟩
abbrev main_cst_6 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_call5_v0 : Ref sig .tc := ⟨.hbm, 118, rfl⟩
abbrev main_call5_v1 : Ref sig .tc := ⟨.hbm, 119, rfl⟩
abbrev main_call5_cst : Ref sig .tc := ⟨.hbm, 120, rfl⟩
abbrev main_call5_v2 : Ref sig .tc := ⟨.hbm, 121, rfl⟩
abbrev main_call5_v3 : Ref sig .tc := ⟨.hbm, 122, rfl⟩
abbrev main_call5_cst_0 : Ref sig .tc := ⟨.hbm, 123, rfl⟩
abbrev main_call5_v4 : Ref sig .tc := ⟨.hbm, 124, rfl⟩
abbrev main_call5_v5 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩

abbrev nD : Nat := 1
abbrev τ : Topo := Topo.v7x

variable {F : FTy → Type} [FloatOps F]
-- ==== GlaPrompt.lean ====
abbrev S8x2048x1552 : Shape := ⟨3, ![8, 2048, 1552]⟩
abbrev S128x8x1552 : Shape := ⟨3, ![128, 8, 1552]⟩
abbrev S16x256 : Shape := ⟨2, ![16, 256]⟩
abbrev S256 : Shape := ⟨1, ![256]⟩
abbrev S128 : Shape := ⟨1, ![128]⟩
abbrev S8x32x64x1552 : Shape := ⟨4, ![8, 32, 64, 1552]⟩
abbrev S32x8x64x1552 : Shape := ⟨4, ![32, 8, 64, 1552]⟩
abbrev S16384x1552 : Shape := ⟨2, ![16384, 1552]⟩
abbrev S1024x1552 : Shape := ⟨2, ![1024, 1552]⟩
abbrev S17408x1552 : Shape := ⟨2, ![17408, 1552]⟩
abbrev S17408x1536 : Shape := ⟨2, ![17408, 1536]⟩
abbrev S17408x16 : Shape := ⟨2, ![17408, 16]⟩
abbrev S_ : Shape := ⟨0, ![]⟩
abbrev S17408x128 : Shape := ⟨2, ![17408, 128]⟩
abbrev S17408x1664 : Shape := ⟨2, ![17408, 1664]⟩
abbrev S128x256 : Shape := ⟨2, ![128, 256]⟩
abbrev S8x2x128x128 : Shape := ⟨4, ![8, 2, 128, 128]⟩
abbrev S1x256 : Shape := ⟨2, ![1, 256]⟩
abbrev S1x128 : Shape := ⟨2, ![1, 128]⟩
abbrev S16384x512 : Shape := ⟨2, ![16384, 512]⟩
abbrev S512x1664 : Shape := ⟨2, ![512, 1664]⟩
abbrev S512x512 : Shape := ⟨2, ![512, 512]⟩
abbrev S1x1x128 : Shape := ⟨3, ![1, 1, 128]⟩
abbrev S8x64x64 : Shape := ⟨3, ![8, 64, 64]⟩
abbrev S1x16x1 : Shape := ⟨3, ![1, 16, 1]⟩
abbrev S1x16x64 : Shape := ⟨3, ![1, 16, 64]⟩
abbrev S1x128x128 : Shape := ⟨3, ![1, 128, 128]⟩
abbrev S1x128x1 : Shape := ⟨3, ![1, 128, 1]⟩
abbrev S512x128 : Shape := ⟨2, ![512, 128]⟩
abbrev S512x256 : Shape := ⟨2, ![512, 256]⟩
abbrev S8x64x256 : Shape := ⟨3, ![8, 64, 256]⟩
abbrev S8x1x64x128 : Shape := ⟨4, ![8, 1, 64, 128]⟩
abbrev S8x2x64x128 : Shape := ⟨4, ![8, 2, 64, 128]⟩
abbrev S16x64x128 : Shape := ⟨3, ![16, 64, 128]⟩
abbrev S8x1x64x256 : Shape := ⟨4, ![8, 1, 64, 256]⟩
abbrev S8x2x64x256 : Shape := ⟨4, ![8, 2, 64, 256]⟩
abbrev S16x64x256 : Shape := ⟨3, ![16, 64, 256]⟩
abbrev S16x128x128 : Shape := ⟨3, ![16, 128, 128]⟩
abbrev S16x16x128 : Shape := ⟨3, ![16, 16, 128]⟩
abbrev S16x16x64 : Shape := ⟨3, ![16, 16, 64]⟩
abbrev S16x1x128 : Shape := ⟨3, ![16, 1, 128]⟩
abbrev S16x16 : Shape := ⟨2, ![16, 16]⟩
abbrev S16x16x1 : Shape := ⟨3, ![16, 16, 1]⟩
abbrev S16x128x256 : Shape := ⟨3, ![16, 128, 256]⟩
abbrev S16x64 : Shape := ⟨2, ![16, 64]⟩
abbrev S16x64x1 : Shape := ⟨3, ![16, 64, 1]⟩
abbrev S8x64x128 : Shape := ⟨3, ![8, 64, 128]⟩

abbrev nBuf : Space → Nat
  | .hbm => 25
  | .vmem => 9
  | .smem => 0
  | _ => 0

abbrev bufTy : (tb : Table) → Fin (tcTables nBuf tb) → BufTy
  | .hbm, ⟨0, _⟩ => ⟨S8x2048x1552, .f32⟩
  | .hbm, ⟨1, _⟩ => ⟨S128x8x1552, .f32⟩
  | .hbm, ⟨2, _⟩ => ⟨S16x256, .f32⟩
  | .hbm, ⟨3, _⟩ => ⟨S256, .f32⟩
  | .hbm, ⟨4, _⟩ => ⟨S128, .f32⟩
  | .hbm, ⟨5, _⟩ => ⟨S8x32x64x1552, .f32⟩
  | .hbm, ⟨6, _⟩ => ⟨S32x8x64x1552, .f32⟩
  | .hbm, ⟨7, _⟩ => ⟨S16384x1552, .f32⟩
  | .hbm, ⟨8, _⟩ => ⟨S1024x1552, .f32⟩
  | .hbm, ⟨9, _⟩ => ⟨S17408x1552, .f32⟩
  | .hbm, ⟨10, _⟩ => ⟨S17408x1536, .f32⟩
  | .hbm, ⟨11, _⟩ => ⟨S17408x16, .f32⟩
  | .hbm, ⟨12, _⟩ => ⟨S_, .i32⟩
  | .hbm, ⟨13, _⟩ => ⟨S_, .f32⟩
  | .hbm, ⟨14, _⟩ => ⟨S17408x128, .f32⟩
  | .hbm, ⟨15, _⟩ => ⟨S17408x1664, .f32⟩
  | .hbm, ⟨16, _⟩ => ⟨S_, .i32⟩
  | .hbm, ⟨17, _⟩ => ⟨S_, .f32⟩
  | .hbm, ⟨18, _⟩ => ⟨S128x256, .f32⟩
  | .hbm, ⟨19, _⟩ => ⟨S_, .f32⟩
  | .hbm, ⟨20, _⟩ => ⟨S8x2x128x128, .f32⟩
  | .hbm, ⟨21, _⟩ => ⟨S1x256, .f32⟩
  | .hbm, ⟨22, _⟩ => ⟨S1x128, .f32⟩
  | .hbm, ⟨23, _⟩ => ⟨S16384x512, .f32⟩
  | .hbm, ⟨24, _⟩ => ⟨S8x2x128x128, .f32⟩
  | .local _ .vmem, ⟨0, _⟩ => ⟨S512x1664, .f32⟩
  | .local _ .vmem, ⟨1, _⟩ => ⟨S512x1664, .f32⟩
  | .local _ .vmem, ⟨2, _⟩ => ⟨S8x2x128x128, .f32⟩
  | .local _ .vmem, ⟨3, _⟩ => ⟨S128x256, .f32⟩
  | .local _ .vmem, ⟨4, _⟩ => ⟨S1x256, .f32⟩
  | .local _ .vmem, ⟨5, _⟩ => ⟨S1x128, .f32⟩
  | .local _ .vmem, ⟨6, _⟩ => ⟨S512x512, .f32⟩
  | .local _ .vmem, ⟨7, _⟩ => ⟨S512x512, .f32⟩
  | .local _ .vmem, ⟨8, _⟩ => ⟨S8x2x128x128, .f32⟩
  | _, _ => ⟨S8x2048x1552, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_call1_v0 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x2x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x2x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== GlaPromptRefIdeal.lean ====
abbrev S8x2048x1552 : Shape := ⟨3, ![8, 2048, 1552]⟩
abbrev S128x8x1552 : Shape := ⟨3, ![128, 8, 1552]⟩
abbrev S16x256 : Shape := ⟨2, ![16, 256]⟩
abbrev S256 : Shape := ⟨1, ![256]⟩
abbrev S128 : Shape := ⟨1, ![128]⟩
abbrev S8x2048x256 : Shape := ⟨3, ![8, 2048, 256]⟩
abbrev S8x2048x512 : Shape := ⟨3, ![8, 2048, 512]⟩
abbrev S8x2048x16 : Shape := ⟨3, ![8, 2048, 16]⟩
abbrev S1x1x256 : Shape := ⟨3, ![1, 1, 256]⟩
abbrev S_ : Shape := ⟨0, ![]⟩
abbrev S8x32x64x4x64 : Shape := ⟨5, ![8, 32, 64, 4, 64]⟩
abbrev S8x32x64x4x128 : Shape := ⟨5, ![8, 32, 64, 4, 128]⟩
abbrev S8x32x1x4x64 : Shape := ⟨5, ![8, 32, 1, 4, 64]⟩
abbrev S8x32x4x64 : Shape := ⟨4, ![8, 32, 4, 64]⟩
abbrev S8x32x4x64x128 : Shape := ⟨5, ![8, 32, 4, 64, 128]⟩
abbrev S32x32 : Shape := ⟨2, ![32, 32]⟩
abbrev S8x4x64x32 : Shape := ⟨4, ![8, 4, 64, 32]⟩
abbrev S8x32x4x64x1 : Shape := ⟨5, ![8, 32, 4, 64, 1]⟩
abbrev S8x4x64x128 : Shape := ⟨4, ![8, 4, 64, 128]⟩
abbrev S8x2x128x128 : Shape := ⟨4, ![8, 2, 128, 128]⟩

abbrev nBuf : Space → Nat
  | .hbm => 65
  | .vmem => 0
  | .smem => 0
  | _ => 0

abbrev bufTy : (tb : Table) → Fin (tcTables nBuf tb) → BufTy
  | .hbm, ⟨0, _⟩ => ⟨S8x2048x1552, .f32⟩
  | .hbm, ⟨1, _⟩ => ⟨S128x8x1552, .f32⟩
  | .hbm, ⟨2, _⟩ => ⟨S16x256, .f32⟩
  | .hbm, ⟨3, _⟩ => ⟨S256, .f32⟩
  | .hbm, ⟨4, _⟩ => ⟨S128, .f32⟩
  | .hbm, ⟨5, _⟩ => ⟨S8x2048x256, .f32⟩
  | .hbm, ⟨6, _⟩ => ⟨S8x2048x512, .f32⟩
  | .hbm, ⟨7, _⟩ => ⟨S8x2048x16, .f32⟩
  | .hbm, ⟨8, _⟩ => ⟨S8x2048x256, .f32⟩
  | .hbm, ⟨9, _⟩ => ⟨S1x1x256, .f32⟩
  | .hbm, ⟨10, _⟩ => ⟨S8x2048x256, .f32⟩
  | .hbm, ⟨11, _⟩ => ⟨S8x2048x256, .f32⟩
  | .hbm, ⟨12, _⟩ => ⟨S8x2048x256, .f32⟩
  | .hbm, ⟨13, _⟩ => ⟨S_, .f32⟩
  | .hbm, ⟨14, _⟩ => ⟨S8x2048x256, .f32⟩
  | .hbm, ⟨15, _⟩ => ⟨S8x2048x256, .f32⟩
  | .hbm, ⟨16, _⟩ => ⟨S8x2048x256, .f32⟩
  | .hbm, ⟨17, _⟩ => ⟨S8x2048x256, .f32⟩
  | .hbm, ⟨18, _⟩ => ⟨S8x2048x256, .i1⟩
  | .hbm, ⟨19, _⟩ => ⟨S8x2048x256, .f32⟩
  | .hbm, ⟨20, _⟩ => ⟨S8x2048x256, .f32⟩
  | .hbm, ⟨21, _⟩ => ⟨S8x2048x256, .f32⟩
  | .hbm, ⟨22, _⟩ => ⟨S8x2048x256, .f32⟩
  | .hbm, ⟨23, _⟩ => ⟨S8x2048x256, .f32⟩
  | .hbm, ⟨24, _⟩ => ⟨S8x2048x256, .f32⟩
  | .hbm, ⟨25, _⟩ => ⟨S8x2048x256, .f32⟩
  | .hbm, ⟨26, _⟩ => ⟨S8x2048x256, .f32⟩
  | .hbm, ⟨27, _⟩ => ⟨S8x2048x256, .f32⟩
  | .hbm, ⟨28, _⟩ => ⟨S_, .f32⟩
  | .hbm, ⟨29, _⟩ => ⟨S8x2048x256, .f32⟩
  | .hbm, ⟨30, _⟩ => ⟨S8x2048x256, .f32⟩
  | .hbm, ⟨31, _⟩ => ⟨S8x32x64x4x64, .f32⟩
  | .hbm, ⟨32, _⟩ => ⟨S8x32x64x4x128, .f32⟩
  | .hbm, ⟨33, _⟩ => ⟨S8x32x64x4x64, .f32⟩
  | .hbm, ⟨34, _⟩ => ⟨S_, .f32⟩
  | .hbm, ⟨35, _⟩ => ⟨S_, .f32⟩
  | .hbm, ⟨36, _⟩ => ⟨S8x32x64x4x64, .f32⟩
  | .hbm, ⟨37, _⟩ => ⟨S8x32x1x4x64, .f32⟩
  | .hbm, ⟨38, _⟩ => ⟨S8x32x4x64, .f32⟩
  | .hbm, ⟨39, _⟩ => ⟨S8x32x1x4x64, .f32⟩
  | .hbm, ⟨40, _⟩ => ⟨S8x32x64x4x64, .f32⟩
  | .hbm, ⟨41, _⟩ => ⟨S8x32x64x4x64, .f32⟩
  | .hbm, ⟨42, _⟩ => ⟨S8x32x64x4x64, .f32⟩
  | .hbm, ⟨43, _⟩ => ⟨S8x32x64x4x64, .f32⟩
  | .hbm, ⟨44, _⟩ => ⟨S8x32x4x64x128, .f32⟩
  | .hbm, ⟨45, _⟩ => ⟨S_, .f32⟩
  | .hbm, ⟨46, _⟩ => ⟨S32x32, .f32⟩
  | .hbm, ⟨47, _⟩ => ⟨S32x32, .i32⟩
  | .hbm, ⟨48, _⟩ => ⟨S_, .i32⟩
  | .hbm, ⟨49, _⟩ => ⟨S32x32, .i32⟩
  | .hbm, ⟨50, _⟩ => ⟨S32x32, .i32⟩
  | .hbm, ⟨51, _⟩ => ⟨S32x32, .i32⟩
  | .hbm, ⟨52, _⟩ => ⟨S32x32, .i1⟩
  | .hbm, ⟨53, _⟩ => ⟨S_, .f32⟩
  | .hbm, ⟨54, _⟩ => ⟨S32x32, .f32⟩
  | .hbm, ⟨55, _⟩ => ⟨S32x32, .f32⟩
  | .hbm, ⟨56, _⟩ => ⟨S8x4x64x32, .f32⟩
  | .hbm, ⟨57, _⟩ => ⟨S8x32x4x64, .f32⟩
  | .hbm, ⟨58, _⟩ => ⟨S8x32x4x64, .f32⟩
  | .hbm, ⟨59, _⟩ => ⟨S8x32x4x64x1, .f32⟩
  | .hbm, ⟨60, _⟩ => ⟨S8x32x4x64x128, .f32⟩
  | .hbm, ⟨61, _⟩ => ⟨S8x32x4x64x128, .f32⟩
  | .hbm, ⟨62, _⟩ => ⟨S_, .f32⟩
  | .hbm, ⟨63, _⟩ => ⟨S8x4x64x128, .f32⟩
  | .hbm, ⟨64, _⟩ => ⟨S8x2x128x128, .f32⟩
  | _, _ => ⟨S8x2048x1552, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_v1 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_call1_call0_cst : Ref sig .tc := ⟨.hbm, 34, rfl⟩
abbrev main_call1_call0_v0 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_0 : Ref sig .tc := ⟨.hbm, 45, rfl⟩
abbrev main_v22 : Ref sig .tc := ⟨.hbm, 46, rfl⟩
abbrev main_call2_v0 : Ref sig .tc := ⟨.hbm, 47, rfl⟩
abbrev main_call2_c : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_cst : Ref sig .tc := ⟨.hbm, 53, rfl⟩
abbrev main_call2_v5 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_1 : Ref sig .tc := ⟨.hbm, 62, rfl⟩
abbrev main_v30 : Ref sig .tc := ⟨.hbm, 63, rfl⟩
abbrev main_v31 : Ref sig .tc := ⟨.hbm, 64, rfl⟩

abbrev nD : Nat := 1
abbrev τ : Topo := Topo.v7x

variable {F : FTy → Type} [FloatOps F]
-- ==== Gdn.lean ====
abbrev S17408x2056 : Shape := ⟨2, ![17408, 2056]⟩
abbrev S128x4x128x128 : Shape := ⟨4, ![128, 4, 128, 128]⟩
abbrev S128x3x1536 : Shape := ⟨3, ![128, 3, 1536]⟩
abbrev S4x1536 : Shape := ⟨2, ![4, 1536]⟩
abbrev S4 : Shape := ⟨1, ![4]⟩
abbrev S128 : Shape := ⟨1, ![128]⟩
abbrev S17408x2048 : Shape := ⟨2, ![17408, 2048]⟩
abbrev S17408x8 : Shape := ⟨2, ![17408, 8]⟩
abbrev S_ : Shape := ⟨0, ![]⟩
abbrev S17408x128 : Shape := ⟨2, ![17408, 128]⟩
abbrev S17408x2176 : Shape := ⟨2, ![17408, 2176]⟩
abbrev S1x4 : Shape := ⟨2, ![1, 4]⟩
abbrev S1x128 : Shape := ⟨2, ![1, 128]⟩
abbrev S1024x512 : Shape := ⟨2, ![1024, 512]⟩
abbrev S128x2176 : Shape := ⟨2, ![128, 2176]⟩
abbrev S16x4x128x128 : Shape := ⟨4, ![16, 4, 128, 128]⟩
abbrev S16x3x1536 : Shape := ⟨3, ![16, 3, 1536]⟩
abbrev S128x512 : Shape := ⟨2, ![128, 512]⟩
abbrev S16x16x1536 : Shape := ⟨3, ![16, 16, 1536]⟩
abbrev S1x8x8 : Shape := ⟨3, ![1, 8, 8]⟩
abbrev S16x8x8 : Shape := ⟨3, ![16, 8, 8]⟩
abbrev S64x8x8 : Shape := ⟨3, ![64, 8, 8]⟩
abbrev S128x1536 : Shape := ⟨2, ![128, 1536]⟩
abbrev S16x8x1536 : Shape := ⟨3, ![16, 8, 1536]⟩
abbrev S1x1536 : Shape := ⟨2, ![1, 1536]⟩
abbrev S1x1x1536 : Shape := ⟨3, ![1, 1, 1536]⟩
abbrev S128x128 : Shape := ⟨2, ![128, 128]⟩
abbrev S16x8x128 : Shape := ⟨3, ![16, 8, 128]⟩
abbrev S1x1x128 : Shape := ⟨3, ![1, 1, 128]⟩
abbrev S16x1x8x128 : Shape := ⟨4, ![16, 1, 8, 128]⟩
abbrev S16x4x8x128 : Shape := ⟨4, ![16, 4, 8, 128]⟩
abbrev S64x8x128 : Shape := ⟨3, ![64, 8, 128]⟩
abbrev S64x8 : Shape := ⟨2, ![64, 8]⟩
abbrev S64x8x1 : Shape := ⟨3, ![64, 8, 1]⟩
abbrev S16x8x1 : Shape := ⟨3, ![16, 8, 1]⟩
abbrev S16x1x8x1 : Shape := ⟨4, ![16, 1, 8, 1]⟩
abbrev S16x4x8x1 : Shape := ⟨4, ![16, 4, 8, 1]⟩
abbrev S64x128x128 : Shape := ⟨3, ![64, 128, 128]⟩
abbrev S64x1x1 : Shape := ⟨3, ![64, 1, 1]⟩
abbrev S16x8x512 : Shape := ⟨3, ![16, 8, 512]⟩

abbrev nBuf : Space → Nat
  | .hbm => 25
  | .vmem => 17
  | .smem => 0
  | _ => 0

abbrev bufTy : (tb : Table) → Fin (tcTables nBuf tb) → BufTy
  | .hbm, ⟨0, _⟩ => ⟨S17408x2056, .f32⟩
  | .hbm, ⟨1, _⟩ => ⟨S128x4x128x128, .f32⟩
  | .hbm, ⟨2, _⟩ => ⟨S128x3x1536, .f32⟩
  | .hbm, ⟨3, _⟩ => ⟨S4x1536, .f32⟩
  | .hbm, ⟨4, _⟩ => ⟨S4, .f32⟩
  | .hbm, ⟨5, _⟩ => ⟨S4, .f32⟩
  | .hbm, ⟨6, _⟩ => ⟨S128, .f32⟩
  | .hbm, ⟨7, _⟩ => ⟨S17408x2048, .f32⟩
  | .hbm, ⟨8, _⟩ => ⟨S17408x8, .f32⟩
  | .hbm, ⟨9, _⟩ => ⟨S_, .i32⟩
  | .hbm, ⟨10, _⟩ => ⟨S_, .f32⟩
  | .hbm, ⟨11, _⟩ => ⟨S17408x128, .f32⟩
  | .hbm, ⟨12, _⟩ => ⟨S17408x2176, .f32⟩
  | .hbm, ⟨13, _⟩ => ⟨S1x4, .f32⟩
  | .hbm, ⟨14, _⟩ => ⟨S_, .i32⟩
  | .hbm, ⟨15, _⟩ => ⟨S_, .f32⟩
  | .hbm, ⟨16, _⟩ => ⟨S1x128, .f32⟩
  | .hbm, ⟨17, _⟩ => ⟨S1x4, .f32⟩
  | .hbm, ⟨18, _⟩ => ⟨S_, .i32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S1024x512, .f32⟩
  | .hbm, ⟨23, _⟩ => ⟨S128x4x128x128, .f32⟩
  | .hbm, ⟨24, _⟩ => ⟨S128x3x1536, .f32⟩
  | .local _ .vmem, ⟨0, _⟩ => ⟨S128x2176, .f32⟩
  | .local _ .vmem, ⟨1, _⟩ => ⟨S128x2176, .f32⟩
  | .local _ .vmem, ⟨2, _⟩ => ⟨S16x4x128x128, .f32⟩
  | .local _ .vmem, ⟨3, _⟩ => ⟨S16x4x128x128, .f32⟩
  | .local _ .vmem, ⟨4, _⟩ => ⟨S16x3x1536, .f32⟩
  | .local _ .vmem, ⟨5, _⟩ => ⟨S16x3x1536, .f32⟩
  | .local _ .vmem, ⟨6, _⟩ => ⟨S4x1536, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x512, .f32⟩
  | .local _ .vmem, ⟨11, _⟩ => ⟨S128x512, .f32⟩
  | .local _ .vmem, ⟨12, _⟩ => ⟨S16x4x128x128, .f32⟩
  | .local _ .vmem, ⟨13, _⟩ => ⟨S16x4x128x128, .f32⟩
  | .local _ .vmem, ⟨14, _⟩ => ⟨S16x3x1536, .f32⟩
  | .local _ .vmem, ⟨15, _⟩ => ⟨S16x3x1536, .f32⟩
  | .local _ .vmem, ⟨16, _⟩ => ⟨S16x16x1536, .f32⟩
  | _, _ => ⟨S17408x2056, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_call2_v0 : Ref sig .tc := ⟨.hbm, 19, rfl⟩
abbrev main_v7 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev main_v9_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x2176 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x4x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x3x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S16x3x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== GdnRefIdeal.lean ====
abbrev S17408x2056 : Shape := ⟨2, ![17408, 2056]⟩
abbrev S128x4x128x128 : Shape := ⟨4, ![128, 4, 128, 128]⟩
abbrev S128x3x1536 : Shape := ⟨3, ![128, 3, 1536]⟩
abbrev S4x1536 : Shape := ⟨2, ![4, 1536]⟩
abbrev S4 : Shape := ⟨1, ![4]⟩
abbrev S128 : Shape := ⟨1, ![128]⟩
abbrev S1024x2056 : Shape := ⟨2, ![1024, 2056]⟩
abbrev S128x8x2056 : Shape := ⟨3, ![128, 8, 2056]⟩
abbrev S128x8x1536 : Shape := ⟨3, ![128, 8, 1536]⟩
abbrev S128x8x512 : Shape := ⟨3, ![128, 8, 512]⟩
abbrev S128x8x4 : Shape := ⟨3, ![128, 8, 4]⟩
abbrev S128x11x1536 : Shape := ⟨3, ![128, 11, 1536]⟩
abbrev S1x1536 : Shape := ⟨2, ![1, 1536]⟩
abbrev S1536 : Shape := ⟨1, ![1536]⟩
abbrev S1x1x1536 : Shape := ⟨3, ![1, 1, 1536]⟩
abbrev S_ : Shape := ⟨0, ![]⟩
abbrev S128x8x3x4x128 : Shape := ⟨5, ![128, 8, 3, 4, 128]⟩
abbrev S128x8x1x4x128 : Shape := ⟨5, ![128, 8, 1, 4, 128]⟩
abbrev S128x8x4x128 : Shape := ⟨4, ![128, 8, 4, 128]⟩
abbrev S128x8x4x1 : Shape := ⟨4, ![128, 8, 4, 1]⟩
abbrev S1x1x4 : Shape := ⟨3, ![1, 1, 4]⟩
abbrev S8x8 : Shape := ⟨2, ![8, 8]⟩
abbrev S128x4x8 : Shape := ⟨3, ![128, 4, 8]⟩
abbrev S128x4x8x1 : Shape := ⟨4, ![128, 4, 8, 1]⟩
abbrev S128x4x1x8 : Shape := ⟨4, ![128, 4, 1, 8]⟩
abbrev S128x4x8x8 : Shape := ⟨4, ![128, 4, 8, 8]⟩
abbrev S128x8x4x256 : Shape := ⟨4, ![128, 8, 4, 256]⟩
abbrev S128x1x4x256 : Shape := ⟨4, ![128, 1, 4, 256]⟩
abbrev S128x4x256 : Shape := ⟨3, ![128, 4, 256]⟩
abbrev S128x4x1x1 : Shape := ⟨4, ![128, 4, 1, 1]⟩
abbrev S128x4 : Shape := ⟨2, ![128, 4]⟩
abbrev S128x4x1 : Shape := ⟨3, ![128, 4, 1]⟩
abbrev S128x4x1x256 : Shape := ⟨4, ![128, 4, 1, 256]⟩
abbrev S128x4x8x256 : Shape := ⟨4, ![128, 4, 8, 256]⟩
abbrev S128x4x8x128 : Shape := ⟨4, ![128, 4, 8, 128]⟩
abbrev S128x4x128x8 : Shape := ⟨4, ![128, 4, 128, 8]⟩
abbrev S128x1x4 : Shape := ⟨3, ![128, 1, 4]⟩
abbrev S1x1x1x128 : Shape := ⟨4, ![1, 1, 1, 128]⟩
abbrev S1024x512 : Shape := ⟨2, ![1024, 512]⟩

abbrev nBuf : Space → Nat
  | .hbm => 422
  | .vmem => 0
  | .smem => 0
  | _ => 0

abbrev hbmTy0_0 (i : Nat) : BufTy := match i % 128 with
  | 0 => ⟨S17408x2056, .f32⟩
  | 1 => ⟨S128x4x128x128, .f32⟩
  | 2 => ⟨S128x3x1536, .f32⟩
  | 3 => ⟨S4x1536, .f32⟩
  | 4 => ⟨S4, .f32⟩
  | 5 => ⟨S4, .f32⟩
  | 6 => ⟨S128, .f32⟩
  | 7 => ⟨S1024x2056, .f32⟩
  | 8 => ⟨S128x8x2056, .f32⟩
  | 9 => ⟨S128x8x1536, .f32⟩
  | 10 => ⟨S128x8x512, .f32⟩
  | 11 => ⟨S128x8x4, .f32⟩
  | 12 => ⟨S128x8x4, .f32⟩
  | 13 => ⟨S128x11x1536, .f32⟩
  | 14 => ⟨S128x8x1536, .f32⟩
  | 15 => ⟨S1x1536, .f32⟩
  | 16 => ⟨S1536, .f32⟩
  | 17 => ⟨S1x1x1536, .f32⟩
  | 18 => ⟨S128x8x1536, .f32⟩
  | 19 => ⟨S128x8x1536, .f32⟩
  | 20 => ⟨S128x8x1536, .f32⟩
  | 21 => ⟨S1x1536, .f32⟩
  | 22 => ⟨S1536, .f32⟩
  | 23 => ⟨S1x1x1536, .f32⟩
  | 24 => ⟨S128x8x1536, .f32⟩
  | 25 => ⟨S128x8x1536, .f32⟩
  | 26 => ⟨S128x8x1536, .f32⟩
  | 27 => ⟨S128x8x1536, .f32⟩
  | 28 => ⟨S1x1536, .f32⟩
  | 29 => ⟨S1536, .f32⟩
  | 30 => ⟨S1x1x1536, .f32⟩
  | 31 => ⟨S128x8x1536, .f32⟩
  | 32 => ⟨S128x8x1536, .f32⟩
  | 33 => ⟨S128x8x1536, .f32⟩
  | 34 => ⟨S128x8x1536, .f32⟩
  | 35 => ⟨S1x1536, .f32⟩
  | 36 => ⟨S1536, .f32⟩
  | 37 => ⟨S1x1x1536, .f32⟩
  | 38 => ⟨S128x8x1536, .f32⟩
  | 39 => ⟨S128x8x1536, .f32⟩
  | 40 => ⟨S128x8x1536, .f32⟩
  | 41 => ⟨S128x3x1536, .f32⟩
  | 42 => ⟨S128x8x1536, .f32⟩
  | 43 => ⟨S128x8x1536, .f32⟩
  | 44 => ⟨S_, .f32⟩
  | 45 => ⟨S128x8x1536, .f32⟩
  | 46 => ⟨S128x8x1536, .f32⟩
  | 47 => ⟨S_, .f32⟩
  | 48 => ⟨S128x8x1536, .f32⟩
  | 49 => ⟨S128x8x1536, .f32⟩
  | 50 => ⟨S128x8x1536, .f32⟩
  | 51 => ⟨S128x8x3x4x128, .f32⟩
  | 52 => ⟨S128x8x1x4x128, .f32⟩
  | 53 => ⟨S128x8x4x128, .f32⟩
  | 54 => ⟨S128x8x1x4x128, .f32⟩
  | 55 => ⟨S128x8x4x128, .f32⟩
  | 56 => ⟨S128x8x1x4x128, .f32⟩
  | 57 => ⟨S128x8x4x128, .f32⟩
  | 58 => ⟨S128x8x4x128, .f32⟩
  | 59 => ⟨S_, .f32⟩
  | 60 => ⟨S128x8x4, .f32⟩
  | 61 => ⟨S128x8x4x1, .f32⟩
  | 62 => ⟨S_, .f32⟩
  | 63 => ⟨S128x8x4x1, .f32⟩
  | 64 => ⟨S128x8x4x1, .f32⟩
  | 65 => ⟨S128x8x4x1, .f32⟩
  | 66 => ⟨S128x8x4x128, .f32⟩
  | 67 => ⟨S128x8x4x128, .f32⟩
  | 68 => ⟨S_, .f32⟩
  | 69 => ⟨S128x8x4x128, .f32⟩
  | 70 => ⟨S128x8x4x128, .f32⟩
  | 71 => ⟨S128x8x4x128, .f32⟩
  | 72 => ⟨S_, .f32⟩
  | 73 => ⟨S128x8x4, .f32⟩
  | 74 => ⟨S128x8x4x1, .f32⟩
  | 75 => ⟨S_, .f32⟩
  | 76 => ⟨S128x8x4x1, .f32⟩
  | 77 => ⟨S128x8x4x1, .f32⟩
  | 78 => ⟨S128x8x4x1, .f32⟩
  | 79 => ⟨S128x8x4x128, .f32⟩
  | 80 => ⟨S128x8x4x128, .f32⟩
  | 81 => ⟨S128x8x4, .f32⟩
  | 82 => ⟨S128x8x4, .f32⟩
  | 83 => ⟨S_, .f32⟩
  | 84 => ⟨S128x8x4, .f32⟩
  | 85 => ⟨S128x8x4, .f32⟩
  | 86 => ⟨S_, .f32⟩
  | 87 => ⟨S128x8x4, .f32⟩
  | 88 => ⟨S128x8x4, .f32⟩
  | 89 => ⟨S4, .f32⟩
  | 90 => ⟨S4, .f32⟩
  | 91 => ⟨S1x1x4, .f32⟩
  | 92 => ⟨S128x8x4, .f32⟩
  | 93 => ⟨S128x8x4, .f32⟩
  | 94 => ⟨S_, .f32⟩
  | 95 => ⟨S128x8x4, .f32⟩
  | 96 => ⟨S128x8x4, .f32⟩
  | 97 => ⟨S128x8x4, .f32⟩
  | 98 => ⟨S128x8x4, .f32⟩
  | 99 => ⟨S128x8x4, .i1⟩
  | 100 => ⟨S128x8x4, .f32⟩
  | 101 => ⟨S128x8x4, .f32⟩
  | 102 => ⟨S128x8x4, .f32⟩
  | 103 => ⟨S128x8x4, .f32⟩
  | 104 => ⟨S128x8x4, .f32⟩
  | 105 => ⟨S128x8x4, .f32⟩
  | 106 => ⟨S128x8x4, .f32⟩
  | 107 => ⟨S128x8x4, .f32⟩
  | 108 => ⟨S1x1x4, .f32⟩
  | 109 => ⟨S128x8x4, .f32⟩
  | 110 => ⟨S128x8x4, .f32⟩
  | 111 => ⟨S_, .i1⟩
  | 112 => ⟨S8x8, .i1⟩
  | 113 => ⟨S8x8, .i32⟩
  | 114 => ⟨S_, .i32⟩
  | 115 => ⟨S8x8, .i32⟩
  | 116 => ⟨S8x8, .i32⟩
  | 117 => ⟨S8x8, .i32⟩
  | 118 => ⟨S8x8, .i1⟩
  | 119 => ⟨S_, .i1⟩
  | 120 => ⟨S8x8, .i1⟩
  | 121 => ⟨S8x8, .i1⟩
  | 122 => ⟨S_, .i1⟩
  | 123 => ⟨S8x8, .i1⟩
  | 124 => ⟨S8x8, .i32⟩
  | 125 => ⟨S_, .i32⟩
  | 126 => ⟨S8x8, .i32⟩
  | 127 => ⟨S8x8, .i32⟩
  | _ => ⟨S17408x2056, .f32⟩

abbrev hbmTy0_1 (i : Nat) : BufTy := match i % 128 with
  | 0 => ⟨S8x8, .i32⟩
  | 1 => ⟨S8x8, .i1⟩
  | 2 => ⟨S_, .i1⟩
  | 3 => ⟨S8x8, .i1⟩
  | 4 => ⟨S8x8, .i1⟩
  | 5 => ⟨S_, .f32⟩
  | 6 => ⟨S_, .f32⟩
  | 7 => ⟨S128x8x4, .f32⟩
  | 8 => ⟨S128x4x8, .f32⟩
  | 9 => ⟨S128x4x8x1, .f32⟩
  | 10 => ⟨S128x4x1x8, .f32⟩
  | 11 => ⟨S128x4x8x8, .f32⟩
  | 12 => ⟨S128x4x8x8, .f32⟩
  | 13 => ⟨S128x4x8x8, .f32⟩
  | 14 => ⟨S_, .f32⟩
  | 15 => ⟨S_, .f32⟩
  | 16 => ⟨S128x4x8x8, .i1⟩
  | 17 => ⟨S128x4x8x8, .f32⟩
  | 18 => ⟨S128x4x8x8, .f32⟩
  | 19 => ⟨S128x4x8x8, .f32⟩
  | 20 => ⟨S_, .f32⟩
  | 21 => ⟨S_, .f32⟩
  | 22 => ⟨S128x4x8x8, .i1⟩
  | 23 => ⟨S128x4x8x8, .f32⟩
  | 24 => ⟨S128x4x8x8, .f32⟩
  | 25 => ⟨S128x8x4x1, .f32⟩
  | 26 => ⟨S128x8x4x128, .f32⟩
  | 27 => ⟨S128x8x4x128, .f32⟩
  | 28 => ⟨S128x4x8x8, .f32⟩
  | 29 => ⟨S128x4x8x8, .f32⟩
  | 30 => ⟨S_, .f32⟩
  | 31 => ⟨S_, .f32⟩
  | 32 => ⟨S128x4x8x8, .i1⟩
  | 33 => ⟨S128x4x8x8, .f32⟩
  | 34 => ⟨S128x4x8x8, .f32⟩
  | 35 => ⟨S128x8x4x1, .f32⟩
  | 36 => ⟨S128x8x4x128, .f32⟩
  | 37 => ⟨S128x8x4x128, .f32⟩
  | 38 => ⟨S128x8x4, .f32⟩
  | 39 => ⟨S128x8x4x1, .f32⟩
  | 40 => ⟨S128x8x4x128, .f32⟩
  | 41 => ⟨S128x8x4x128, .f32⟩
  | 42 => ⟨S128x8x4x256, .f32⟩
  | 43 => ⟨S128x1x4x256, .f32⟩
  | 44 => ⟨S128x4x256, .f32⟩
  | 45 => ⟨S128x1x4x256, .f32⟩
  | 46 => ⟨S128x4x256, .f32⟩
  | 47 => ⟨S128x4x1x1, .f32⟩
  | 48 => ⟨S128x4, .f32⟩
  | 49 => ⟨S128x4x1, .f32⟩
  | 50 => ⟨S128x4x256, .f32⟩
  | 51 => ⟨S128x4x256, .f32⟩
  | 52 => ⟨S128x4x256, .f32⟩
  | 53 => ⟨S128x1x4x256, .f32⟩
  | 54 => ⟨S128x4x256, .f32⟩
  | 55 => ⟨S128x4x1x1, .f32⟩
  | 56 => ⟨S128x4, .f32⟩
  | 57 => ⟨S128x4x1, .f32⟩
  | 58 => ⟨S128x4x256, .f32⟩
  | 59 => ⟨S128x4x256, .f32⟩
  | 60 => ⟨S128x4x256, .f32⟩
  | 61 => ⟨S128x4x1x1, .f32⟩
  | 62 => ⟨S128x4, .f32⟩
  | 63 => ⟨S128x4x1, .f32⟩
  | 64 => ⟨S128x4x256, .f32⟩
  | 65 => ⟨S128x4x256, .f32⟩
  | 66 => ⟨S128x4x256, .f32⟩
  | 67 => ⟨S128x1x4x256, .f32⟩
  | 68 => ⟨S128x4x256, .f32⟩
  | 69 => ⟨S128x4x1x1, .f32⟩
  | 70 => ⟨S128x4, .f32⟩
  | 71 => ⟨S128x4x1, .f32⟩
  | 72 => ⟨S128x4x256, .f32⟩
  | 73 => ⟨S128x4x256, .f32⟩
  | 74 => ⟨S128x4x256, .f32⟩
  | 75 => ⟨S128x4x1x1, .f32⟩
  | 76 => ⟨S128x4, .f32⟩
  | 77 => ⟨S128x4x1, .f32⟩
  | 78 => ⟨S128x4x256, .f32⟩
  | 79 => ⟨S128x4x256, .f32⟩
  | 80 => ⟨S128x4x256, .f32⟩
  | 81 => ⟨S128x4x1x1, .f32⟩
  | 82 => ⟨S128x4, .f32⟩
  | 83 => ⟨S128x4x1, .f32⟩
  | 84 => ⟨S128x4x256, .f32⟩
  | 85 => ⟨S128x4x256, .f32⟩
  | 86 => ⟨S128x4x256, .f32⟩
  | 87 => ⟨S128x1x4x256, .f32⟩
  | 88 => ⟨S128x4x256, .f32⟩
  | 89 => ⟨S128x4x1x1, .f32⟩
  | 90 => ⟨S128x4, .f32⟩
  | 91 => ⟨S128x4x1, .f32⟩
  | 92 => ⟨S128x4x256, .f32⟩
  | 93 => ⟨S128x4x256, .f32⟩
  | 94 => ⟨S128x4x256, .f32⟩
  | 95 => ⟨S128x4x1x1, .f32⟩
  | 96 => ⟨S128x4, .f32⟩
  | 97 => ⟨S128x4x1, .f32⟩
  | 98 => ⟨S128x4x256, .f32⟩
  | 99 => ⟨S128x4x256, .f32⟩
  | 100 => ⟨S128x4x256, .f32⟩
  | 101 => ⟨S128x4x1x1, .f32⟩
  | 102 => ⟨S128x4, .f32⟩
  | 103 => ⟨S128x4x1, .f32⟩
  | 104 => ⟨S128x4x256, .f32⟩
  | 105 => ⟨S128x4x256, .f32⟩
  | 106 => ⟨S128x4x256, .f32⟩
  | 107 => ⟨S128x4x1x1, .f32⟩
  | 108 => ⟨S128x4, .f32⟩
  | 109 => ⟨S128x4x1, .f32⟩
  | 110 => ⟨S128x4x256, .f32⟩
  | 111 => ⟨S128x4x256, .f32⟩
  | 112 => ⟨S128x4x256, .f32⟩
  | 113 => ⟨S128x1x4x256, .f32⟩
  | 114 => ⟨S128x4x256, .f32⟩
  | 115 => ⟨S128x4x1x1, .f32⟩
  | 116 => ⟨S128x4, .f32⟩
  | 117 => ⟨S128x4x1, .f32⟩
  | 118 => ⟨S128x4x256, .f32⟩
  | 119 => ⟨S128x4x256, .f32⟩
  | 120 => ⟨S128x4x256, .f32⟩
  | 121 => ⟨S128x4x1x1, .f32⟩
  | 122 => ⟨S128x4, .f32⟩
  | 123 => ⟨S128x4x1, .f32⟩
  | 124 => ⟨S128x4x256, .f32⟩
  | 125 => ⟨S128x4x256, .f32⟩
  | 126 => ⟨S128x4x256, .f32⟩
  | 127 => ⟨S128x4x1x1, .f32⟩
  | _ => ⟨S17408x2056, .f32⟩

abbrev hbmTy0_2 (i : Nat) : BufTy := match i % 128 with
  | 0 => ⟨S128x4, .f32⟩
  | 1 => ⟨S128x4x1, .f32⟩
  | 2 => ⟨S128x4x256, .f32⟩
  | 3 => ⟨S128x4x256, .f32⟩
  | 4 => ⟨S128x4x256, .f32⟩
  | 5 => ⟨S128x4x1x1, .f32⟩
  | 6 => ⟨S128x4, .f32⟩
  | 7 => ⟨S128x4x1, .f32⟩
  | 8 => ⟨S128x4x256, .f32⟩
  | 9 => ⟨S128x4x256, .f32⟩
  | 10 => ⟨S128x4x256, .f32⟩
  | 11 => ⟨S128x4x1x1, .f32⟩
  | 12 => ⟨S128x4, .f32⟩
  | 13 => ⟨S128x4x1, .f32⟩
  | 14 => ⟨S128x4x256, .f32⟩
  | 15 => ⟨S128x4x256, .f32⟩
  | 16 => ⟨S128x4x256, .f32⟩
  | 17 => ⟨S128x1x4x256, .f32⟩
  | 18 => ⟨S128x4x256, .f32⟩
  | 19 => ⟨S128x4x1x1, .f32⟩
  | 20 => ⟨S128x4, .f32⟩
  | 21 => ⟨S128x4x1, .f32⟩
  | 22 => ⟨S128x4x256, .f32⟩
  | 23 => ⟨S128x4x256, .f32⟩
  | 24 => ⟨S128x4x256, .f32⟩
  | 25 => ⟨S128x4x1x1, .f32⟩
  | 26 => ⟨S128x4, .f32⟩
  | 27 => ⟨S128x4x1, .f32⟩
  | 28 => ⟨S128x4x256, .f32⟩
  | 29 => ⟨S128x4x256, .f32⟩
  | 30 => ⟨S128x4x256, .f32⟩
  | 31 => ⟨S128x4x1x1, .f32⟩
  | 32 => ⟨S128x4, .f32⟩
  | 33 => ⟨S128x4x1, .f32⟩
  | 34 => ⟨S128x4x256, .f32⟩
  | 35 => ⟨S128x4x256, .f32⟩
  | 36 => ⟨S128x4x256, .f32⟩
  | 37 => ⟨S128x4x1x1, .f32⟩
  | 38 => ⟨S128x4, .f32⟩
  | 39 => ⟨S128x4x1, .f32⟩
  | 40 => ⟨S128x4x256, .f32⟩
  | 41 => ⟨S128x4x256, .f32⟩
  | 42 => ⟨S128x4x256, .f32⟩
  | 43 => ⟨S128x4x1x1, .f32⟩
  | 44 => ⟨S128x4, .f32⟩
  | 45 => ⟨S128x4x1, .f32⟩
  | 46 => ⟨S128x4x256, .f32⟩
  | 47 => ⟨S128x4x256, .f32⟩
  | 48 => ⟨S128x4x256, .f32⟩
  | 49 => ⟨S128x4x1x1, .f32⟩
  | 50 => ⟨S128x4, .f32⟩
  | 51 => ⟨S128x4x1, .f32⟩
  | 52 => ⟨S128x4x256, .f32⟩
  | 53 => ⟨S128x4x256, .f32⟩
  | 54 => ⟨S128x4x256, .f32⟩
  | 55 => ⟨S128x1x4x256, .f32⟩
  | 56 => ⟨S128x4x256, .f32⟩
  | 57 => ⟨S128x4x1x1, .f32⟩
  | 58 => ⟨S128x4, .f32⟩
  | 59 => ⟨S128x4x1, .f32⟩
  | 60 => ⟨S128x4x256, .f32⟩
  | 61 => ⟨S128x4x256, .f32⟩
  | 62 => ⟨S128x4x256, .f32⟩
  | 63 => ⟨S128x4x1x1, .f32⟩
  | 64 => ⟨S128x4, .f32⟩
  | 65 => ⟨S128x4x1, .f32⟩
  | 66 => ⟨S128x4x256, .f32⟩
  | 67 => ⟨S128x4x256, .f32⟩
  | 68 => ⟨S128x4x256, .f32⟩
  | 69 => ⟨S128x4x1x1, .f32⟩
  | 70 => ⟨S128x4, .f32⟩
  | 71 => ⟨S128x4x1, .f32⟩
  | 72 => ⟨S128x4x256, .f32⟩
  | 73 => ⟨S128x4x256, .f32⟩
  | 74 => ⟨S128x4x256, .f32⟩
  | 75 => ⟨S128x4x1x1, .f32⟩
  | 76 => ⟨S128x4, .f32⟩
  | 77 => ⟨S128x4x1, .f32⟩
  | 78 => ⟨S128x4x256, .f32⟩
  | 79 => ⟨S128x4x256, .f32⟩
  | 80 => ⟨S128x4x256, .f32⟩
  | 81 => ⟨S128x4x1x1, .f32⟩
  | 82 => ⟨S128x4, .f32⟩
  | 83 => ⟨S128x4x1, .f32⟩
  | 84 => ⟨S128x4x256, .f32⟩
  | 85 => ⟨S128x4x256, .f32⟩
  | 86 => ⟨S128x4x256, .f32⟩
  | 87 => ⟨S128x4x1x1, .f32⟩
  | 88 => ⟨S128x4, .f32⟩
  | 89 => ⟨S128x4x1, .f32⟩
  | 90 => ⟨S128x4x256, .f32⟩
  | 91 => ⟨S128x4x256, .f32⟩
  | 92 => ⟨S128x4x256, .f32⟩
  | 93 => ⟨S128x4x1x1, .f32⟩
  | 94 => ⟨S128x4, .f32⟩
  | 95 => ⟨S128x4x1, .f32⟩
  | 96 => ⟨S128x4x256, .f32⟩
  | 97 => ⟨S128x4x256, .f32⟩
  | 98 => ⟨S128x4x256, .f32⟩
  | 99 => ⟨S128x4x1x256, .f32⟩
  | 100 => ⟨S128x4x1x256, .f32⟩
  | 101 => ⟨S128x4x1x256, .f32⟩
  | 102 => ⟨S128x4x1x256, .f32⟩
  | 103 => ⟨S128x4x1x256, .f32⟩
  | 104 => ⟨S128x4x1x256, .f32⟩
  | 105 => ⟨S128x4x1x256, .f32⟩
  | 106 => ⟨S128x4x1x256, .f32⟩
  | 107 => ⟨S128x4x8x256, .f32⟩
  | 108 => ⟨S128x4x8x128, .f32⟩
  | 109 => ⟨S128x4x8x128, .f32⟩
  | 110 => ⟨S128x4x8x128, .f32⟩
  | 111 => ⟨S128x4x8x128, .f32⟩
  | 112 => ⟨S128x4x8x8, .f32⟩
  | 113 => ⟨S128x4x8x8, .f32⟩
  | 114 => ⟨S128x8x4, .f32⟩
  | 115 => ⟨S128x8x4x1, .f32⟩
  | 116 => ⟨S128x8x4x128, .f32⟩
  | 117 => ⟨S128x8x4x128, .f32⟩
  | 118 => ⟨S128x4x128x8, .f32⟩
  | 119 => ⟨S128x8x4x128, .f32⟩
  | 120 => ⟨S128x4x128x8, .f32⟩
  | 121 => ⟨S128x8x4x128, .f32⟩
  | 122 => ⟨S128x8x4x128, .f32⟩
  | 123 => ⟨S128x1x4, .f32⟩
  | 124 => ⟨S128x4, .f32⟩
  | 125 => ⟨S128x4, .f32⟩
  | 126 => ⟨S128x4x1x1, .f32⟩
  | 127 => ⟨S128x4x128x128, .f32⟩
  | _ => ⟨S17408x2056, .f32⟩

abbrev hbmTy0_3 (i : Nat) : BufTy := match i % 128 with
  | 0 => ⟨S128x4x128x128, .f32⟩
  | 1 => ⟨S128x1x4, .f32⟩
  | 2 => ⟨S128x8x4, .f32⟩
  | 3 => ⟨S128x8x4, .f32⟩
  | 4 => ⟨S128x8x4, .f32⟩
  | 5 => ⟨S128x8x4x1, .f32⟩
  | 6 => ⟨S128x8x4x128, .f32⟩
  | 7 => ⟨S128x8x4x128, .f32⟩
  | 8 => ⟨S128x4x128x128, .f32⟩
  | 9 => ⟨S128x4x128x128, .f32⟩
  | 10 => ⟨S128x8x4x128, .f32⟩
  | 11 => ⟨S_, .f32⟩
  | 12 => ⟨S128x8x4, .f32⟩
  | 13 => ⟨S128x8x4x1, .f32⟩
  | 14 => ⟨S_, .f32⟩
  | 15 => ⟨S128x8x4x1, .f32⟩
  | 16 => ⟨S128x8x4x1, .f32⟩
  | 17 => ⟨S_, .f32⟩
  | 18 => ⟨S128x8x4x1, .f32⟩
  | 19 => ⟨S128x8x4x1, .f32⟩
  | 20 => ⟨S128x8x4x1, .f32⟩
  | 21 => ⟨S128x8x4x128, .f32⟩
  | 22 => ⟨S128x8x4x128, .f32⟩
  | 23 => ⟨S1x1x1x128, .f32⟩
  | 24 => ⟨S128x8x4x128, .f32⟩
  | 25 => ⟨S128x8x4x128, .f32⟩
  | 26 => ⟨S128x8x4x128, .f32⟩
  | 27 => ⟨S128x8x4x128, .f32⟩
  | 28 => ⟨S128x8x4x128, .f32⟩
  | 29 => ⟨S_, .f32⟩
  | 30 => ⟨S128x8x4x128, .f32⟩
  | 31 => ⟨S128x8x4x128, .f32⟩
  | 32 => ⟨S_, .f32⟩
  | 33 => ⟨S128x8x4x128, .f32⟩
  | 34 => ⟨S128x8x4x128, .f32⟩
  | 35 => ⟨S128x8x4x128, .f32⟩
  | 36 => ⟨S128x8x4x128, .f32⟩
  | 37 => ⟨S1024x512, .f32⟩
  | _ => ⟨S17408x2056, .f32⟩

abbrev hbmTy (i : Nat) : BufTy := match i / 128 with
  | 0 => hbmTy0_0 i
  | 1 => hbmTy0_1 i
  | 2 => hbmTy0_2 i
  | 3 => hbmTy0_3 i
  | _ => ⟨S17408x2056, .f32⟩

abbrev bufTy : (tb : Table) → Fin (tcTables nBuf tb) → BufTy
  | .hbm, ⟨i, _⟩ => hbmTy i
  | _, _ => ⟨S17408x2056, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst : Ref sig .tc := ⟨.hbm, 59, rfl⟩
abbrev main_v44 : Ref sig .tc := ⟨.hbm, 60, rfl⟩
abbrev main_v45 : Ref sig .tc := ⟨.hbm, 61, rfl⟩
abbrev main_cst_0 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_1 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_2 : Ref sig .tc := ⟨.hbm, 72, rfl⟩
abbrev main_v54 : Ref sig .tc := ⟨.hbm, 73, rfl⟩
abbrev main_v55 : Ref sig .tc := ⟨.hbm, 74, rfl⟩
abbrev main_cst_3 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_4 : Ref sig .tc := ⟨.hbm, 83, rfl⟩
abbrev main_v63 : Ref sig .tc := ⟨.hbm, 84, rfl⟩
abbrev main_v64 : Ref sig .tc := ⟨.hbm, 85, rfl⟩
abbrev main_cst_5 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_call1_cst : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_call1_v5 : Ref sig .tc := ⟨.hbm, 100, rfl⟩
abbrev main_call1_v6 : Ref sig .tc := ⟨.hbm, 101, rfl⟩
abbrev main_call1_v7 : Ref sig .tc := ⟨.hbm, 102, rfl⟩
abbrev main_call1_v8 : Ref sig .tc := ⟨.hbm, 103, rfl⟩
abbrev main_call1_v9 : Ref sig .tc := ⟨.hbm, 104, rfl⟩
abbrev main_call1_v10 : Ref sig .tc := ⟨.hbm, 105, rfl⟩
abbrev main_call1_v11 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_c : Ref sig .tc := ⟨.hbm, 111, rfl⟩
abbrev main_v76 : Ref sig .tc := ⟨.hbm, 112, rfl⟩
abbrev main_call2_v0 : Ref sig .tc := ⟨.hbm, 113, rfl⟩
abbrev main_call2_c : Ref sig .tc := ⟨.hbm, 114, rfl⟩
abbrev main_call2_v1 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_call2_c_0 : Ref sig .tc := ⟨.hbm, 119, rfl⟩
abbrev main_call2_v5 : Ref sig .tc := ⟨.hbm, 120, rfl⟩
abbrev main_v77 : Ref sig .tc := ⟨.hbm, 121, rfl⟩
abbrev main_c_6 : Ref sig .tc := ⟨.hbm, 122, rfl⟩
abbrev main_v78 : Ref sig .tc := ⟨.hbm, 123, rfl⟩
abbrev main_call3_v0 : Ref sig .tc := ⟨.hbm, 124, rfl⟩
abbrev main_call3_c : Ref sig .tc := ⟨.hbm, 125, rfl⟩
abbrev main_call3_v1 : Ref sig .tc := ⟨.hbm, 126, rfl⟩
abbrev main_call3_v2 : Ref sig .tc := ⟨.hbm, 127, rfl⟩
abbrev main_call3_v3 : Ref sig .tc := ⟨.hbm, 128, rfl⟩
abbrev main_call3_v4 : Ref sig .tc := ⟨.hbm, 129, rfl⟩
abbrev main_call3_c_0 : Ref sig .tc := ⟨.hbm, 130, rfl⟩
abbrev main_call3_v5 : Ref sig .tc := ⟨.hbm, 131, rfl⟩
abbrev main_v79 : Ref sig .tc := ⟨.hbm, 132, rfl⟩
abbrev main_call4_call0_cst : Ref sig .tc := ⟨.hbm, 133, rfl⟩
abbrev main_call4_call0_v0 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_cst_7 : Ref sig .tc := ⟨.hbm, 142, rfl⟩
abbrev main_call5_v0 : Ref sig .tc := ⟨.hbm, 143, rfl⟩
abbrev main_call5_v1 : Ref sig .tc := ⟨.hbm, 144, rfl⟩
abbrev main_call5_v2 : Ref sig .tc := ⟨.hbm, 145, rfl⟩
abbrev main_v87 : Ref sig .tc := ⟨.hbm, 146, rfl⟩
abbrev main_v88 : Ref sig .tc := ⟨.hbm, 147, rfl⟩
abbrev main_cst_8 : Ref sig .tc := ⟨.hbm, 148, rfl⟩
abbrev main_call6_v0 : Ref sig .tc := ⟨.hbm, 149, rfl⟩
abbrev main_call6_v1 : Ref sig .tc := ⟨.hbm, 150, rfl⟩
abbrev main_call6_v2 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_cst_9 : Ref sig .tc := ⟨.hbm, 158, rfl⟩
abbrev main_call7_v0 : Ref sig .tc := ⟨.hbm, 159, rfl⟩
abbrev main_call7_v1 : Ref sig .tc := ⟨.hbm, 160, rfl⟩
abbrev main_call7_v2 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_v203 : Ref sig .tc := ⟨.hbm, 270, rfl⟩
abbrev main_v204 : Ref sig .tc := ⟨.hbm, 271, rfl⟩
abbrev main_v205 : Ref sig .tc := ⟨.hbm, 272, rfl⟩
abbrev main_v206 : Ref sig .tc := ⟨.hbm, 273, rfl⟩
abbrev main_v207 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_v212 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_v217 : Ref sig .tc := ⟨.hbm, 284, rfl⟩
abbrev main_v218 : Ref sig .tc := ⟨.hbm, 285, rfl⟩
abbrev main_v219 : Ref sig .tc := ⟨.hbm, 286, rfl⟩
abbrev main_v220 : Ref sig .tc := ⟨.hbm, 287, rfl⟩
abbrev main_v221 : Ref sig .tc := ⟨.hbm, 288, rfl⟩
abbrev main_v222 : Ref sig .tc := ⟨.hbm, 289, rfl⟩
abbrev main_v223 : Ref sig .tc := ⟨.hbm, 290, rfl⟩
abbrev main_v224 : Ref sig .tc := ⟨.hbm, 291, rfl⟩
abbrev main_v225 : Ref sig .tc := ⟨.hbm, 292, rfl⟩
abbrev main_v226 : Ref sig .tc := ⟨.hbm, 293, rfl⟩
abbrev main_v227 : Ref sig .tc := ⟨.hbm, 294, rfl⟩
abbrev main_v228 : Ref sig .tc := ⟨.hbm, 295, rfl⟩
abbrev main_v229 : Ref sig .tc := ⟨.hbm, 296, rfl⟩
abbrev main_v230 : Ref sig .tc := ⟨.hbm, 297, rfl⟩
abbrev main_v231 : Ref sig .tc := ⟨.hbm, 298, rfl⟩
abbrev main_v232 : Ref sig .tc := ⟨.hbm, 299, rfl⟩
abbrev main_v233 : Ref sig .tc := ⟨.hbm, 300, rfl⟩
abbrev main_v234 : Ref sig .tc := ⟨.hbm, 301, rfl⟩
abbrev main_v235 : Ref sig .tc := ⟨.hbm, 302, rfl⟩
abbrev main_v236 : Ref sig .tc := ⟨.hbm, 303, rfl⟩
abbrev main_v237 : Ref sig .tc := ⟨.hbm, 304, rfl⟩
abbrev main_v238 : Ref sig .tc := ⟨.hbm, 305, rfl⟩
abbrev main_v239 : Ref sig .tc := ⟨.hbm, 306, rfl⟩
abbrev main_v240 : Ref sig .tc := ⟨.hbm, 307, rfl⟩
abbrev main_v241 : Ref sig .tc := ⟨.hbm, 308, rfl⟩
abbrev main_v242 : Ref sig .tc := ⟨.hbm, 309, rfl⟩
abbrev main_v243 : Ref sig .tc := ⟨.hbm, 310, rfl⟩
abbrev main_v244 : Ref sig .tc := ⟨.hbm, 311, rfl⟩
abbrev main_v245 : Ref sig .tc := ⟨.hbm, 312, rfl⟩
abbrev main_v246 : Ref sig .tc := ⟨.hbm, 313, rfl⟩
abbrev main_v247 : Ref sig .tc := ⟨.hbm, 314, rfl⟩
abbrev main_v248 : Ref sig .tc := ⟨.hbm, 315, rfl⟩
abbrev main_v249 : Ref sig .tc := ⟨.hbm, 316, rfl⟩
abbrev main_v250 : Ref sig .tc := ⟨.hbm, 317, rfl⟩
abbrev main_v251 : Ref sig .tc := ⟨.hbm, 318, rfl⟩
abbrev main_v252 : Ref sig .tc := ⟨.hbm, 319, rfl⟩
abbrev main_v253 : Ref sig .tc := ⟨.hbm, 320, rfl⟩
abbrev main_v254 : Ref sig .tc := ⟨.hbm, 321, rfl⟩
abbrev main_v255 : Ref sig .tc := ⟨.hbm, 322, rfl⟩
abbrev main_v256 : Ref sig .tc := ⟨.hbm, 323, rfl⟩
abbrev main_v257 : Ref sig .tc := ⟨.hbm, 324, rfl⟩
abbrev main_v258 : Ref sig .tc := ⟨.hbm, 325, rfl⟩
abbrev main_v259 : Ref sig .tc := ⟨.hbm, 326, rfl⟩
abbrev main_v260 : Ref sig .tc := ⟨.hbm, 327, rfl⟩
abbrev main_v261 : Ref sig .tc := ⟨.hbm, 328, rfl⟩
abbrev main_v262 : Ref sig .tc := ⟨.hbm, 329, rfl⟩
abbrev main_v263 : Ref sig .tc := ⟨.hbm, 330, rfl⟩
abbrev main_v264 : Ref sig .tc := ⟨.hbm, 331, rfl⟩
abbrev main_v265 : Ref sig .tc := ⟨.hbm, 332, rfl⟩
abbrev main_v266 : Ref sig .tc := ⟨.hbm, 333, rfl⟩
abbrev main_v267 : Ref sig .tc := ⟨.hbm, 334, rfl⟩
abbrev main_v268 : Ref sig .tc := ⟨.hbm, 335, rfl⟩
abbrev main_v269 : Ref sig .tc := ⟨.hbm, 336, rfl⟩
abbrev main_v270 : Ref sig .tc := ⟨.hbm, 337, rfl⟩
abbrev main_v271 : Ref sig .tc := ⟨.hbm, 338, rfl⟩
abbrev main_v272 : Ref sig .tc := ⟨.hbm, 339, rfl⟩
abbrev main_v273 : Ref sig .tc := ⟨.hbm, 340, rfl⟩
abbrev main_v274 : Ref sig .tc := ⟨.hbm, 341, rfl⟩
abbrev main_v275 : Ref sig .tc := ⟨.hbm, 342, rfl⟩
abbrev main_v276 : Ref sig .tc := ⟨.hbm, 343, rfl⟩
abbrev main_v277 : Ref sig .tc := ⟨.hbm, 344, rfl⟩
abbrev main_v278 : Ref sig .tc := ⟨.hbm, 345, rfl⟩
abbrev main_v279 : Ref sig .tc := ⟨.hbm, 346, rfl⟩
abbrev main_v280 : Ref sig .tc := ⟨.hbm, 347, rfl⟩
abbrev main_v281 : Ref sig .tc := ⟨.hbm, 348, rfl⟩
abbrev main_v282 : Ref sig .tc := ⟨.hbm, 349, rfl⟩
abbrev main_v283 : Ref sig .tc := ⟨.hbm, 350, rfl⟩
abbrev main_v284 : Ref sig .tc := ⟨.hbm, 351, rfl⟩
abbrev main_v285 : Ref sig .tc := ⟨.hbm, 352, rfl⟩
abbrev main_v286 : Ref sig .tc := ⟨.hbm, 353, rfl⟩
abbrev main_v287 : Ref sig .tc := ⟨.hbm, 354, rfl⟩
abbrev main_v288 : Ref sig .tc := ⟨.hbm, 355, rfl⟩
abbrev main_v289 : Ref sig .tc := ⟨.hbm, 356, rfl⟩
abbrev main_v290 : Ref sig .tc := ⟨.hbm, 357, rfl⟩
abbrev main_v291 : Ref sig .tc := ⟨.hbm, 358, rfl⟩
abbrev main_v292 : Ref sig .tc := ⟨.hbm, 359, rfl⟩
abbrev main_v293 : Ref sig .tc := ⟨.hbm, 360, rfl⟩
abbrev main_v294 : Ref sig .tc := ⟨.hbm, 361, rfl⟩
abbrev main_v295 : Ref sig .tc := ⟨.hbm, 362, rfl⟩
abbrev main_v296 : Ref sig .tc := ⟨.hbm, 363, rfl⟩
abbrev main_v297 : Ref sig .tc := ⟨.hbm, 364, rfl⟩
abbrev main_v298 : Ref sig .tc := ⟨.hbm, 365, rfl⟩
abbrev main_v299 : Ref sig .tc := ⟨.hbm, 366, rfl⟩
abbrev main_v300 : Ref sig .tc := ⟨.hbm, 367, rfl⟩
abbrev main_v301 : Ref sig .tc := ⟨.hbm, 368, rfl⟩
abbrev main_v302 : Ref sig .tc := ⟨.hbm, 369, rfl⟩
abbrev main_v303 : Ref sig .tc := ⟨.hbm, 370, rfl⟩
abbrev main_v304 : Ref sig .tc := ⟨.hbm, 371, rfl⟩
abbrev main_v305 : Ref sig .tc := ⟨.hbm, 372, rfl⟩
abbrev main_v306 : Ref sig .tc := ⟨.hbm, 373, rfl⟩
abbrev main_v307 : Ref sig .tc := ⟨.hbm, 374, rfl⟩
abbrev main_v308 : Ref sig .tc := ⟨.hbm, 375, rfl⟩
abbrev main_v309 : Ref sig .tc := ⟨.hbm, 376, rfl⟩
abbrev main_v310 : Ref sig .tc := ⟨.hbm, 377, rfl⟩
abbrev main_v311 : Ref sig .tc := ⟨.hbm, 378, rfl⟩
abbrev main_v312 : Ref sig .tc := ⟨.hbm, 379, rfl⟩
abbrev main_v313 : Ref sig .tc := ⟨.hbm, 380, rfl⟩
abbrev main_v314 : Ref sig .tc := ⟨.hbm, 381, rfl⟩
abbrev main_v315 : Ref sig .tc := ⟨.hbm, 382, rfl⟩
abbrev main_v316 : Ref sig .tc := ⟨.hbm, 383, rfl⟩
abbrev main_v317 : Ref sig .tc := ⟨.hbm, 384, rfl⟩
abbrev main_v318 : Ref sig .tc := ⟨.hbm, 385, rfl⟩
abbrev main_v319 : Ref sig .tc := ⟨.hbm, 386, rfl⟩
abbrev main_v320 : Ref sig .tc := ⟨.hbm, 387, rfl⟩
abbrev main_v321 : Ref sig .tc := ⟨.hbm, 388, rfl⟩
abbrev main_v322 : Ref sig .tc := ⟨.hbm, 389, rfl⟩
abbrev main_v323 : Ref sig .tc := ⟨.hbm, 390, rfl⟩
abbrev main_v324 : Ref sig .tc := ⟨.hbm, 391, rfl⟩
abbrev main_v325 : Ref sig .tc := ⟨.hbm, 392, rfl⟩
abbrev main_v326 : Ref sig .tc := ⟨.hbm, 393, rfl⟩
abbrev main_v327 : Ref sig .tc := ⟨.hbm, 394, rfl⟩
abbrev main_cst_10 : Ref sig .tc := ⟨.hbm, 395, rfl⟩
abbrev main_v328 : Ref sig .tc := ⟨.hbm, 396, rfl⟩
abbrev main_v329 : Ref sig .tc := ⟨.hbm, 397, rfl⟩
abbrev main_cst_11 : Ref sig .tc := ⟨.hbm, 398, rfl⟩
abbrev main_v330 : Ref sig .tc := ⟨.hbm, 399, rfl⟩
abbrev main_v331 : Ref sig .tc := ⟨.hbm, 400, rfl⟩
abbrev main_cst_12 : Ref sig .tc := ⟨.hbm, 401, rfl⟩
abbrev main_v332 : Ref sig .tc := ⟨.hbm, 402, rfl⟩
abbrev main_v333 : Ref sig .tc := ⟨.hbm, 403, rfl⟩
abbrev main_v334 : Ref sig .tc := ⟨.hbm, 404, rfl⟩
abbrev main_v335 : Ref sig .tc := ⟨.hbm, 405, rfl⟩
abbrev main_v336 : Ref sig .tc := ⟨.hbm, 406, rfl⟩
abbrev main_v337 : Ref sig .tc := ⟨.hbm, 407, rfl⟩
abbrev main_v338 : Ref sig .tc := ⟨.hbm, 408, rfl⟩
abbrev main_v339 : Ref sig .tc := ⟨.hbm, 409, rfl⟩
abbrev main_v340 : Ref sig .tc := ⟨.hbm, 410, rfl⟩
abbrev main_call8_v0 : Ref sig .tc := ⟨.hbm, 411, rfl⟩
abbrev main_call8_v1 : Ref sig .tc := ⟨.hbm, 412, rfl⟩
abbrev main_call8_cst : Ref sig .tc := ⟨.hbm, 413, rfl⟩
abbrev main_call8_v2 : Ref sig .tc := ⟨.hbm, 414, rfl⟩
abbrev main_call8_v3 : Ref sig .tc := ⟨.hbm, 415, rfl⟩
abbrev main_call8_cst_0 : Ref sig .tc := ⟨.hbm, 416, rfl⟩
abbrev main_call8_v4 : Ref sig .tc := ⟨.hbm, 417, rfl⟩
abbrev main_call8_v5 : Ref sig .tc := ⟨.hbm, 418, rfl⟩
abbrev main_v341 : Ref sig .tc := ⟨.hbm, 419, rfl⟩
abbrev main_v342 : Ref sig .tc := ⟨.hbm, 420, rfl⟩
abbrev main_v343 : Ref sig .tc := ⟨.hbm, 421, rfl⟩

abbrev nD : Nat := 1
abbrev τ : Topo := Topo.v7x

variable {F : FTy → Type} [FloatOps F]
-- ==== InProj.lean ====
abbrev S17408x1024 : Shape := ⟨2, ![17408, 1024]⟩
abbrev S1024 : Shape := ⟨1, ![1024]⟩
abbrev S1024x3608 : Shape := ⟨2, ![1024, 3608]⟩
abbrev S1024x1536 : Shape := ⟨2, ![1024, 1536]⟩
abbrev S1024x16 : Shape := ⟨2, ![1024, 16]⟩
abbrev S_ : Shape := ⟨0, ![]⟩
abbrev S1024x128 : Shape := ⟨2, ![1024, 128]⟩
abbrev S1024x2048 : Shape := ⟨2, ![1024, 2048]⟩
abbrev S1024x8 : Shape := ⟨2, ![1024, 8]⟩
abbrev S1024x3840 : Shape := ⟨2, ![1024, 3840]⟩
abbrev S1x1024 : Shape := ⟨2, ![1, 1024]⟩
abbrev S17408x1664 : Shape := ⟨2, ![17408, 1664]⟩
abbrev S17408x2176 : Shape := ⟨2, ![17408, 2176]⟩
abbrev S256x1024 : Shape := ⟨2, ![256, 1024]⟩
abbrev S256x1664 : Shape := ⟨2, ![256, 1664]⟩
abbrev S256x2176 : Shape := ⟨2, ![256, 2176]⟩
abbrev S256 : Shape := ⟨1, ![256]⟩
abbrev S256x1 : Shape := ⟨2, ![256, 1]⟩
abbrev S1024x1664 : Shape := ⟨2, ![1024, 1664]⟩
abbrev S1024x2176 : Shape := ⟨2, ![1024, 2176]⟩

abbrev nBuf : Space → Nat
  | .hbm => 18
  | .vmem => 8
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x3608, .f32⟩
  | .hbm, ⟨3, _⟩ => ⟨S1024x1536, .f32⟩
  | .hbm, ⟨4, _⟩ => ⟨S1024x16, .f32⟩
  | .hbm, ⟨5, _⟩ => ⟨S_, .i32⟩
  | .hbm, ⟨6, _⟩ => ⟨S_, .f32⟩
  | .hbm, ⟨7, _⟩ => ⟨S1024x128, .f32⟩
  | .hbm, ⟨8, _⟩ => ⟨S1024x2048, .f32⟩
  | .hbm, ⟨9, _⟩ => ⟨S1024x8, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x3840, .f32⟩
  | .hbm, ⟨14, _⟩ => ⟨S1024x3840, .bf16⟩
  | .hbm, ⟨15, _⟩ => ⟨S1x1024, .f32⟩
  | .hbm, ⟨16, _⟩ => ⟨S17408x1664, .f32⟩
  | .hbm, ⟨17, _⟩ => ⟨S17408x2176, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3840, .bf16⟩
  | .local _ .vmem, ⟨4, _⟩ => ⟨S256x1664, .f32⟩
  | .local _ .vmem, ⟨5, _⟩ => ⟨S256x1664, .f32⟩
  | .local _ .vmem, ⟨6, _⟩ => ⟨S256x2176, .f32⟩
  | .local _ .vmem, ⟨7, _⟩ => ⟨S256x2176, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3840 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2176 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InProjRefIdeal.lean ====
abbrev S17408x1024 : Shape := ⟨2, ![17408, 1024]⟩
abbrev S1024 : Shape := ⟨1, ![1024]⟩
abbrev S1024x3608 : Shape := ⟨2, ![1024, 3608]⟩
abbrev S_ : Shape := ⟨0, ![]⟩
abbrev S17408 : Shape := ⟨1, ![17408]⟩
abbrev S17408x1 : Shape := ⟨2, ![17408, 1]⟩
abbrev S1x1024 : Shape := ⟨2, ![1, 1024]⟩
abbrev S17408x3608 : Shape := ⟨2, ![17408, 3608]⟩
abbrev S17408x1552 : Shape := ⟨2, ![17408, 1552]⟩
abbrev S17408x1664 : Shape := ⟨2, ![17408, 1664]⟩
abbrev S17408x2056 : Shape := ⟨2, ![17408, 2056]⟩
abbrev S17408x2176 : Shape := ⟨2, ![17408, 2176]⟩

abbrev nBuf : Space → Nat
  | .hbm => 28
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x3608, .f32⟩
  | .hbm, ⟨3, _⟩ => ⟨S17408x1024, .f32⟩
  | .hbm, ⟨4, _⟩ => ⟨S_, .f32⟩
  | .hbm, ⟨5, _⟩ => ⟨S17408, .f32⟩
  | .hbm, ⟨6, _⟩ => ⟨S17408x1, .f32⟩
  | .hbm, ⟨7, _⟩ => ⟨S_, .f32⟩
  | .hbm, ⟨8, _⟩ => ⟨S17408x1, .f32⟩
  | .hbm, ⟨9, _⟩ => ⟨S17408x1, .f32⟩
  | .hbm, ⟨10, _⟩ => ⟨S_, .f32⟩
  | .hbm, ⟨11, _⟩ => ⟨S17408x1, .f32⟩
  | .hbm, ⟨12, _⟩ => ⟨S17408x1, .f32⟩
  | .hbm, ⟨13, _⟩ => ⟨S17408x1, .f32⟩
  | .hbm, ⟨14, _⟩ => ⟨S17408x1024, .f32⟩
  | .hbm, ⟨15, _⟩ => ⟨S17408x1024, .f32⟩
  | .hbm, ⟨16, _⟩ => ⟨S1x1024, .f32⟩
  | .hbm, ⟨17, _⟩ => ⟨S17408x1024, .f32⟩
  | .hbm, ⟨18, _⟩ => ⟨S17408x1024, .f32⟩
  | .hbm, ⟨19, _⟩ => ⟨S17408x3608, .f32⟩
  | .hbm, ⟨20, _⟩ => ⟨S17408x1552, .f32⟩
  | .hbm, ⟨21, _⟩ => ⟨S_, .i32⟩
  | .hbm, ⟨22, _⟩ => ⟨S_, .f32⟩
  | .hbm, ⟨23, _⟩ => ⟨S17408x1664, .f32⟩
  | .hbm, ⟨24, _⟩ => ⟨S17408x2056, .f32⟩
  | .hbm, ⟨25, _⟩ => ⟨S_, .i32⟩
  | .hbm, ⟨26, _⟩ => ⟨S_, .f32⟩
  | .hbm, ⟨27, _⟩ => ⟨S17408x2176, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_call1_v0 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Mid.lean ====
abbrev S17408x1024 : Shape := ⟨2, ![17408, 1024]⟩
abbrev S17408x512 : Shape := ⟨2, ![17408, 512]⟩
abbrev S1024x1024 : Shape := ⟨2, ![1024, 1024]⟩
abbrev S1024 : Shape := ⟨1, ![1024]⟩
abbrev S1024x2048 : Shape := ⟨2, ![1024, 2048]⟩
abbrev S8x2x128x128 : Shape := ⟨4, ![8, 2, 128, 128]⟩
abbrev S16x128x128 : Shape := ⟨3, ![16, 128, 128]⟩
abbrev S1x1024 : Shape := ⟨2, ![1, 1024]⟩
abbrev S16x128x17408 : Shape := ⟨3, ![16, 128, 17408]⟩
abbrev S256x1024 : Shape := ⟨2, ![256, 1024]⟩
abbrev S256x512 : Shape := ⟨2, ![256, 512]⟩
abbrev S16x128x256 : Shape := ⟨3, ![16, 128, 256]⟩
abbrev S512x1024 : Shape := ⟨2, ![512, 1024]⟩
abbrev S256 : Shape := ⟨1, ![256]⟩
abbrev S256x1 : Shape := ⟨2, ![256, 1]⟩
abbrev S256x2048 : Shape := ⟨2, ![256, 2048]⟩
abbrev S1x128x128 : Shape := ⟨3, ![1, 128, 128]⟩
abbrev S128x128 : Shape := ⟨2, ![128, 128]⟩
abbrev S256x128 : Shape := ⟨2, ![256, 128]⟩
abbrev S128x256 : Shape := ⟨2, ![128, 256]⟩
abbrev S1x128x256 : Shape := ⟨3, ![1, 128, 256]⟩

abbrev nBuf : Space → Nat
  | .hbm => 17
  | .vmem => 17
  | .smem => 0
  | _ => 0

abbrev bufTy : (tb : Table) → Fin (tcTables nBuf tb) → BufTy
  | .hbm, ⟨0, _⟩ => ⟨S17408x1024, .f32⟩
  | .hbm, ⟨1, _⟩ => ⟨S17408x512, .f32⟩
  | .hbm, ⟨2, _⟩ => ⟨S17408x512, .f32⟩
  | .hbm, ⟨3, _⟩ => ⟨S1024x1024, .f32⟩
  | .hbm, ⟨4, _⟩ => ⟨S1024, .f32⟩
  | .hbm, ⟨5, _⟩ => ⟨S1024x2048, .f32⟩
  | .hbm, ⟨6, _⟩ => ⟨S8x2x128x128, .f32⟩
  | .hbm, ⟨7, _⟩ => ⟨S1024x2048, .bf16⟩
  | .hbm, ⟨8, _⟩ => ⟨S1024x2048, .f32⟩
  | .hbm, ⟨9, _⟩ => ⟨S1024x2048, .f32⟩
  | .hbm, ⟨10, _⟩ => ⟨S1024x2048, .bf16⟩
  | .hbm, ⟨11, _⟩ => ⟨S16x128x128, .f32⟩
  | .hbm, ⟨12, _⟩ => ⟨S1024x1024, .bf16⟩
  | .hbm, ⟨13, _⟩ => ⟨S1x1024, .f32⟩
  | .hbm, ⟨14, _⟩ => ⟨S17408x1024, .f32⟩
  | .hbm, ⟨15, _⟩ => ⟨S17408x1024, .bf16⟩
  | .hbm, ⟨16, _⟩ => ⟨S16x128x17408, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1024x1024, .bf16⟩
  | .local _ .vmem, ⟨7, _⟩ => ⟨S1x1024, .f32⟩
  | .local _ .vmem, ⟨8, _⟩ => ⟨S1024x2048, .bf16⟩
  | .local _ .vmem, ⟨9, _⟩ => ⟨S1024x2048, .bf16⟩
  | .local _ .vmem, ⟨10, _⟩ => ⟨S16x128x128, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S16x128x256, .f32⟩
  | .local _ .vmem, ⟨16, _⟩ => ⟨S16x128x256, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MidRefIdeal.lean ====
abbrev S17408x1024 : Shape := ⟨2, ![17408, 1024]⟩
abbrev S17408x512 : Shape := ⟨2, ![17408, 512]⟩
abbrev S1024x1024 : Shape := ⟨2, ![1024, 1024]⟩
abbrev S1024 : Shape := ⟨1, ![1024]⟩
abbrev S1024x2048 : Shape := ⟨2, ![1024, 2048]⟩
abbrev S8x2x128x128 : Shape := ⟨4, ![8, 2, 128, 128]⟩
abbrev S_ : Shape := ⟨0, ![]⟩
abbrev S17408 : Shape := ⟨1, ![17408]⟩
abbrev S17408x1 : Shape := ⟨2, ![17408, 1]⟩
abbrev S1x1024 : Shape := ⟨2, ![1, 1024]⟩
abbrev S17408x2048 : Shape := ⟨2, ![17408, 2048]⟩
abbrev S17408x8x2x128 : Shape := ⟨4, ![17408, 8, 2, 128]⟩
abbrev S8x2x128x17408 : Shape := ⟨4, ![8, 2, 128, 17408]⟩
abbrev S16x128x17408 : Shape := ⟨3, ![16, 128, 17408]⟩

abbrev nBuf : Space → Nat
  | .hbm => 31
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S17408x512, .f32⟩
  | .hbm, ⟨2, _⟩ => ⟨S17408x512, .f32⟩
  | .hbm, ⟨3, _⟩ => ⟨S1024x1024, .f32⟩
  | .hbm, ⟨4, _⟩ => ⟨S1024, .f32⟩
  | .hbm, ⟨5, _⟩ => ⟨S1024x2048, .f32⟩
  | .hbm, ⟨6, _⟩ => ⟨S8x2x128x128, .f32⟩
  | .hbm, ⟨7, _⟩ => ⟨S17408x1024, .f32⟩
  | .hbm, ⟨8, _⟩ => ⟨S17408x1024, .f32⟩
  | .hbm, ⟨9, _⟩ => ⟨S17408x1024, .f32⟩
  | .hbm, ⟨10, _⟩ => ⟨S17408x1024, .f32⟩
  | .hbm, ⟨11, _⟩ => ⟨S_, .f32⟩
  | .hbm, ⟨12, _⟩ => ⟨S17408, .f32⟩
  | .hbm, ⟨13, _⟩ => ⟨S17408x1, .f32⟩
  | .hbm, ⟨14, _⟩ => ⟨S_, .f32⟩
  | .hbm, ⟨15, _⟩ => ⟨S17408x1, .f32⟩
  | .hbm, ⟨16, _⟩ => ⟨S17408x1, .f32⟩
  | .hbm, ⟨17, _⟩ => ⟨S_, .f32⟩
  | .hbm, ⟨18, _⟩ => ⟨S17408x1, .f32⟩
  | .hbm, ⟨19, _⟩ => ⟨S17408x1, .f32⟩
  | .hbm, ⟨20, _⟩ => ⟨S17408x1, .f32⟩
  | .hbm, ⟨21, _⟩ => ⟨S17408x1024, .f32⟩
  | .hbm, ⟨22, _⟩ => ⟨S17408x1024, .f32⟩
  | .hbm, ⟨23, _⟩ => ⟨S1x1024, .f32⟩
  | .hbm, ⟨24, _⟩ => ⟨S17408x1024, .f32⟩
  | .hbm, ⟨25, _⟩ => ⟨S17408x1024, .f32⟩
  | .hbm, ⟨26, _⟩ => ⟨S17408x2048, .f32⟩
  | .hbm, ⟨27, _⟩ => ⟨S17408x8x2x128, .f32⟩
  | .hbm, ⟨28, _⟩ => ⟨S8x2x128x17408, .f32⟩
  | .hbm, ⟨29, _⟩ => ⟨S17408x1024, .bf16⟩
  | .hbm, ⟨30, _⟩ => ⟨S16x128x17408, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Ple.lean ====
abbrev S17408x1024 : Shape := ⟨2, ![17408, 1024]⟩
abbrev S17408x256 : Shape := ⟨2, ![17408, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S17408x1024, .f32⟩
  | .hbm, ⟨1, _⟩ => ⟨S17408x1024, .f32⟩
  | .hbm, ⟨2, _⟩ => ⟨S17408x256, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S256x1024, .f32⟩
  | .hbm, ⟨7, _⟩ => ⟨S1024, .f32⟩
  | .hbm, ⟨8, _⟩ => ⟨S1x1024, .f32⟩
  | .hbm, ⟨9, _⟩ => ⟨S1024x1024, .bf16⟩
  | .hbm, ⟨10, _⟩ => ⟨S1x1024, .f32⟩
  | .hbm, ⟨11, _⟩ => ⟨S256x1024, .bf16⟩
  | .hbm, ⟨12, _⟩ => ⟨S1x1024, .f32⟩
  | .hbm, ⟨13, _⟩ => ⟨S17408x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x256, .f32⟩
  | .local _ .vmem, ⟨5, _⟩ => ⟨S512x256, .f32⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S256x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PleRefIdeal.lean ====
abbrev S17408x1024 : Shape := ⟨2, ![17408, 1024]⟩
abbrev S17408x256 : Shape := ⟨2, ![17408, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S17408 : Shape := ⟨1, ![17408]⟩
abbrev S17408x1 : Shape := ⟨2, ![17408, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S17408x1024, .f32⟩
  | .hbm, ⟨2, _⟩ => ⟨S17408x256, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S256x1024, .f32⟩
  | .hbm, ⟨7, _⟩ => ⟨S1024, .f32⟩
  | .hbm, ⟨8, _⟩ => ⟨S17408x1024, .f32⟩
  | .hbm, ⟨9, _⟩ => ⟨S17408x1024, .f32⟩
  | .hbm, ⟨10, _⟩ => ⟨S_, .f32⟩
  | .hbm, ⟨11, _⟩ => ⟨S17408, .f32⟩
  | .hbm, ⟨12, _⟩ => ⟨S17408x1, .f32⟩
  | .hbm, ⟨13, _⟩ => ⟨S_, .f32⟩
  | .hbm, ⟨14, _⟩ => ⟨S17408x1, .f32⟩
  | .hbm, ⟨15, _⟩ => ⟨S17408x1, .f32⟩
  | .hbm, ⟨16, _⟩ => ⟨S_, .f32⟩
  | .hbm, ⟨17, _⟩ => ⟨S17408x1, .f32⟩
  | .hbm, ⟨18, _⟩ => ⟨S17408x1, .f32⟩
  | .hbm, ⟨19, _⟩ => ⟨S17408x1, .f32⟩
  | .hbm, ⟨20, _⟩ => ⟨S17408x1024, .f32⟩
  | .hbm, ⟨21, _⟩ => ⟨S17408x1024, .f32⟩
  | .hbm, ⟨22, _⟩ => ⟨S1x1024, .f32⟩
  | .hbm, ⟨23, _⟩ => ⟨S17408x1024, .f32⟩
  | .hbm, ⟨24, _⟩ => ⟨S17408x1024, .f32⟩
  | .hbm, ⟨25, _⟩ => ⟨S17408x1024, .f32⟩
  | .hbm, ⟨26, _⟩ => ⟨S1x1024, .f32⟩
  | .hbm, ⟨27, _⟩ => ⟨S17408x1024, .f32⟩
  | .hbm, ⟨28, _⟩ => ⟨S17408x1024, .f32⟩
  | .hbm, ⟨29, _⟩ => ⟨S17408x1024, .f32⟩
  | .hbm, ⟨30, _⟩ => ⟨S17408x1024, .f32⟩
  | .hbm, ⟨31, _⟩ => ⟨S_, .f32⟩
  | .hbm, ⟨32, _⟩ => ⟨S17408x1024, .f32⟩
  | .hbm, ⟨33, _⟩ => ⟨S17408x1024, .f32⟩
  | .hbm, ⟨34, _⟩ => ⟨S_, .f32⟩
  | .hbm, ⟨35, _⟩ => ⟨S17408x1024, .f32⟩
  | .hbm, ⟨36, _⟩ => ⟨S17408x1024, .f32⟩
  | .hbm, ⟨37, _⟩ => ⟨S17408x1024, .f32⟩
  | .hbm, ⟨38, _⟩ => ⟨S17408x1024, .f32⟩
  | .hbm, ⟨39, _⟩ => ⟨S17408x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== PleFinal.lean ====
abbrev S17408x1024 : Shape := ⟨2, ![17408, 1024]⟩
abbrev S17408x256 : Shape := ⟨2, ![17408, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S17408x1024, .f32⟩
  | .hbm, ⟨1, _⟩ => ⟨S17408x1024, .f32⟩
  | .hbm, ⟨2, _⟩ => ⟨S17408x256, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S256x1024, .f32⟩
  | .hbm, ⟨7, _⟩ => ⟨S1024, .f32⟩
  | .hbm, ⟨8, _⟩ => ⟨S1x1024, .f32⟩
  | .hbm, ⟨9, _⟩ => ⟨S1024x1024, .bf16⟩
  | .hbm, ⟨10, _⟩ => ⟨S1x1024, .f32⟩
  | .hbm, ⟨11, _⟩ => ⟨S256x1024, .bf16⟩
  | .hbm, ⟨12, _⟩ => ⟨S1x1024, .f32⟩
  | .hbm, ⟨13, _⟩ => ⟨S17408x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x256, .f32⟩
  | .local _ .vmem, ⟨5, _⟩ => ⟨S512x256, .f32⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S256x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PleFinalRefIdeal.lean ====
abbrev S17408x1024 : Shape := ⟨2, ![17408, 1024]⟩
abbrev S17408x256 : Shape := ⟨2, ![17408, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S17408 : Shape := ⟨1, ![17408]⟩
abbrev S17408x1 : Shape := ⟨2, ![17408, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S17408x1024, .f32⟩
  | .hbm, ⟨2, _⟩ => ⟨S17408x256, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S256x1024, .f32⟩
  | .hbm, ⟨7, _⟩ => ⟨S1024, .f32⟩
  | .hbm, ⟨8, _⟩ => ⟨S17408x1024, .f32⟩
  | .hbm, ⟨9, _⟩ => ⟨S17408x1024, .f32⟩
  | .hbm, ⟨10, _⟩ => ⟨S_, .f32⟩
  | .hbm, ⟨11, _⟩ => ⟨S17408, .f32⟩
  | .hbm, ⟨12, _⟩ => ⟨S17408x1, .f32⟩
  | .hbm, ⟨13, _⟩ => ⟨S_, .f32⟩
  | .hbm, ⟨14, _⟩ => ⟨S17408x1, .f32⟩
  | .hbm, ⟨15, _⟩ => ⟨S17408x1, .f32⟩
  | .hbm, ⟨16, _⟩ => ⟨S_, .f32⟩
  | .hbm, ⟨17, _⟩ => ⟨S17408x1, .f32⟩
  | .hbm, ⟨18, _⟩ => ⟨S17408x1, .f32⟩
  | .hbm, ⟨19, _⟩ => ⟨S17408x1, .f32⟩
  | .hbm, ⟨20, _⟩ => ⟨S17408x1024, .f32⟩
  | .hbm, ⟨21, _⟩ => ⟨S17408x1024, .f32⟩
  | .hbm, ⟨22, _⟩ => ⟨S1x1024, .f32⟩
  | .hbm, ⟨23, _⟩ => ⟨S17408x1024, .f32⟩
  | .hbm, ⟨24, _⟩ => ⟨S17408x1024, .f32⟩
  | .hbm, ⟨25, _⟩ => ⟨S17408x1024, .f32⟩
  | .hbm, ⟨26, _⟩ => ⟨S1x1024, .f32⟩
  | .hbm, ⟨27, _⟩ => ⟨S17408x1024, .f32⟩
  | .hbm, ⟨28, _⟩ => ⟨S17408x1024, .f32⟩
  | .hbm, ⟨29, _⟩ => ⟨S17408x1024, .f32⟩
  | .hbm, ⟨30, _⟩ => ⟨S17408x1024, .f32⟩
  | .hbm, ⟨31, _⟩ => ⟨S_, .f32⟩
  | .hbm, ⟨32, _⟩ => ⟨S17408x1024, .f32⟩
  | .hbm, ⟨33, _⟩ => ⟨S17408x1024, .f32⟩
  | .hbm, ⟨34, _⟩ => ⟨S_, .f32⟩
  | .hbm, ⟨35, _⟩ => ⟨S17408x1024, .f32⟩
  | .hbm, ⟨36, _⟩ => ⟨S17408x1024, .f32⟩
  | .hbm, ⟨37, _⟩ => ⟨S17408x1024, .f32⟩
  | .hbm, ⟨38, _⟩ => ⟨S17408x1024, .f32⟩
  | .hbm, ⟨39, _⟩ => ⟨S17408x1024, .f32⟩
  | .hbm, ⟨40, _⟩ => ⟨S17408x1024, .f32⟩
  | .hbm, ⟨41, _⟩ => ⟨S_, .f32⟩
  | .hbm, ⟨42, _⟩ => ⟨S17408, .f32⟩
  | .hbm, ⟨43, _⟩ => ⟨S17408x1, .f32⟩
  | .hbm, ⟨44, _⟩ => ⟨S_, .f32⟩
  | .hbm, ⟨45, _⟩ => ⟨S17408x1, .f32⟩
  | .hbm, ⟨46, _⟩ => ⟨S17408x1, .f32⟩
  | .hbm, ⟨47, _⟩ => ⟨S_, .f32⟩
  | .hbm, ⟨48, _⟩ => ⟨S17408x1, .f32⟩
  | .hbm, ⟨49, _⟩ => ⟨S17408x1, .f32⟩
  | .hbm, ⟨50, _⟩ => ⟨S17408x1, .f32⟩
  | .hbm, ⟨51, _⟩ => ⟨S17408x1024, .f32⟩
  | .hbm, ⟨52, _⟩ => ⟨S17408x1024, .f32⟩
  | .hbm, ⟨53, _⟩ => ⟨S1x1024, .f32⟩
  | .hbm, ⟨54, _⟩ => ⟨S17408x1024, .f32⟩
  | .hbm, ⟨55, _⟩ => ⟨S17408x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Proof.GlaSums.lean ====
/-
  Facts about sums and about the gate of the gated linear attention, used
  to compare the kernel with its reference.
-/
module

public import proofs.«01_k».proof.Proof.Gen.GlaRefIdeal.Read
public import Idealize.ShloMosaic.Lib.Pipeline.ValueKit

@[expose] public section

set_option maxRecDepth 16384

noncomputable section

open Idealize.ShloMosaic Idealize.ShloMosaic.TcCoe Idealize.SL.Sem

namespace Cert.GlaSums

/-- A sum over 128 lanes of which only the first 64 count. -/
theorem sum_lo (f : Fin 128 → EReal) : (∑ l : Fin 128, if l.val < 64 then f l else 0) = ∑ d : Fin 64, f ⟨d.val, by omega⟩ := by
  rw [Fin.sum_univ_two_halves 64 64 rfl]
  have e : (∑ d : Fin 64, if (64 + d.val) < 64 then f ⟨64 + d.val, by omega⟩ else 0) = 0 :=
    Finset.sum_eq_zero fun d _ => if_neg (by omega)
  refine (congrArg₂ (· + ·) (Finset.sum_congr rfl fun d _ => if_pos d.isLt) e).trans (add_zero _)

/-- A sum over 128 lanes of which only the last 64 count. -/
theorem sum_hi (f : Fin 128 → EReal) : (∑ l : Fin 128, if 64 ≤ l.val then f l else 0) = ∑ d : Fin 64, f ⟨64 + d.val, by omega⟩ := by
  rw [Fin.sum_univ_two_halves 64 64 rfl]
  have e : (∑ d : Fin 64, if 64 ≤ d.val then f ⟨d.val, by omega⟩ else 0) = 0 :=
    Finset.sum_eq_zero fun d _ => if_neg (by omega)
  refine (congrArg₂ (· + ·) e (Finset.sum_congr rfl fun d _ => if_pos (Nat.le_add_right 64 d.val))).trans (zero_add _)

/-- A sum with one term. -/
theorem sum_one (r : Fin 128) (f : Fin 128 → EReal) : (∑ l : Fin 128, if l.val = r.val then f l else 0) = f r := by
  rw [Finset.sum_eq_single r (fun l _ hl => if_neg fun h => hl (Fin.ext h)) (fun h => absurd (Finset.mem_univ r) h), if_pos rfl]

/-- The log of the logistic function, scaled by a sixteenth, in the two forms in which it is written. -/
theorem gate (z : EReal) :
    (min z 0 - Ideal.log1p (Ideal.exp (0 - max z (-z)))) * Ideal.ofBits .f32 0x3D800000#32
    = Ideal.div (-(max (-z) 0 + Ideal.log1p (Ideal.exp (-(max (-z) (-(-z))))))) (Ideal.ofBits .f32 0x41800000#32) := by
  have e16 : Ideal.ofBits .f32 0x41800000#32 = ((16 : ℝ) : EReal) := by
    simp [Ideal.ofBits, Ideal.ieee, -EReal.coe_mul]; norm_num
  have e1 : Ideal.ofBits .f32 0x3D800000#32 = ((1 / 16 : ℝ) : EReal) := by
    simp [Ideal.ofBits, Ideal.ieee, -EReal.coe_mul]; norm_num
  have hl : Ideal.log1p (Ideal.exp (0 - max z (-z))) ≠ ⊥ := by
    have hp : ∀ y : EReal, 0 ≤ Ideal.exp y := fun y => by
      induction y with
      | bot => exact le_refl _
      | top => exact le_top
      | coe r => exact EReal.coe_nonneg.2 (Real.exp_pos r).le
    have hq : ∀ y : EReal, 0 ≤ y → Ideal.log1p y ≠ ⊥ := fun y hy => by
      induction y with
      | bot => simp at hy
      | top =>
        have e : (1 : EReal) + ⊤ = ⊤ := EReal.add_top_of_ne_bot (EReal.coe_ne_bot 1)
        rw [Ideal.log1p, e]
        exact fun h => absurd (show (⊤ : EReal) = ⊥ from h) top_ne_bot
      | coe r =>
        have hr : 0 ≤ r := EReal.coe_nonneg.1 hy
        have e : Ideal.log1p (r : EReal) = if (1 + r) ≤ 0 then ⊥ else (Real.log (1 + r) : EReal) := rfl
        rw [e, if_neg (by linarith)]
        exact EReal.coe_ne_bot _
    exact hq _ (hp _)
  have ha : max (-z) 0 ≠ ⊥ := fun h => by
    have : (0 : EReal) ≤ ⊥ := h ▸ le_max_right (-z) 0
    simp at this
  have hm : min z 0 = -(max (-z) 0) := by
    rcases le_total z 0 with h | h
    · rw [min_eq_left h, max_eq_left (by rw [← neg_zero]; exact EReal.neg_le_neg_iff.2 h), neg_neg]
    · rw [min_eq_right h, max_eq_right (by rw [← neg_zero]; exact EReal.neg_le_neg_iff.2 h), neg_zero]
  rw [e16, e1, Ideal.div, if_neg (by norm_num), ← EReal.coe_inv]
  rw [zero_sub] at hl ⊢
  rw [neg_neg, max_comm (-z) z]
  rw [EReal.neg_add (Or.inl ha) (Or.inr hl), ← hm]
  norm_num

/-- A sum of eight terms, term by term. -/
theorem sum8 {N : Nat} (hN : N = 8) (f : Fin N → EReal) (g : Fin 8 → EReal) (h : ∀ k : Fin N, f k = g (k.cast hN)) :
    (List.finRange N).foldl (fun r n => r + f n) 0 = g 0 + g 1 + g 2 + g 3 + g 4 + g 5 + g 6 + g 7 := by
  subst hN
  simp [List.finRange_succ, h]

/-- The position in the window of the running sum is the row. -/
theorem place : ∀ n : Fin (Shape.numel ⟨4, ![1, 8, 1, 1]⟩), ((Shape.rowMajor ⟨4, ![1, 8, 1, 1]⟩).symm n 0).val = 0
    ∧ ((Shape.rowMajor ⟨4, ![1, 8, 1, 1]⟩).symm n 1).val = n.val ∧ ((Shape.rowMajor ⟨4, ![1, 8, 1, 1]⟩).symm n 2).val = 0
    ∧ ((Shape.rowMajor ⟨4, ![1, 8, 1, 1]⟩).symm n 3).val = 0 := by decide +kernel

open Cert.GlaRefIdeal Cert.GlaRefIdeal.Gen in
/-- The running sum over the eight rows of a sequence: row by row, the sum of the rows up to it. -/
theorem running (x : S128x8x4x64.Idx → EReal) (z : S_.Idx → EReal) (hz : z (Shape.Idx.first h_S_) = 0) (n : Fin 128) (s : Fin 8) (h : Fin 4) (d : Fin 64) :
    Host.reduceWindowAdd (F := Ideal) (φ := .f32) ![1, 8, 1, 1] ![1, 1, 1, 1] ![0, 7, 0, 0] ![0, 0, 0, 0] x z reduceWindows_S128x8x4x64_S128x8x4x64_w1s1p0_0_w8s1p7_0_w1s1p0_0_w1s1p0_0 h_S_ (ix4 n s h d)
    = ∑ j : Fin 8, if j ≤ s then x (ix4 n j h d) else 0 := by
  unfold Host.reduceWindowAdd
  change Ideal.hostReduceWindowAdd _ _ _ _ _ x (z (Shape.Idx.first h_S_)) _ = _
  rw [hz]
  unfold Ideal.hostReduceWindowAdd Host.reduceWindow
  dsimp only
  refine (sum8 (by decide) _ (fun k : Fin 8 => if hk : 7 ≤ s.val + k.val then x (ix4 n ⟨s.val + k.val - 7, by omega⟩ h d) else 0) (fun k => ?_)).trans ?_
  · have hN : Shape.numel ⟨4, ![1, 8, 1, 1]⟩ = 8 := by decide
    have hk8 : k.val < 8 := (k.cast hN).isLt
    obtain ⟨p0, p1, p2, p3⟩ := place k
    by_cases hk : 7 ≤ s.val + k.val
    · have hin : ∀ a, (![0, 7, 0, 0] : Fin 4 → Nat) a ≤ ((ix4 n s h d : S128x8x4x64.Idx) a).val * (![1, 1, 1, 1] : Fin 4 → Nat) a + ((Shape.rowMajor ⟨4, ![1, 8, 1, 1]⟩).symm k a).val
          ∧ ((ix4 n s h d : S128x8x4x64.Idx) a).val * (![1, 1, 1, 1] : Fin 4 → Nat) a + ((Shape.rowMajor ⟨4, ![1, 8, 1, 1]⟩).symm k a).val - (![0, 7, 0, 0] : Fin 4 → Nat) a < S128x8x4x64.size a := fun a => by
        match a with
        | ⟨0, _⟩ =>
          show 0 ≤ n.val * 1 + ((Shape.rowMajor ⟨4, ![1, 8, 1, 1]⟩).symm k 0).val ∧ n.val * 1 + ((Shape.rowMajor ⟨4, ![1, 8, 1, 1]⟩).symm k 0).val - 0 < 128
          rw [p0]; omega
        | ⟨1, _⟩ =>
          show 7 ≤ s.val * 1 + ((Shape.rowMajor ⟨4, ![1, 8, 1, 1]⟩).symm k 1).val ∧ s.val * 1 + ((Shape.rowMajor ⟨4, ![1, 8, 1, 1]⟩).symm k 1).val - 7 < 8
          rw [p1]; omega
        | ⟨2, _⟩ =>
          show 0 ≤ h.val * 1 + ((Shape.rowMajor ⟨4, ![1, 8, 1, 1]⟩).symm k 2).val ∧ h.val * 1 + ((Shape.rowMajor ⟨4, ![1, 8, 1, 1]⟩).symm k 2).val - 0 < 4
          rw [p2]; omega
        | ⟨3, _⟩ =>
          show 0 ≤ d.val * 1 + ((Shape.rowMajor ⟨4, ![1, 8, 1, 1]⟩).symm k 3).val ∧ d.val * 1 + ((Shape.rowMajor ⟨4, ![1, 8, 1, 1]⟩).symm k 3).val - 0 < 64
          rw [p3]; omega
      refine (dif_pos hin).trans (Eq.trans ?_ (dif_pos (show 7 ≤ s.val + (k.cast hN).val from hk)).symm)
      refine congrArg x (funext fun a => Fin.ext ?_)
      match a with
      | ⟨0, _⟩ =>
        show n.val * 1 + ((Shape.rowMajor ⟨4, ![1, 8, 1, 1]⟩).symm k 0).val - 0 = n.val
        rw [p0]; omega
      | ⟨1, _⟩ =>
        show s.val * 1 + ((Shape.rowMajor ⟨4, ![1, 8, 1, 1]⟩).symm k 1).val - 7 = s.val + k.val - 7
        rw [p1]; omega
      | ⟨2, _⟩ =>
        show h.val * 1 + ((Shape.rowMajor ⟨4, ![1, 8, 1, 1]⟩).symm k 2).val - 0 = h.val
        rw [p2]; omega
      | ⟨3, _⟩ =>
        show d.val * 1 + ((Shape.rowMajor ⟨4, ![1, 8, 1, 1]⟩).symm k 3).val - 0 = d.val
        rw [p3]; omega
    · refine Eq.trans (b := (0 : EReal)) (dif_neg ?_) (Eq.symm (dif_neg (show ¬ 7 ≤ s.val + (k.cast hN).val from hk)))
      intro hin
      have h1 := (hin 1).1
      change 7 ≤ s.val * 1 + ((Shape.rowMajor ⟨4, ![1, 8, 1, 1]⟩).symm k 1).val at h1
      rw [p1] at h1
      omega
  fin_cases s <;> simp [Fin.sum_univ_eight]

end Cert.GlaSums
-- ==== Proof.GlaGate.lean ====
/-
  The gate of the gated linear attention: its running sum over a sequence,
  as the kernel and as the reference hold it.
-/
module

public import proofs.«01_k».proof.Proof.Gen.GlaIdeal.Value
public import proofs.«01_k».proof.Proof.Gen.GlaRefIdeal.Read
public import proofs.«01_k».proof.Proof.GlaSums
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GlaIdeal.Hand

open Cert.GlaIdeal Cert.GlaIdeal.Gen
open Cert.GlaRefIdeal.Read

variable (m : (ℓ : Loc nD τ sig) → Buf (Elt Ideal) ℓ)

/-- The block indices of the windows at every grid point. -/
theorem idx : ∀ t : Fin cfg0.N, win0_0.index t = ![t.val + 128, 0] ∧ win0_1.index t = ![t.val, 0, 0, 0] ∧ win0_2.index t = ![0, 0]
    ∧ win0_3.index t = ![0, 0] ∧ win0_4.index t = ![0, 0] ∧ win0_5.index t = ![t.val, 0] ∧ win0_6.index t = ![t.val, 0, 0, 0] :=
  (by decide +kernel : ∀ t : Fin grid0.N, _)

section
variable (P : S17408x1552.Idx → EReal) (U : S16x256.Idx → EReal) (G : S256.Idx → EReal)

/-- The gate of row `s` of sequence `n` before the log of the logistic function. -/
def pre (n : Fin 128) (s : Fin 8) (j : Fin 256) : EReal :=
  (∑ k : Fin 16, P (ix2 ⟨16384 + (n.val * 8 + s.val), by omega⟩ ⟨1536 + k.val, by omega⟩) * U (ix2 k j)) + G (ix1 j)

/-- The gate of row `s` of sequence `n`. -/
def gk (n : Fin 128) (s : Fin 8) (j : Fin 256) : EReal :=
  (min (pre P U G n s j) 0 - Ideal.log1p (Ideal.exp (0 - max (pre P U G n s j) (-(pre P U G n s j))))) * Ideal.ofBits .f32 0x3D800000#32

/-- The running sum of the gate. -/
def cum (n : Fin 128) (s : Fin 8) (j : Fin 256) : EReal := ∑ i : Fin 8, if i ≤ s then gk P U G n i j else 0

theorem ref_pre (n : Fin 128) (s : Fin 8) (j : Fin 256) : val_main_v10 (F := Ideal) P U G (ix3 n s j) = pre P U G n s j := by
  pointwise [val_main_v10, val_main_v9, val_main_v8, val_main_v7, val_main_v6, val_main_v1, val_main_v0, pre]

theorem ref_gk (n : Fin 128) (s : Fin 8) (h : Fin 4) (d : Fin 64) :
    val_main_v19 (F := Ideal) P U G (ix4 n s h d) = gk P U G n s ⟨h.val * 64 + d.val, by omega⟩ := by
  pointwise [val_main_v19, val_main_v13, val_main_v12, val_main_cst, val_main_v11, val_main_call0_v1, val_main_call0_call0_v11, val_main_call0_call0_v10,
    val_main_call0_call0_v9, val_main_call0_call0_v8, val_main_call0_call0_v7, val_main_call0_call0_v6, val_main_call0_call0_v5, val_main_call0_call0_v4,
    val_main_call0_call0_v3, val_main_call0_call0_v2, val_main_call0_call0_v1, val_main_call0_call0_v0, val_main_call0_call0_cst, val_main_call0_v0, gk]
  rw [ref_pre]
  generalize pre P U G n s _ = z
  rw [if_neg (by simp)]
  exact (Cert.GlaSums.gate z).symm

theorem ref_cum (n : Fin 128) (s : Fin 8) (h : Fin 4) (d : Fin 64) :
    val_main_v23 (F := Ideal) P U G (ix4 n s h d) = cum P U G n s ⟨h.val * 64 + d.val, by omega⟩ := by
  refine (Cert.GlaSums.running (val_main_v19 (F := Ideal) P U G) (val_main_call2_call0_v0 (F := Ideal)) (by pointwise [val_main_call2_call0_v0, val_main_call2_call0_cst]) n s h d).trans ?_
  simp only [ref_gk, cum]

/-- The state after the eight rows of a sequence. -/
theorem ref_state (S : S128x4x64x128.Idx → EReal) (n : Fin 128) (h : Fin 4) (d : Fin 64) (e : Fin 128) :
    val_main_v58 (F := Ideal) P U G S (ix4 n h d e)
    = Ideal.exp (cum P U G n 7 ⟨h.val * 64 + d.val, by omega⟩) * S (ix4 n h d e)
      + ∑ s : Fin 8, (P (ix2 ⟨16384 + (n.val * 8 + s.val), by omega⟩ ⟨256 + (h.val * 64 + d.val), by omega⟩)
          * Ideal.exp (cum P U G n 7 ⟨h.val * 64 + d.val, by omega⟩ - cum P U G n s ⟨h.val * 64 + d.val, by omega⟩))
          * P (ix2 ⟨16384 + (n.val * 8 + s.val), by omega⟩ ⟨512 + (h.val * 128 + e.val), by omega⟩) := by
  pointwise [val_main_v58, val_main_v57, val_main_v56, val_main_v55, val_main_v54, val_main_v53, val_main_v52, val_main_v51, val_main_v50, val_main_v49, val_main_v48, val_main_v47, val_main_v46, val_main_v18, val_main_v17, val_main_v4, val_main_v3, val_main_v1, val_main_v0, ref_cum]

/-- The weight a head gives row `s` of a sequence in row `t`. -/
def att (n : Fin 128) (t s : Fin 8) (h : Fin 4) : EReal :=
  if s ≤ t then ∑ d : Fin 64, P (ix2 ⟨16384 + (n.val * 8 + t.val), by omega⟩ ⟨h.val * 64 + d.val, by omega⟩) * Ideal.ofBits .f32 0x3E000000#32
    * P (ix2 ⟨16384 + (n.val * 8 + s.val), by omega⟩ ⟨256 + (h.val * 64 + d.val), by omega⟩)
    * Ideal.exp (cum P U G n t ⟨h.val * 64 + d.val, by omega⟩ - cum P U G n s ⟨h.val * 64 + d.val, by omega⟩) else 0

/-- The mask of the rows up to a row. -/
theorem mask_le : ∀ t s : Fin 8, Scalar.select (IntOp.cmpi .sge (IntOp.addi (BitVec.ofNat 32 t.val) 0#32) (BitVec.ofNat 32 s.val)) 1#1 0#1 = if s ≤ t then 1#1 else 0#1 := by
  decide +kernel

theorem zero_const : (id (constant (F := Ideal) Cert.GlaRefIdeal.S_ .f32 0#32) ix0 : EReal) = 0 := Ideal.ofBits_zero_f32

theorem ref_att (n : Fin 128) (t s : Fin 8) (h : Fin 4) :
    val_main_v38 (F := Ideal) P U G (ix4 n t s h) = att P U G n t s h := by
  pointwise [val_main_v38, val_main_cst_3, val_main_v37, val_main_v36, val_main_v35, val_main_v34, val_main_v33, val_main_v32, val_main_v31, val_main_call4_v2, val_main_call4_v1, val_main_call4_v0, val_main_cst_2,
    val_main_v30, val_main_v29, val_main_call3_v2, val_main_call3_v1, val_main_call3_v0, val_main_cst_1, val_main_v28, val_main_v27, val_main_v26, val_main_v25, val_main_v24,
    val_main_v22, val_main_v21, val_main_v20, val_main_c, val_main_call1_v5, val_main_call1_c_0, val_main_call1_v4, val_main_call1_v3, val_main_call1_v2, val_main_call1_v1, val_main_call1_c, val_main_call1_v0,
    val_main_v17, val_main_v16, val_main_v15, val_main_cst_0, val_main_v14, val_main_v3, val_main_v2, val_main_v1, val_main_v0, ref_cum, att]
  rw [mask_le]
  by_cases hst : s ≤ t
  · rw [if_pos hst, if_pos hst]
    rfl
  · rw [if_neg hst, if_neg hst]
    refine Finset.sum_eq_zero fun d _ => ?_
    have e : ∀ x y : EReal, Scalar.select 0#1 x y = y := fun x y => rfl
    rw [e, zero_const, mul_zero]

/-- A row of a head before the norm. -/
def row (S : S128x4x64x128.Idx → EReal) (n : Fin 128) (t : Fin 8) (h : Fin 4) (e : Fin 128) : EReal :=
  (∑ s : Fin 8, att P U G n t s h * P (ix2 ⟨16384 + (n.val * 8 + s.val), by omega⟩ ⟨512 + (h.val * 128 + e.val), by omega⟩))
  + ∑ d : Fin 64, (P (ix2 ⟨16384 + (n.val * 8 + t.val), by omega⟩ ⟨h.val * 64 + d.val, by omega⟩) * Ideal.ofBits .f32 0x3E000000#32
      * Ideal.exp (cum P U G n t ⟨h.val * 64 + d.val, by omega⟩)) * S (ix4 n h d e)

theorem ref_row (S : S128x4x64x128.Idx → EReal) (n : Fin 128) (t : Fin 8) (h : Fin 4) (e : Fin 128) :
    val_main_v45 (F := Ideal) P U G S (ix4 n t h e) = row P U G S n t h e := by
  pointwise [val_main_v45, val_main_v44, val_main_v43, val_main_v42, val_main_v41, val_main_v40, val_main_v39, val_main_v18, val_main_v16, val_main_v15, val_main_cst_0, val_main_v14, val_main_v4, val_main_v2, val_main_v1, val_main_v0, ref_cum, ref_att, row]
  exact congrArg₂ (· + ·) (Finset.sum_congr rfl fun s _ => mul_comm _ _) (Finset.sum_congr rfl fun d _ => mul_comm _ _)

/-- The layer's result: a head's row normed, scaled and gated. -/
def outv (N : S128.Idx → EReal) (S : S128x4x64x128.Idx → EReal) (n : Fin 128) (t : Fin 8) (h : Fin 4) (e : Fin 128) : EReal :=
  row P U G S n t h e * Ideal.rsqrt (Ideal.div (∑ x : Fin 128, row P U G S n t h x * row P U G S n t h x) (Ideal.ofBits .f32 0x43000000#32) + Ideal.ofBits .f32 0x358637BD#32)
    * N (ix1 e) * (P (ix2 ⟨16384 + (n.val * 8 + t.val), by omega⟩ ⟨1024 + (h.val * 128 + e.val), by omega⟩)
      * Ideal.div 1 (1 + Ideal.exp (-P (ix2 ⟨16384 + (n.val * 8 + t.val), by omega⟩ ⟨1024 + (h.val * 128 + e.val), by omega⟩))))

theorem ref_out (N : S128.Idx → EReal) (S : S128x4x64x128.Idx → EReal) (r : Fin 1024) (l : Fin 512) :
    val_main_v75 (F := Ideal) P U G N S (ix2 r l) = outv P U G N S ⟨r.val / 8, by omega⟩ ⟨r.val % 8, by omega⟩ ⟨l.val / 128, by omega⟩ ⟨l.val % 128, by omega⟩ := by
  pointwise [val_main_v75, val_main_v74, val_main_v73, val_main_call5_v5, val_main_call5_v4, val_main_call5_cst_0, val_main_call5_v3, val_main_call5_v2, val_main_call5_cst, val_main_call5_v1, val_main_call5_v0, val_main_v72, val_main_v71, val_main_v70, val_main_v69, val_main_v68, val_main_v67, val_main_v66, val_main_v65, val_main_v64, val_main_cst_6, val_main_v63, val_main_v62, val_main_cst_5, val_main_v61, val_main_v60, val_main_cst_4, val_main_v59, ref_row, val_main_v5, val_main_v1, val_main_v0, outv]
  have e0 : r.val / 8 * 8 + r.val % 8 = r.val := by omega
  have e1 : l.val / 128 * 128 + l.val % 128 = l.val := by omega
  simp only [e0, e1]

theorem ref_state2 (S : S128x4x64x128.Idx → EReal) (n : Fin 128) (p : Fin 2) (r : Fin 128) (e : Fin 128) :
    val_main_v76 (F := Ideal) P U G S (ix4 n p r e) = val_main_v58 (F := Ideal) P U G S (ix4 n ⟨p.val * 2 + r.val / 64, by omega⟩ ⟨r.val % 64, by omega⟩ e) := by
  pointwise [val_main_v76]
end

end Cert.GlaIdeal.Hand
-- ==== Proof.GlaBlk.lean ====
/-
  The blocks of the gated linear attention kernel, read element by element.
-/
module

public import proofs.«01_k».proof.Proof.Gen.GlaIdeal.Value
public import proofs.«01_k».proof.Proof.Gen.GlaRefIdeal.Read
public import proofs.«01_k».proof.Proof.GlaGate
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GlaIdeal.Hand

open Cert.GlaIdeal Cert.GlaIdeal.Gen
open Cert.GlaRefIdeal.Read

variable (m : (ℓ : Loc nD τ sig) → Buf (Elt Ideal) ℓ)

theorem zero_word : FloatOps.sitofp (F := Ideal) .f32 (0#32) = (0 : EReal) := by
  show ((((0#32).toInt : ℝ)) : EReal) = 0
  simp

theorem one_word : FloatOps.sitofp (F := Ideal) .f32 (1#32) = (1 : EReal) := by
  show ((((1#32).toInt : ℝ)) : EReal) = 1
  simp

/-- The projection with its last sixteen columns padded to a full tile of lanes. -/
theorem src0 (c : Dev nD) : V m c main_v3 = concatenate S17408x1664 1 [⟨S17408x1536, extractStridedSlice S17408x1536 ![0, 0] (m ((c : Thread nD τ).loc main_arg0)) slices_S17408x1552_S17408x1536_0_0⟩,
    ⟨S17408x128, pad S17408x128 ![0, 0] ![0, 112] ![0, 0] (extractStridedSlice S17408x16 ![0, 1536] (m ((c : Thread nD τ).loc main_arg0)) slices_S17408x1552_S17408x16_0_1536) (sitofp (F := Ideal) .f32 (constantI S_ 32 0#32)) pads_S17408x16_S17408x128_000_01120 h_S_⟩]
    concatenates_S17408x1536_S17408x128_S17408x1664_d1 := by
  unfold V
  simp only [hostOps0, hostOps0_1, hostOps0_2, hostOps0_3, hostOps0_4, List.flatten_cons, List.flatten_nil, List.append_nil, List.cons_append, List.nil_append]
  after_results
  rfl

theorem src2 (c : Dev nD) : V m c main_v4 = pad S128x256 ![0, 0] ![112, 0] ![0, 0] (m ((c : Thread nD τ).loc main_arg1)) (sitofp (F := Ideal) .f32 (constantI S_ 32 0#32)) pads_S16x256_S128x256_01120_000 h_S_ := by
  unfold V
  simp only [hostOps0, hostOps0_1, hostOps0_2, hostOps0_3, hostOps0_4, List.flatten_cons, List.flatten_nil, List.append_nil, List.cons_append, List.nil_append]
  after_results
  rfl

/-- A column of the projection proper, in a block. -/
theorem proj (c : Dev nD) (t : Fin cfg0.N) (r : Fin 128) (k : Fin 1664) (hk : k.val < 1536) :
    (iblk m c 0 t (ix2 r k)) = m ((c : Thread nD τ).loc main_arg0) (ix2 ⟨16384 + (128 * t.val + r.val), by have := t.isLt; change t.val < 8 at this; omega⟩ ⟨k.val, by omega⟩) := by
  have e : ((cfg0.win 0).blk t).view.emb (ix2 r k) = ix2 ⟨16384 + (128 * t.val + r.val), by have := t.isLt; change t.val < 8 at this; omega⟩ k := by blk_ext! [idx t]
  show V m c main_v3 (((cfg0.win 0).blk t).view.emb (ix2 r k)) = _
  rw [e, src0]
  pointwise []
  rw [dif_pos hk]

/-- A column of the gate's input, in a block: the sixteen columns, then zeros. -/
theorem gin (c : Dev nD) (t : Fin cfg0.N) (r : Fin 128) (k : Fin 128) :
    (iblk m c 0 t (ix2 r ⟨1536 + k.val, by omega⟩)) = if hk : k.val < 16 then m ((c : Thread nD τ).loc main_arg0) (ix2 ⟨16384 + (128 * t.val + r.val), by have := t.isLt; change t.val < 8 at this; omega⟩ ⟨1536 + k.val, by omega⟩) else (0 : EReal) := by
  have e : ((cfg0.win 0).blk t).view.emb (ix2 r ⟨1536 + k.val, by omega⟩) = ix2 ⟨16384 + (128 * t.val + r.val), by have := t.isLt; change t.val < 8 at this; omega⟩ ⟨1536 + k.val, by omega⟩ := by blk_ext! [idx t]
  show V m c main_v3 (((cfg0.win 0).blk t).view.emb _) = _
  rw [e, src0]
  pointwise []
  by_cases hk : k.val < 16
  · rw [dif_pos hk]
    exact dif_pos (And.intro (by have := t.isLt; change t.val < 8 at this; omega) hk)
  · rw [dif_neg hk]
    exact (dif_neg fun h => hk h.2).trans zero_word

theorem wpad (U : S16x256.Idx → EReal) (k : Fin 128) (j : Fin 256) :
    pad S128x256 ![0, 0] ![112, 0] ![0, 0] U (sitofp (F := Ideal) .f32 (constantI S_ 32 0#32)) pads_S16x256_S128x256_01120_000 h_S_ (ix2 k j) = if hk : k.val < 16 then U (ix2 ⟨k.val, by omega⟩ j) else (0 : EReal) := by
  pointwise []
  by_cases hk : k.val < 16
  · rw [dif_pos hk, dif_pos hk]
  · rw [dif_neg hk, dif_neg hk]
    exact zero_word

theorem wup (c : Dev nD) (t : Fin cfg0.N) (k : Fin 128) (j : Fin 256) :
    (iblk m c 2 t (ix2 k j)) = if hk : k.val < 16 then m ((c : Thread nD τ).loc main_arg1) (ix2 ⟨k.val, by omega⟩ j) else (0 : EReal) := by
  have e : ((cfg0.win 2).blk t).view.emb (ix2 k j) = ix2 k j := by blk_ext! [idx t]
  show V m c main_v4 (((cfg0.win 2).blk t).view.emb _) = _
  rw [e, src2]
  exact wpad _ k j

theorem bias (c : Dev nD) (t : Fin cfg0.N) (j : Fin 256) : (iblk m c 3 t (ix2 0 j)) = m ((c : Thread nD τ).loc main_arg2) (ix1 j) := by
  have e : ((cfg0.win 3).blk t).view.emb (ix2 0 j) = ix2 0 j := by blk_ext! [idx t]
  show V m c main_v6 (((cfg0.win 3).blk t).view.emb _) = _
  rw [e]
  unfold V
  simp only [hostOps0, hostOps0_1, hostOps0_2, hostOps0_3, hostOps0_4, List.flatten_cons, List.flatten_nil, List.append_nil, List.cons_append, List.nil_append]
  after_results
  pointwise []

theorem norm (c : Dev nD) (t : Fin cfg0.N) (j : Fin 128) : (iblk m c 4 t (ix2 0 j)) = m ((c : Thread nD τ).loc main_arg3) (ix1 j) := by
  have e : ((cfg0.win 4).blk t).view.emb (ix2 0 j) = ix2 0 j := by blk_ext! [idx t]
  show V m c main_v7 (((cfg0.win 4).blk t).view.emb _) = _
  rw [e]
  unfold V
  simp only [hostOps0, hostOps0_1, hostOps0_2, hostOps0_3, hostOps0_4, List.flatten_cons, List.flatten_nil, List.append_nil, List.cons_append, List.nil_append]
  after_results
  pointwise []

theorem st0 (c : Dev nD) (t : Fin cfg0.N) (a : Fin 16) (p : Fin 2) (r e : Fin 128) :
    (iblk m c 1 t (ix4 a p r e)) = m ((c : Thread nD τ).loc main_arg4) (ix4 ⟨16 * t.val + a.val, by have := t.isLt; change t.val < 8 at this; omega⟩ ⟨p.val * 2 + r.val / 64, by omega⟩ ⟨r.val % 64, by omega⟩ e) := by
  have e : ((cfg0.win 1).blk t).view.emb (ix4 a p r e) = ix4 ⟨16 * t.val + a.val, by have := t.isLt; change t.val < 8 at this; omega⟩ p r e := by blk_ext! [idx t]
  show V m c main_v5 (((cfg0.win 1).blk t).view.emb _) = _
  rw [e]
  unfold V
  simp only [hostOps0, hostOps0_1, hostOps0_2, hostOps0_3, hostOps0_4, List.flatten_cons, List.flatten_nil, List.append_nil, List.cons_append, List.nil_append]
  after_results
  pointwise []

end Cert.GlaIdeal.Hand
-- ==== Proof.GlaAtt.lean ====
/-
  The attention matrix of the gated linear attention kernel, column by column.
-/
module

public import proofs.«01_k».proof.Proof.Gen.GlaIdeal.Value
public import proofs.«01_k».proof.Proof.Gen.GlaRefIdeal.Read
public import proofs.«01_k».proof.Proof.GlaGate
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GlaIdeal.Hand

open Cert.GlaIdeal Cert.GlaIdeal.Gen
open Cert.GlaRefIdeal.Read

variable (q k b : FVec Ideal S32x8x128 .f32) (v : FVec Ideal S32x8x256 .f32) (g : Fin 32) (t s : Fin 8)

/-- The lanes of the pair's first head. -/
def lanes0 (x : Fin 128) : BitVec 1 := IntOp.cmpi .slt (BitVec.ofNat 32 x.val) 64#32

/-- The lanes of the pair's second head. -/
def lanes1 (x : Fin 128) : BitVec 1 := IntOp.cmpi .sge (BitVec.ofNat 32 x.val) 64#32

/-- The term of one lane in one entry of the attention matrix. -/
def prodc (j : Fin 8) (x : Fin 128) : EReal :=
  q (ix3 g t x) * k (ix3 g j x) * Ideal.exp (Scalar.select (IntOp.cmpi .sge (BitVec.ofNat 32 t.val) (BitVec.ofNat 32 j.val)) (b (ix3 g t x) - b (ix3 g j x)) 0)

/-- An entry's sum over the lanes of one head. -/
def summ (M : Fin 128 → BitVec 1) (j : Fin 8) : EReal := ∑ x : Fin 128, Scalar.select (M x) (prodc q k b g t j x) 0

/-- One column of the attention matrix, as the kernel computes it. -/
def colm (M : Fin 128 → BitVec 1) (j : Fin 8) : EReal :=
  Scalar.select (IntOp.cmpi .sge (BitVec.ofNat 32 t.val) (BitVec.ofNat 32 j.val)) (summ q k b g t M j) 0

/-- A matrix with one column replaced. -/
def put (j : Fin 8) (x z : EReal) : EReal := Scalar.select (IntOp.cmpi .eq (BitVec.ofNat 32 s.val) (BitVec.ofNat 32 j.val)) x z

theorem first0 (Z : FVec Ideal S32x8x8 .f32) : k0_pay18 k0_pay5 (iota .tc S1x8x1 32 [1] iota_S1x8x1_d1_w32) (iota .tc S1x8x8 32 [2] iota_S1x8x8_d2_w32) q k b Z 0#32 (ix3 g t s) = put s 0 (colm q k b g t lanes0 0) (Z (ix3 g t s)) := by
  pointwise [k0_pay18, k0_pay17, k0_pay5]
  rfl

theorem first1 (Z : FVec Ideal S32x8x8 .f32) : k0_pay23 k0_pay5 (iota .tc S1x8x1 32 [1] iota_S1x8x1_d1_w32) (iota .tc S1x8x8 32 [2] iota_S1x8x8_d2_w32) q k b Z (ix3 g t s) = put s 1 (colm q k b g t lanes0 1) (Z (ix3 g t s)) := by
  pointwise [k0_pay23, k0_pay22, k0_pay5]
  rfl

theorem first2 (Z : FVec Ideal S32x8x8 .f32) : k0_pay29 k0_pay5 (iota .tc S1x8x1 32 [1] iota_S1x8x1_d1_w32) (iota .tc S1x8x8 32 [2] iota_S1x8x8_d2_w32) q k b Z (ix3 g t s) = put s 2 (colm q k b g t lanes0 2) (Z (ix3 g t s)) := by
  pointwise [k0_pay29, k0_pay28, k0_pay5]
  rfl

theorem first3 (Z : FVec Ideal S32x8x8 .f32) : k0_pay35 k0_pay5 (iota .tc S1x8x1 32 [1] iota_S1x8x1_d1_w32) (iota .tc S1x8x8 32 [2] iota_S1x8x8_d2_w32) q k b Z (ix3 g t s) = put s 3 (colm q k b g t lanes0 3) (Z (ix3 g t s)) := by
  pointwise [k0_pay35, k0_pay34, k0_pay5]
  rfl

theorem first4 (Z : FVec Ideal S32x8x8 .f32) : k0_pay39 k0_pay5 (iota .tc S1x8x1 32 [1] iota_S1x8x1_d1_w32) (iota .tc S1x8x8 32 [2] iota_S1x8x8_d2_w32) q k b Z (ix3 g t s) = put s 4 (colm q k b g t lanes0 4) (Z (ix3 g t s)) := by
  pointwise [k0_pay39, k0_pay38, k0_pay5]
  rfl

theorem first5 (Z : FVec Ideal S32x8x8 .f32) : k0_pay43 k0_pay5 (iota .tc S1x8x1 32 [1] iota_S1x8x1_d1_w32) (iota .tc S1x8x8 32 [2] iota_S1x8x8_d2_w32) q k b Z (ix3 g t s) = put s 5 (colm q k b g t lanes0 5) (Z (ix3 g t s)) := by
  pointwise [k0_pay43, k0_pay42, k0_pay5]
  rfl

theorem first6 (Z : FVec Ideal S32x8x8 .f32) : k0_pay48 Z (k0_pay46 k0_pay5 (iota .tc S1x8x1 32 [1] iota_S1x8x1_d1_w32) q k b) (k0_pay47 (iota .tc S1x8x8 32 [2] iota_S1x8x8_d2_w32)) (ix3 g t s) = put s 6 (colm q k b g t lanes0 6) (Z (ix3 g t s)) := by
  pointwise [k0_pay48, k0_pay46, k0_pay47, k0_pay45, k0_pay5]
  rfl

theorem first7 (Z : FVec Ideal S32x8x8 .f32) (e : Fin 128) : k0_pay54 v Z (k0_pay51 k0_pay5 (iota .tc S1x8x1 32 [1] iota_S1x8x1_d1_w32) q k b) (k0_pay52 (iota .tc S1x8x8 32 [2] iota_S1x8x8_d2_w32)) (FloatOps.ofBits .f32 0#32) (k0_pay53 (iota .tc S1x8x1 32 [1] iota_S1x8x1_d1_w32)) (ix3 g t e) = ∑ s : Fin 8, put s 7 (colm q k b g t lanes0 7) (Z (ix3 g t s)) * v (ix3 g s ⟨e.val, by omega⟩) := by
  pointwise [k0_pay54, k0_pay51, k0_pay52, k0_pay53, k0_pay50, k0_pay5]
  rfl

theorem second0 (Z : FVec Ideal S32x8x8 .f32) : k0_pay21 Z (k0_pay19 k0_pay6 (iota .tc S1x8x1 32 [1] iota_S1x8x1_d1_w32) q k b 0#32) (k0_pay20 (iota .tc S1x8x8 32 [2] iota_S1x8x8_d2_w32)) (ix3 g t s) = put s 0 (colm q k b g t lanes1 0) (Z (ix3 g t s)) := by
  pointwise [k0_pay21, k0_pay19, k0_pay20, k0_pay17, k0_pay6]
  rfl

theorem second1 (Z : FVec Ideal S32x8x8 .f32) : k0_pay27 Z (k0_pay24 k0_pay6 (iota .tc S1x8x1 32 [1] iota_S1x8x1_d1_w32) q k b) (k0_pay25 (iota .tc S1x8x8 32 [2] iota_S1x8x8_d2_w32)) (FloatOps.ofBits .f32 0#32) (k0_pay26 (iota .tc S1x8x1 32 [1] iota_S1x8x1_d1_w32)) (ix3 g t s) = put s 1 (colm q k b g t lanes1 1) (Z (ix3 g t s)) := by
  pointwise [k0_pay27, k0_pay24, k0_pay25, k0_pay26, k0_pay22, k0_pay6]
  rfl

theorem second2 (Z : FVec Ideal S32x8x8 .f32) : k0_pay33 (iota .tc S1x8x1 32 [1] iota_S1x8x1_d1_w32) Z (k0_pay30 k0_pay6 (iota .tc S1x8x1 32 [1] iota_S1x8x1_d1_w32) q k b) (k0_pay31 (iota .tc S1x8x8 32 [2] iota_S1x8x8_d2_w32)) k0_pay32 (ix3 g t s) = put s 2 (colm q k b g t lanes1 2) (Z (ix3 g t s)) := by
  pointwise [k0_pay33, k0_pay30, k0_pay31, k0_pay32, k0_pay28, k0_pay6]
  rfl

theorem second3 (Z : FVec Ideal S32x8x8 .f32) : k0_pay37 (iota .tc S1x8x1 32 [1] iota_S1x8x1_d1_w32) (iota .tc S1x8x8 32 [2] iota_S1x8x8_d2_w32) Z (k0_pay36 k0_pay6 (iota .tc S1x8x1 32 [1] iota_S1x8x1_d1_w32) q k b) 3#32 (ix3 g t s) = put s 3 (colm q k b g t lanes1 3) (Z (ix3 g t s)) := by
  pointwise [k0_pay37, k0_pay36, k0_pay34, k0_pay6]
  rfl

theorem second4 (Z : FVec Ideal S32x8x8 .f32) : k0_pay41 (iota .tc S1x8x1 32 [1] iota_S1x8x1_d1_w32) (iota .tc S1x8x8 32 [2] iota_S1x8x8_d2_w32) Z (k0_pay40 k0_pay6 (iota .tc S1x8x1 32 [1] iota_S1x8x1_d1_w32) q k b) (ix3 g t s) = put s 4 (colm q k b g t lanes1 4) (Z (ix3 g t s)) := by
  pointwise [k0_pay41, k0_pay40, k0_pay38, k0_pay6]
  rfl

theorem second5 (Z : FVec Ideal S32x8x8 .f32) : k0_pay44 k0_pay6 (iota .tc S1x8x1 32 [1] iota_S1x8x1_d1_w32) (iota .tc S1x8x8 32 [2] iota_S1x8x8_d2_w32) Z (k0_pay42 (iota .tc S1x8x1 32 [1] iota_S1x8x1_d1_w32) q k b) (FloatOps.ofBits .f32 0#32) (ix3 g t s) = put s 5 (colm q k b g t lanes1 5) (Z (ix3 g t s)) := by
  pointwise [k0_pay44, k0_pay42, k0_pay6]
  rfl

theorem second6 (Z : FVec Ideal S32x8x8 .f32) : k0_pay49 k0_pay6 (iota .tc S1x8x1 32 [1] iota_S1x8x1_d1_w32) (iota .tc S1x8x8 32 [2] iota_S1x8x8_d2_w32) Z (k0_pay45 (iota .tc S1x8x1 32 [1] iota_S1x8x1_d1_w32) q k b) (ix3 g t s) = put s 6 (colm q k b g t lanes1 6) (Z (ix3 g t s)) := by
  pointwise [k0_pay49, k0_pay45, k0_pay6]
  rfl

theorem second7 (Z : FVec Ideal S32x8x8 .f32) (e : Fin 128) : k0_pay55 k0_pay6 (iota .tc S1x8x1 32 [1] iota_S1x8x1_d1_w32) (iota .tc S1x8x8 32 [2] iota_S1x8x8_d2_w32) v Z (k0_pay50 (iota .tc S1x8x1 32 [1] iota_S1x8x1_d1_w32) q k b) (ix3 g t e) = ∑ s : Fin 8, put s 7 (colm q k b g t lanes1 7) (Z (ix3 g t s)) * v (ix3 g s ⟨128 + e.val, by omega⟩) := by
  pointwise [k0_pay55, k0_pay50, k0_pay6]
  rfl

theorem sel_if {p : Prop} [Decidable p] (x y : EReal) : Scalar.select (if p then 1#1 else 0#1) x y = if p then x else y := by
  split <;> rfl

theorem word_le : ∀ t j : Fin 8, IntOp.cmpi .sge (BitVec.ofNat 32 t.val) (BitVec.ofNat 32 j.val) = if j ≤ t then 1#1 else 0#1 := by
  decide +kernel

theorem word_eq : ∀ s j : Fin 8, IntOp.cmpi .eq (BitVec.ofNat 32 s.val) (BitVec.ofNat 32 j.val) = if s = j then 1#1 else 0#1 := by
  decide +kernel

theorem lanes0_if : ∀ x : Fin 128, lanes0 x = if x.val < 64 then 1#1 else 0#1 := by
  decide +kernel

theorem lanes1_if : ∀ x : Fin 128, lanes1 x = if 64 ≤ x.val then 1#1 else 0#1 := by
  decide +kernel

theorem put_if (j : Fin 8) (x z : EReal) : put s j x z = if s = j then x else z := by
  rw [put, word_eq, sel_if]

/-- An entry of the attention matrix of one head of a pair. -/
def cell (h : Fin 2) : EReal :=
  if s ≤ t then ∑ d : Fin 64, q (ix3 g t ⟨h.val * 64 + d.val, by omega⟩) * k (ix3 g s ⟨h.val * 64 + d.val, by omega⟩)
    * Ideal.exp (b (ix3 g t ⟨h.val * 64 + d.val, by omega⟩) - b (ix3 g s ⟨h.val * 64 + d.val, by omega⟩)) else 0

theorem colm0 : colm q k b g t lanes0 s = cell q k b g t s 0 := by
  rw [colm, word_le, sel_if, cell]
  by_cases hst : s ≤ t
  · rw [if_pos hst, if_pos hst, summ]
    simp only [lanes0_if, sel_if, prodc, word_le, if_pos hst]
    refine (Cert.GlaSums.sum_lo _).trans (Finset.sum_congr rfl fun d _ => ?_)
    have e : (⟨(0 : Fin 2).val * 64 + d.val, by omega⟩ : Fin 128) = ⟨d.val, by omega⟩ := Fin.ext (by simp)
    rw [e]
    rfl
  · rw [if_neg hst, if_neg hst]

theorem colm1 : colm q k b g t lanes1 s = cell q k b g t s 1 := by
  rw [colm, word_le, sel_if, cell]
  by_cases hst : s ≤ t
  · rw [if_pos hst, if_pos hst, summ]
    simp only [lanes1_if, sel_if, prodc, word_le, if_pos hst]
    exact (Cert.GlaSums.sum_hi _).trans (Finset.sum_congr rfl fun d _ => rfl)
  · rw [if_neg hst, if_neg hst]

/-- Eight columns put in one after the other fill the matrix. -/
theorem eight (f : Fin 8 → EReal) (z : EReal) :
    put s 7 (f 7) (put s 6 (f 6) (put s 5 (f 5) (put s 4 (f 4) (put s 3 (f 3) (put s 2 (f 2) (put s 1 (f 1) (put s 0 (f 0) z))))))) = f s := by
  simp only [put_if]
  fin_cases s <;> rfl

/-- The attention of a pair's first head applied to its values. -/
def mix0 : FVec Ideal S32x8x128 .f32 := (k0_pay54 v (k0_pay48 (k0_pay43 k0_pay5 (iota .tc S1x8x1 32 [1] iota_S1x8x1_d1_w32) (iota .tc S1x8x8 32 [2] iota_S1x8x8_d2_w32) q k b (k0_pay39 k0_pay5 (iota .tc S1x8x1 32 [1] iota_S1x8x1_d1_w32) (iota .tc S1x8x8 32 [2] iota_S1x8x8_d2_w32) q k b (k0_pay35 k0_pay5 (iota .tc S1x8x1 32 [1] iota_S1x8x1_d1_w32) (iota .tc S1x8x8 32 [2] iota_S1x8x8_d2_w32) q k b (k0_pay29 k0_pay5 (iota .tc S1x8x1 32 [1] iota_S1x8x1_d1_w32) (iota .tc S1x8x8 32 [2] iota_S1x8x8_d2_w32) q k b (k0_pay23 k0_pay5 (iota .tc S1x8x1 32 [1] iota_S1x8x1_d1_w32) (iota .tc S1x8x8 32 [2] iota_S1x8x8_d2_w32) q k b (k0_pay18 k0_pay5 (iota .tc S1x8x1 32 [1] iota_S1x8x1_d1_w32) (iota .tc S1x8x8 32 [2] iota_S1x8x8_d2_w32) q k b k0_pay15 0#32)))))) (k0_pay46 k0_pay5 (iota .tc S1x8x1 32 [1] iota_S1x8x1_d1_w32) q k b) (k0_pay47 (iota .tc S1x8x8 32 [2] iota_S1x8x8_d2_w32))) (k0_pay51 k0_pay5 (iota .tc S1x8x1 32 [1] iota_S1x8x1_d1_w32) q k b) (k0_pay52 (iota .tc S1x8x8 32 [2] iota_S1x8x8_d2_w32)) (FloatOps.ofBits .f32 0#32) (k0_pay53 (iota .tc S1x8x1 32 [1] iota_S1x8x1_d1_w32)))

/-- The attention of a pair's second head applied to its values. -/
def mix1 : FVec Ideal S32x8x128 .f32 := (k0_pay55 k0_pay6 (iota .tc S1x8x1 32 [1] iota_S1x8x1_d1_w32) (iota .tc S1x8x8 32 [2] iota_S1x8x8_d2_w32) v
              (k0_pay49 k0_pay6 (iota .tc S1x8x1 32 [1] iota_S1x8x1_d1_w32) (iota .tc S1x8x8 32 [2] iota_S1x8x8_d2_w32)
                (k0_pay44 k0_pay6 (iota .tc S1x8x1 32 [1] iota_S1x8x1_d1_w32) (iota .tc S1x8x8 32 [2] iota_S1x8x8_d2_w32)
                  (k0_pay41 (iota .tc S1x8x1 32 [1] iota_S1x8x1_d1_w32) (iota .tc S1x8x8 32 [2] iota_S1x8x8_d2_w32)
                    (k0_pay37 (iota .tc S1x8x1 32 [1] iota_S1x8x1_d1_w32) (iota .tc S1x8x8 32 [2] iota_S1x8x8_d2_w32)
                      (k0_pay33 (iota .tc S1x8x1 32 [1] iota_S1x8x1_d1_w32)
                        (k0_pay27 (k0_pay21 k0_pay16 (k0_pay19 k0_pay6 (iota .tc S1x8x1 32 [1] iota_S1x8x1_d1_w32) q k b 0#32) (k0_pay20 (iota .tc S1x8x8 32 [2] iota_S1x8x8_d2_w32)))
                          (k0_pay24 k0_pay6 (iota .tc S1x8x1 32 [1] iota_S1x8x1_d1_w32) q k b) (k0_pay25 (iota .tc S1x8x8 32 [2] iota_S1x8x8_d2_w32)) (FloatOps.ofBits .f32 0#32) (k0_pay26 (iota .tc S1x8x1 32 [1] iota_S1x8x1_d1_w32)))
                        (k0_pay30 k0_pay6 (iota .tc S1x8x1 32 [1] iota_S1x8x1_d1_w32) q k b) (k0_pay31 (iota .tc S1x8x8 32 [2] iota_S1x8x8_d2_w32)) k0_pay32)
                      (k0_pay36 k0_pay6 (iota .tc S1x8x1 32 [1] iota_S1x8x1_d1_w32) q k b) 3#32)
                    (k0_pay40 k0_pay6 (iota .tc S1x8x1 32 [1] iota_S1x8x1_d1_w32) q k b))
                  (k0_pay42 (iota .tc S1x8x1 32 [1] iota_S1x8x1_d1_w32) q k b) (FloatOps.ofBits .f32 0#32))
                (k0_pay45 (iota .tc S1x8x1 32 [1] iota_S1x8x1_d1_w32) q k b))
              (k0_pay50 (iota .tc S1x8x1 32 [1] iota_S1x8x1_d1_w32) q k b))

theorem mix0_eq (e : Fin 128) : mix0 q k b v (ix3 g t e) = ∑ s : Fin 8, cell q k b g t s 0 * v (ix3 g s ⟨(0 : Fin 2).val * 128 + e.val, by omega⟩) := by
  rw [mix0, first7]
  refine Finset.sum_congr rfl fun s _ => ?_
  rw [first6, first5, first4, first3, first2, first1, first0, eight s (fun j => colm q k b g t lanes0 j), colm0]
  have e : (⟨(0 : Fin 2).val * 128 + e.val, by omega⟩ : Fin 256) = ⟨e.val, by omega⟩ := Fin.ext (by simp)
  rw [e]

theorem mix1_eq (e : Fin 128) : mix1 q k b v (ix3 g t e) = ∑ s : Fin 8, cell q k b g t s 1 * v (ix3 g s ⟨(1 : Fin 2).val * 128 + e.val, by omega⟩) := by
  rw [mix1, second7]
  refine Finset.sum_congr rfl fun s _ => ?_
  rw [second6, second5, second4, second3, second2, second1, second0, eight s (fun j => colm q k b g t lanes1 j), colm1]
  rfl

variable (st : FVec Ideal S32x128x128 .f32) (r : FVec Ideal S32x8x256 .f32) (A : FVec Ideal S32x8x128 .f32) (N : Vec Ideal S1x128 .f32)

/-- A head's row: the attention's share and the carried state's share. -/
def rowk (h : Fin 2) (e : Fin 128) : EReal :=
  A (ix3 g t e) + ∑ d : Fin 64, (q (ix3 g t ⟨h.val * 64 + d.val, by omega⟩) * Ideal.exp (b (ix3 g t ⟨h.val * 64 + d.val, by omega⟩))) * st (ix3 g ⟨h.val * 64 + d.val, by omega⟩ e)

/-- A head's row normed, scaled and gated. -/
def outk (h : Fin 2) (e : Fin 128) : EReal :=
  rowk q b g t st A h e * Ideal.rsqrt (Ideal.div (∑ x : Fin 128, rowk q b g t st A h x * rowk q b g t st A h x) (Ideal.ofBits .f32 0x43000000#32) + Ideal.ofBits .f32 0x358637BD#32)
    * N (ix2 0 e) * (r (ix3 g t ⟨h.val * 128 + e.val, by omega⟩) * Ideal.div 1 (1 + Ideal.exp (-r (ix3 g t ⟨h.val * 128 + e.val, by omega⟩))))

theorem carry0 (f : Fin 128 → EReal) : (∑ x : Fin 128, Scalar.select (IntOp.cmpi .slt (BitVec.ofNat 32 x.val) 64#32) (f x) 0)
    = ∑ d : Fin 64, f ⟨(0 : Fin 2).val * 64 + d.val, by omega⟩ := by
  refine (Finset.sum_congr rfl fun x _ => ?_).trans ((Cert.GlaSums.sum_lo f).trans (Finset.sum_congr rfl fun d _ => ?_))
  · show Scalar.select (lanes0 x) _ _ = _
    rw [lanes0_if, sel_if]
  · have e : (⟨(0 : Fin 2).val * 64 + d.val, by omega⟩ : Fin 128) = ⟨d.val, by omega⟩ := Fin.ext (by simp)
    rw [e]

theorem carry1 (f : Fin 128 → EReal) : (∑ x : Fin 128, Scalar.select (IntOp.cmpi .sge (BitVec.ofNat 32 x.val) 64#32) (f x) 0)
    = ∑ d : Fin 64, f ⟨(1 : Fin 2).val * 64 + d.val, by omega⟩ := by
  refine (Finset.sum_congr rfl fun x _ => ?_).trans ((Cert.GlaSums.sum_hi f).trans (Finset.sum_congr rfl fun d _ => ?_))
  · show Scalar.select (lanes1 x) _ _ = _
    rw [lanes1_if, sel_if]
  · rfl

theorem out63 (a : Fin 16) (p : Fin 2) (e : Fin 128) : k0_pay63 k0_pay5 r st A (k0_pay56 q b) N (ix4 a p t e) = outk q b ⟨a.val * 2 + p.val, by omega⟩ t st r A N 0 e := by
  pointwise [k0_pay63, k0_pay56, k0_pay5]
  have e : (⟨(0 : Fin 2).val * 128 + e.val, by omega⟩ : Fin 256) = ⟨e.val, by omega⟩ := Fin.ext (by simp)
  rw [outk, e]
  simp only [rowk, carry0]
  rfl

theorem out1 (a : Fin 16) (p : Fin 2) (e : Fin 128) : k0_pay1 k0_pay6 r st A (k0_pay56 q b) (FloatOps.ofBits .f32 0#32) N (ix4 a p t e) = outk q b ⟨a.val * 2 + p.val, by omega⟩ t st r A N 1 e := by
  pointwise [k0_pay1, k0_pay56, k0_pay6]
  rw [outk]
  simp only [rowk, carry1]
  rfl

/-- The four pieces of the output block. -/
theorem piece00 (x : Fin 128) (e : Fin 128) : k0_pay64 k0_pay5 r st A (k0_pay56 q b) N (ix2 x e) = outk q b ⟨x.val / 8 * 2 + 0, by omega⟩ ⟨x.val % 8, by omega⟩ st r A N 0 e := by
  refine Eq.trans ?_ (out63 q b ⟨x.val % 8, by omega⟩ st r A N ⟨x.val / 8, by omega⟩ 0 e)
  rw [k0_pay64]
  generalize k0_pay63 k0_pay5 r st A (k0_pay56 q b) N = Z
  pointwise []

theorem piece01 (x : Fin 128) (e : Fin 128) : k0_pay65 k0_pay5 r st A (k0_pay56 q b) N (ix2 x e) = outk q b ⟨x.val / 8 * 2 + 1, by omega⟩ ⟨x.val % 8, by omega⟩ st r A N 0 e := by
  refine Eq.trans ?_ (out63 q b ⟨x.val % 8, by omega⟩ st r A N ⟨x.val / 8, by omega⟩ 1 e)
  rw [k0_pay65]
  generalize k0_pay63 k0_pay5 r st A (k0_pay56 q b) N = Z
  pointwise []

theorem piece10 (x : Fin 128) (e : Fin 128) : k0_pay2 k0_pay6 r st A (k0_pay56 q b) (FloatOps.ofBits .f32 0#32) N (ix2 x e) = outk q b ⟨x.val / 8 * 2 + 0, by omega⟩ ⟨x.val % 8, by omega⟩ st r A N 1 e := by
  refine Eq.trans ?_ (out1 q b ⟨x.val % 8, by omega⟩ st r A N ⟨x.val / 8, by omega⟩ 0 e)
  rw [k0_pay2]
  generalize k0_pay1 k0_pay6 r st A (k0_pay56 q b) (FloatOps.ofBits .f32 0#32) N = Z
  pointwise []

theorem piece11 (x : Fin 128) (e : Fin 128) : k0_pay3 k0_pay6 r st A (k0_pay56 q b) (FloatOps.ofBits .f32 0#32) N (ix2 x e) = outk q b ⟨x.val / 8 * 2 + 1, by omega⟩ ⟨x.val % 8, by omega⟩ st r A N 1 e := by
  refine Eq.trans ?_ (out1 q b ⟨x.val % 8, by omega⟩ st r A N ⟨x.val / 8, by omega⟩ 1 e)
  rw [k0_pay3]
  generalize k0_pay1 k0_pay6 r st A (k0_pay56 q b) (FloatOps.ofBits .f32 0#32) N = Z
  pointwise []

variable (K : FVec Ideal S32x8x128 .f32) (V : FVec Ideal S32x8x256 .f32)

/-- The state a pair carries on, entry by entry. -/
theorem carried (a : Fin 16) (p : Fin 2) (x e : Fin 128) :
    k0_pay62 (k0_pay58 K b V) (k0_pay59 k0_pay7 b st) (k0_pay60 (iota .tc S1x128x1 32 [1] iota_S1x128x1_d1_w32)) (k0_pay61 K b V) (ix4 a p x e)
    = Ideal.exp (b (ix3 ⟨a.val * 2 + p.val, by omega⟩ 7 x)) * st (ix3 ⟨a.val * 2 + p.val, by omega⟩ x e)
      + ∑ s : Fin 8, (K (ix3 ⟨a.val * 2 + p.val, by omega⟩ s x) * Ideal.exp (b (ix3 ⟨a.val * 2 + p.val, by omega⟩ 7 x) - b (ix3 ⟨a.val * 2 + p.val, by omega⟩ s x)))
        * V (ix3 ⟨a.val * 2 + p.val, by omega⟩ s ⟨x.val / 64 * 128 + e.val, by omega⟩) := by
  pointwise [k0_pay62, k0_pay61, k0_pay60, k0_pay59, k0_pay58, k0_pay57, k0_pay7]
  refine congrArg₂ (· + ·) ?_ ?_
  · have h : ∀ r x : Fin 128, IntOp.cmpi .eq (BitVec.ofNat 32 r.val) (BitVec.ofNat 32 x.val) = if x.val = r.val then 1#1 else 0#1 := by
      decide +kernel
    simp only [h, sel_if]
    exact Cert.GlaSums.sum_one x fun y => Ideal.exp (b (ix3 ⟨a.val * 2 + p.val, by omega⟩ 7 y)) * st (ix3 ⟨a.val * 2 + p.val, by omega⟩ y e)
  · have h := lanes0_if x
    rw [lanes0] at h
    rw [h, sel_if]
    by_cases hx : x.val < 64
    · have e : (⟨x.val / 64 * 128 + e.val, by omega⟩ : Fin 256) = ⟨e.val, by omega⟩ := Fin.ext (by simp; omega)
      rw [if_pos hx, e]
    · have e : (⟨x.val / 64 * 128 + e.val, by omega⟩ : Fin 256) = ⟨128 + e.val, by omega⟩ := Fin.ext (by simp; omega)
      rw [if_neg hx, e]

end Cert.GlaIdeal.Hand
-- ==== Proof.Gla.lean ====
/-
  The gated linear attention kernel leaves its reference's results.
-/
module

public import proofs.«01_k».proof.Proof.Gen.GlaIdeal.Value
public import proofs.«01_k».proof.Proof.Gen.GlaRefIdeal.Read
public import proofs.«01_k».proof.Proof.GlaGate
public import Idealize.ShloMosaic.Lib.Pipeline.ValueKit
public import proofs.«01_k».proof.Proof.GlaBlk
public import proofs.«01_k».proof.Proof.GlaAtt

@[expose] public section

set_option maxRecDepth 16384

noncomputable section

open Idealize.ShloMosaic Idealize.ShloMosaic.TcCoe Idealize.SL.Sem
open Idealize.ShloMosaic.Pipeline (Dat)

namespace Cert.GlaIdeal.Hand

open Cert.GlaIdeal Cert.GlaIdeal.Gen
open Cert.GlaRefIdeal.Read

variable (m : (ℓ : Loc nD τ sig) → Buf (Elt Ideal) ℓ)

theorem pair9 (X : Vec Ideal S128x256 .f32) (g : Fin 32) (s : Fin 8) (l : Fin 128) : k0_pay9 X (ix3 g s l) = X (ix2 ⟨g.val / 2 * 8 + s.val, by omega⟩ ⟨g.val % 2 * 128 + l.val, by omega⟩) * Ideal.ofBits .f32 0x3E000000#32 := by
  pointwise [k0_pay9]
  refine congrArg (· * _) ?_
  by_cases h : g.val % 2 < 1
  · rw [dif_pos h]
    exact congrArg X (congrArg₂ ix2 rfl (Fin.ext (by simp; omega)))
  · rw [dif_neg h]
    exact congrArg X (congrArg₂ ix2 rfl (Fin.ext (by simp; omega)))

theorem pair10 (X : Vec Ideal S128x256 .f32) (g : Fin 32) (s : Fin 8) (l : Fin 128) : k0_pay10 X (ix3 g s l) = X (ix2 ⟨g.val / 2 * 8 + s.val, by omega⟩ ⟨g.val % 2 * 128 + l.val, by omega⟩) := by
  pointwise [k0_pay10]
  by_cases h : g.val % 2 < 1
  · rw [dif_pos h]
    exact congrArg X (congrArg₂ ix2 rfl (Fin.ext (by simp; omega)))
  · rw [dif_neg h]
    exact congrArg X (congrArg₂ ix2 rfl (Fin.ext (by simp; omega)))

theorem pair11 (X : FVec Ideal S128x256 .f32) (g : Fin 32) (s : Fin 8) (l : Fin 128) : k0_pay11 X (ix3 g s l) = X (ix2 ⟨g.val / 2 * 8 + s.val, by omega⟩ ⟨g.val % 2 * 128 + l.val, by omega⟩) := by
  pointwise [k0_pay11]
  by_cases h : g.val % 2 < 1
  · rw [dif_pos h]
    exact congrArg X (congrArg₂ ix2 rfl (Fin.ext (by simp; omega)))
  · rw [dif_neg h]
    exact congrArg X (congrArg₂ ix2 rfl (Fin.ext (by simp; omega)))

theorem pair12 (X : Vec Ideal S128x512 .f32) (g : Fin 32) (s : Fin 8) (l : Fin 256) : k0_pay12 X (ix3 g s l) = X (ix2 ⟨g.val / 2 * 8 + s.val, by omega⟩ ⟨g.val % 2 * 256 + l.val, by omega⟩) := by
  pointwise [k0_pay12]
  by_cases h : g.val % 2 < 1
  · rw [dif_pos h]
    exact congrArg X (congrArg₂ ix2 rfl (Fin.ext (by simp; omega)))
  · rw [dif_neg h]
    exact congrArg X (congrArg₂ ix2 rfl (Fin.ext (by simp; omega)))

theorem pair13 (X : Vec Ideal S128x512 .f32) (g : Fin 32) (s : Fin 8) (l : Fin 256) : k0_pay13 X (ix3 g s l) = X (ix2 ⟨g.val / 2 * 8 + s.val, by omega⟩ ⟨g.val % 2 * 256 + l.val, by omega⟩) := by
  pointwise [k0_pay13]
  by_cases h : g.val % 2 < 1
  · rw [dif_pos h]
    exact congrArg X (congrArg₂ ix2 rfl (Fin.ext (by simp; omega)))
  · rw [dif_neg h]
    exact congrArg X (congrArg₂ ix2 rfl (Fin.ext (by simp; omega)))

theorem pair14 (X : Vec Ideal S16x2x128x128 .f32) (g : Fin 32) (r e : Fin 128) : k0_pay14 (k0_pay4 X) (ix3 g r e) = X (ix4 ⟨g.val / 2, by omega⟩ ⟨g.val % 2, by omega⟩ r e) := by
  pointwise [k0_pay14, k0_pay4]

/-- A sum over the padded columns, of which only the first sixteen count. -/
theorem sixteen (f : Fin 128 → EReal) (hf : ∀ k : Fin 128, 16 ≤ k.val → f k = 0) : (∑ k : Fin 128, f k) = ∑ k : Fin 16, f ⟨k.val, by omega⟩ := by
  rw [Fin.sum_univ_two_halves 16 112 rfl, Finset.sum_eq_zero (s := (Finset.univ : Finset (Fin 112))), add_zero]
  intro k _
  exact hf _ (Nat.le_add_right 16 k.val)

section
set_option maxHeartbeats 1000000

/-- The kernel's running gate of a block is the reference's. -/
theorem running_gate (P : S17408x1552.Idx → EReal) (U : S16x256.Idx → EReal) (G : S256.Idx → EReal) (t : Fin 8)
    (X : Vec Ideal S128x128 .f32) (W : Vec Ideal S128x256 .f32) (B : Vec Ideal S1x256 .f32)
    (hX : ∀ r k : Fin 128, X (ix2 r k) = if hk : k.val < 16 then P (ix2 ⟨16384 + (128 * t.val + r.val), by omega⟩ ⟨1536 + k.val, by omega⟩) else (0 : EReal))
    (hW : ∀ (k : Fin 128) (j : Fin 256), W (ix2 k j) = if hk : k.val < 16 then U (ix2 ⟨k.val, hk⟩ j) else (0 : EReal))
    (hB : ∀ j : Fin 256, B (ix2 0 j) = G (ix1 j)) (a : Fin 16) (s : Fin 8) (l : Fin 256) :
    k0_pay8 X W B (ix2 ⟨a.val * 8 + s.val, by omega⟩ l) = cum P U G ⟨16 * t.val + a.val, by omega⟩ s l := by
  have dotp : ∀ i : Fin 8, (∑ k : Fin 128, X (ix2 ⟨a.val * 8 + i.val, by omega⟩ k) * W (ix2 k l)) + B (ix2 0 l) = pre P U G ⟨16 * t.val + a.val, by omega⟩ i l := by
    intro i
    rw [hB, pre, sixteen _ fun k hk => by rw [hW, dif_neg (by omega), mul_zero]]
    refine congrArg (· + _) (Finset.sum_congr rfl fun k _ => ?_)
    rw [hX, hW, dif_pos k.isLt, dif_pos k.isLt]
    exact congrArg (· * _) (congrArg P (congrArg₂ ix2 (Fin.ext (by simp; omega)) rfl))
  have hs : (a.val * 8 + s.val) % 8 = s.val := by omega
  have hd : (a.val * 8 + s.val) / 8 = a.val := by omega
  have tri : ∀ s x : Fin 8, FloatOps.sitofp (F := Ideal) .f32 (BitVec.setWidth 32 (IntOp.cmpi .sge (BitVec.ofNat 32 s.val) (BitVec.ofNat 32 x.val))) = if x ≤ s then (1 : EReal) else 0 := by
    intro s x
    rw [word_le]
    split
    · exact one_word
    · exact zero_word
  pointwise [k0_pay8]
  rw [cum]
  refine Finset.sum_congr rfl fun x _ => ?_
  simp only [hs, hd, tri, dotp, gk]
  split
  · exact one_mul _
  · exact zero_mul _

end

/-- The columns of a block the kernel loads. -/
def ldq (X : Vec Ideal S128x1664 .f32) : Vec Ideal S128x256 .f32 := extractStridedSlice S128x256 ![0, 0] X ⟨rfl, inb_S128x1664_S128x256_0_0⟩
def ldk (X : Vec Ideal S128x1664 .f32) : Vec Ideal S128x256 .f32 := extractStridedSlice S128x256 ![0, 256] X ⟨rfl, inb_S128x1664_S128x256_0_256⟩
def ldv (X : Vec Ideal S128x1664 .f32) : Vec Ideal S128x512 .f32 := extractStridedSlice S128x512 ![0, 512] X ⟨rfl, inb_S128x1664_S128x512_0_512⟩
def ldr (X : Vec Ideal S128x1664 .f32) : Vec Ideal S128x512 .f32 := extractStridedSlice S128x512 ![0, 1024] X ⟨rfl, inb_S128x1664_S128x512_0_1024⟩
def ldg (X : Vec Ideal S128x1664 .f32) : Vec Ideal S128x128 .f32 := extractStridedSlice S128x128 ![0, 1536] X ⟨rfl, inb_S128x1664_S128x128_0_1536⟩

theorem ldq_eq (X : Vec Ideal S128x1664 .f32) (r : Fin 128) (k : Fin 256) : ldq X (ix2 r k) = X (ix2 r ⟨k.val, by omega⟩) := by pointwise [ldq]
theorem ldk_eq (X : Vec Ideal S128x1664 .f32) (r : Fin 128) (k : Fin 256) : ldk X (ix2 r k) = X (ix2 r ⟨256 + k.val, by omega⟩) := by pointwise [ldk]
theorem ldv_eq (X : Vec Ideal S128x1664 .f32) (r : Fin 128) (k : Fin 512) : ldv X (ix2 r k) = X (ix2 r ⟨512 + k.val, by omega⟩) := by pointwise [ldv]
theorem ldr_eq (X : Vec Ideal S128x1664 .f32) (r : Fin 128) (k : Fin 512) : ldr X (ix2 r k) = X (ix2 r ⟨1024 + k.val, by omega⟩) := by pointwise [ldr]
theorem ldg_eq (X : Vec Ideal S128x1664 .f32) (r : Fin 128) (k : Fin 128) : ldg X (ix2 r k) = X (ix2 r ⟨1536 + k.val, by omega⟩) := by pointwise [ldg]

/-- The sequence a block's row belongs to. -/
def seq (t : Fin cfg0.N) (a : Fin 16) : Fin 128 := ⟨16 * t.val + a.val, by have := t.isLt; change t.val < 8 at this; omega⟩

section
variable (c : Dev nD) (t : Fin cfg0.N) (a : Fin 16) (p : Fin 2) (s : Fin 8)

/-- The projection the layer reads, as an array of extended reals. -/
abbrev arr0 : S17408x1552.Idx → EReal := m ((c : Thread nD τ).loc main_arg0)

theorem q_eq (l : Fin 128) : k0_pay9 (ldq (iblk m c 0 t)) (ix3 ⟨a.val * 2 + p.val, by omega⟩ s l)
    = arr0 m c (ix2 ⟨16384 + ((seq t a).val * 8 + s.val), by omega⟩ ⟨p.val * 128 + l.val, by omega⟩) * Ideal.ofBits .f32 0x3E000000#32 := by
  rw [pair9, ldq_eq, proj m c t _ _ (by simp; omega)]
  exact congrArg (· * _) (congrArg (arr0 m c) (congrArg₂ ix2 (Fin.ext (by simp [seq]; omega)) (Fin.ext (by simp; omega))))

theorem k_eq (l : Fin 128) : k0_pay10 (ldk (iblk m c 0 t)) (ix3 ⟨a.val * 2 + p.val, by omega⟩ s l)
    = m ((c : Thread nD τ).loc main_arg0) (ix2 ⟨16384 + ((seq t a).val * 8 + s.val), by omega⟩ ⟨256 + (p.val * 128 + l.val), by omega⟩) := by
  rw [pair10, ldk_eq, proj m c t _ _ (by simp; omega)]
  exact (congrArg (m ((c : Thread nD τ).loc main_arg0)) (congrArg₂ ix2 (Fin.ext (by simp [seq]; omega)) (Fin.ext (by simp; omega))))

theorem v_eq (l : Fin 256) : k0_pay12 (ldv (iblk m c 0 t)) (ix3 ⟨a.val * 2 + p.val, by omega⟩ s l)
    = m ((c : Thread nD τ).loc main_arg0) (ix2 ⟨16384 + ((seq t a).val * 8 + s.val), by omega⟩ ⟨512 + (p.val * 256 + l.val), by omega⟩) := by
  rw [pair12, ldv_eq, proj m c t _ _ (by simp; omega)]
  exact (congrArg (m ((c : Thread nD τ).loc main_arg0)) (congrArg₂ ix2 (Fin.ext (by simp [seq]; omega)) (Fin.ext (by simp; omega))))

theorem r_eq (l : Fin 256) : k0_pay13 (ldr (iblk m c 0 t)) (ix3 ⟨a.val * 2 + p.val, by omega⟩ s l)
    = m ((c : Thread nD τ).loc main_arg0) (ix2 ⟨16384 + ((seq t a).val * 8 + s.val), by omega⟩ ⟨1024 + (p.val * 256 + l.val), by omega⟩) := by
  rw [pair13, ldr_eq, proj m c t _ _ (by simp; omega)]
  exact (congrArg (m ((c : Thread nD τ).loc main_arg0)) (congrArg₂ ix2 (Fin.ext (by simp [seq]; omega)) (Fin.ext (by simp; omega))))

theorem s_eq (x e : Fin 128) : k0_pay14 (k0_pay4 (iblk m c 1 t)) (ix3 ⟨a.val * 2 + p.val, by omega⟩ x e)
    = m ((c : Thread nD τ).loc main_arg4) (ix4 (seq t a) ⟨p.val * 2 + x.val / 64, by omega⟩ ⟨x.val % 64, by omega⟩ e) := by
  have ha : (⟨(a.val * 2 + p.val) / 2, by omega⟩ : Fin 16) = a := Fin.ext (by simp; omega)
  have hp : (⟨(a.val * 2 + p.val) % 2, by omega⟩ : Fin 2) = p := Fin.ext (by simp; omega)
  rw [pair14, ha, hp, st0 m c t a p x e]
  rfl

theorem b_eq (l : Fin 128) : k0_pay11 (k0_pay8 (ldg (iblk m c 0 t)) (iblk m c 2 t) (iblk m c 3 t)) (ix3 ⟨a.val * 2 + p.val, by omega⟩ s l)
    = cum (m ((c : Thread nD τ).loc main_arg0)) (m ((c : Thread nD τ).loc main_arg1)) (m ((c : Thread nD τ).loc main_arg2)) (seq t a) s ⟨p.val * 128 + l.val, by omega⟩ := by
  have ha : (⟨(a.val * 2 + p.val) / 2 * 8 + s.val, by omega⟩ : Fin 128) = ⟨a.val * 8 + s.val, by omega⟩ := Fin.ext (by simp; omega)
  have hp : (⟨(a.val * 2 + p.val) % 2 * 128 + l.val, by omega⟩ : Fin 256) = ⟨p.val * 128 + l.val, by omega⟩ := Fin.ext (by simp; omega)
  rw [pair11, ha, hp]
  exact running_gate _ _ _ t _ _ _ (fun r k => (ldg_eq _ r k).trans (gin m c t r k)) (wup m c t) (bias m c t) a s _

/-- One block of the state carried on. -/
theorem point6 (x e : Fin 128) :
    k0_pay62 (k0_pay58 (k0_pay10 (ldk (iblk m c 0 t))) (k0_pay11 (k0_pay8 (ldg (iblk m c 0 t)) (iblk m c 2 t) (iblk m c 3 t))) (k0_pay12 (ldv (iblk m c 0 t))))
      (k0_pay59 k0_pay7 (k0_pay11 (k0_pay8 (ldg (iblk m c 0 t)) (iblk m c 2 t) (iblk m c 3 t))) (k0_pay14 (k0_pay4 (iblk m c 1 t))))
      (k0_pay60 (iota .tc S1x128x1 32 [1] iota_S1x128x1_d1_w32))
      (k0_pay61 (k0_pay10 (ldk (iblk m c 0 t))) (k0_pay11 (k0_pay8 (ldg (iblk m c 0 t)) (iblk m c 2 t) (iblk m c 3 t))) (k0_pay12 (ldv (iblk m c 0 t)))) (ix4 a p x e)
    = val_main_v76 (F := Ideal) (m ((c : Thread nD τ).loc main_arg0)) (m ((c : Thread nD τ).loc main_arg1)) (m ((c : Thread nD τ).loc main_arg2)) (m ((c : Thread nD τ).loc main_arg4)) (ix4 (seq t a) p x e) := by
  rw [carried, ref_state2, ref_state]
  have h0 : (p.val * 2 + x.val / 64) * 64 + x.val % 64 = p.val * 128 + x.val := by omega
  have h1 : (p.val * 2 + x.val / 64) * 128 + e.val = p.val * 256 + (x.val / 64 * 128 + e.val) := by omega
  simp only [b_eq, k_eq, v_eq, s_eq, h0, h1]

theorem emb6 (x e : Fin 128) : ((cfg0.win 6).blk t).view.emb (ix4 a p x e) = ix4 (seq t a) p x e := by
  blk_ext! [idx t, seq]

theorem final6 : (dats m 0 c).arrAt 6 cfg0.N = val_main_v76 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 6 _ (by decide +kernel) fun t _ y => ?_
  blk_simp
  rw [after0_6]
  unfold outsAt0
  frame_out
  simp only [View.ld_unit]
  idx_vars y
  rw [emb6]
  exact point6 m c t _ _ _ _

/-- One row of a head before the norm. -/
theorem row_eq (h : Fin 2) (A : FVec Ideal S32x8x128 .f32)
    (hA : ∀ e : Fin 128, A (ix3 ⟨a.val * 2 + p.val, by omega⟩ s e) = ∑ i : Fin 8, cell (k0_pay9 (ldq (iblk m c 0 t))) (k0_pay10 (ldk (iblk m c 0 t))) (k0_pay11 (k0_pay8 (ldg (iblk m c 0 t)) (iblk m c 2 t) (iblk m c 3 t))) ⟨a.val * 2 + p.val, by omega⟩ s i h
      * k0_pay12 (ldv (iblk m c 0 t)) (ix3 ⟨a.val * 2 + p.val, by omega⟩ i ⟨h.val * 128 + e.val, by omega⟩)) (e : Fin 128) :
    rowk (k0_pay9 (ldq (iblk m c 0 t))) (k0_pay11 (k0_pay8 (ldg (iblk m c 0 t)) (iblk m c 2 t) (iblk m c 3 t))) ⟨a.val * 2 + p.val, by omega⟩ s (k0_pay14 (k0_pay4 (iblk m c 1 t))) A h e
    = row (m ((c : Thread nD τ).loc main_arg0)) (m ((c : Thread nD τ).loc main_arg1)) (m ((c : Thread nD τ).loc main_arg2)) (m ((c : Thread nD τ).loc main_arg4)) (seq t a) s ⟨p.val * 2 + h.val, by omega⟩ e := by
  have h0 : ∀ d : Fin 64, p.val * 128 + (h.val * 64 + d.val) = (p.val * 2 + h.val) * 64 + d.val := by omega
  have h1 : p.val * 256 + (h.val * 128 + e.val) = (p.val * 2 + h.val) * 128 + e.val := by omega
  have h2 : ∀ d : Fin 64, p.val * 2 + (h.val * 64 + d.val) / 64 = p.val * 2 + h.val := by omega
  have h3 : ∀ d : Fin 64, (h.val * 64 + d.val) % 64 = d.val := by omega
  rw [rowk, hA, row]
  simp only [cell, att, b_eq, k_eq, q_eq, v_eq, s_eq, h0, h1, h2, h3]

/-- One row of a head after the norm and the gate. -/
theorem head_eq (h : Fin 2) (A : FVec Ideal S32x8x128 .f32)
    (hA : ∀ e : Fin 128, A (ix3 ⟨a.val * 2 + p.val, by omega⟩ s e) = ∑ i : Fin 8, cell (k0_pay9 (ldq (iblk m c 0 t))) (k0_pay10 (ldk (iblk m c 0 t))) (k0_pay11 (k0_pay8 (ldg (iblk m c 0 t)) (iblk m c 2 t) (iblk m c 3 t))) ⟨a.val * 2 + p.val, by omega⟩ s i h
      * k0_pay12 (ldv (iblk m c 0 t)) (ix3 ⟨a.val * 2 + p.val, by omega⟩ i ⟨h.val * 128 + e.val, by omega⟩)) (e : Fin 128) :
    outk (k0_pay9 (ldq (iblk m c 0 t))) (k0_pay11 (k0_pay8 (ldg (iblk m c 0 t)) (iblk m c 2 t) (iblk m c 3 t))) ⟨a.val * 2 + p.val, by omega⟩ s (k0_pay14 (k0_pay4 (iblk m c 1 t))) (k0_pay13 (ldr (iblk m c 0 t))) A (iblk m c 4 t) h e
    = outv (m ((c : Thread nD τ).loc main_arg0)) (m ((c : Thread nD τ).loc main_arg1)) (m ((c : Thread nD τ).loc main_arg2)) (m ((c : Thread nD τ).loc main_arg3)) (m ((c : Thread nD τ).loc main_arg4)) (seq t a) s ⟨p.val * 2 + h.val, by omega⟩ e := by
  have h1 : p.val * 256 + (h.val * 128 + e.val) = (p.val * 2 + h.val) * 128 + e.val := by omega
  have hN := norm m c t e
  rw [outk, outv]
  simp only [row_eq m c t a p s h A hA, r_eq, h1]
  rw [hN]

theorem place_out (x : Fin 128) (h : Fin 4) (e : Fin 128) : outv (m ((c : Thread nD τ).loc main_arg0)) (m ((c : Thread nD τ).loc main_arg1)) (m ((c : Thread nD τ).loc main_arg2)) (m ((c : Thread nD τ).loc main_arg3)) (m ((c : Thread nD τ).loc main_arg4)) (seq t ⟨x.val / 8, by omega⟩) ⟨x.val % 8, by omega⟩ h e
    = val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      (ix2 ⟨128 * t.val + x.val, by have := t.isLt; change t.val < 8 at this; omega⟩ ⟨h.val * 128 + e.val, by omega⟩) := by
  have ht : t.val < 8 := t.isLt
  have e0 : seq t ⟨x.val / 8, by omega⟩ = ⟨(128 * t.val + x.val) / 8, by omega⟩ := Fin.ext (by simp [seq]; omega)
  have e1 : (⟨x.val % 8, by omega⟩ : Fin 8) = ⟨(128 * t.val + x.val) % 8, by omega⟩ := Fin.ext (by simp; omega)
  have e2 : h = ⟨(h.val * 128 + e.val) / 128, by omega⟩ := Fin.ext (by simp; omega)
  have e3 : e = ⟨(h.val * 128 + e.val) % 128, by omega⟩ := Fin.ext (by simp; omega)
  rw [ref_out]
  exact (congrArg₂ (fun n s => outv _ _ _ _ _ n s h e) e0 e1).trans (congrArg₂ (fun h e => outv _ _ _ _ _ _ _ h e) e2 e3)

theorem ext2 {f g : S128x128.Idx → EReal} (h : ∀ i e : Fin 128, f (ix2 i e) = g (ix2 i e)) : ∀ x : S128x128.Idx, f x = g x := by
  intro x
  idx_vars x
  exact h _ _

theorem part11 (i e : Fin 128) : k0_pay3 k0_pay6 (k0_pay13 (ldr (iblk m c 0 t))) (k0_pay14 (k0_pay4 (iblk m c 1 t))) (mix1 (k0_pay9 (ldq (iblk m c 0 t))) (k0_pay10 (ldk (iblk m c 0 t))) (k0_pay11 (k0_pay8 (ldg (iblk m c 0 t)) (iblk m c 2 t) (iblk m c 3 t))) (k0_pay12 (ldv (iblk m c 0 t)))) (k0_pay56 (k0_pay9 (ldq (iblk m c 0 t))) (k0_pay11 (k0_pay8 (ldg (iblk m c 0 t)) (iblk m c 2 t) (iblk m c 3 t)))) (FloatOps.ofBits .f32 0#32) (iblk m c 4 t) (ix2 i e)
    = val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ⟨128 * t.val + i.val, by have := t.isLt; change t.val < 8 at this; omega⟩ ⟨3 * 128 + e.val, by omega⟩) :=
  (piece11 (k0_pay9 (ldq (iblk m c 0 t))) (k0_pay11 (k0_pay8 (ldg (iblk m c 0 t)) (iblk m c 2 t) (iblk m c 3 t))) (k0_pay14 (k0_pay4 (iblk m c 1 t))) (k0_pay13 (ldr (iblk m c 0 t))) _ (iblk m c 4 t) i e).trans
    ((head_eq m c t ⟨i.val / 8, by omega⟩ 1 ⟨i.val % 8, by omega⟩ 1 _ (fun e => mix1_eq (k0_pay9 (ldq (iblk m c 0 t))) (k0_pay10 (ldk (iblk m c 0 t))) (k0_pay11 (k0_pay8 (ldg (iblk m c 0 t)) (iblk m c 2 t) (iblk m c 3 t))) (k0_pay12 (ldv (iblk m c 0 t))) _ _ e) e).trans (place_out m c t i 3 e))

theorem part01 (i e : Fin 128) : k0_pay2 k0_pay6 (k0_pay13 (ldr (iblk m c 0 t))) (k0_pay14 (k0_pay4 (iblk m c 1 t))) (mix1 (k0_pay9 (ldq (iblk m c 0 t))) (k0_pay10 (ldk (iblk m c 0 t))) (k0_pay11 (k0_pay8 (ldg (iblk m c 0 t)) (iblk m c 2 t) (iblk m c 3 t))) (k0_pay12 (ldv (iblk m c 0 t)))) (k0_pay56 (k0_pay9 (ldq (iblk m c 0 t))) (k0_pay11 (k0_pay8 (ldg (iblk m c 0 t)) (iblk m c 2 t) (iblk m c 3 t)))) (FloatOps.ofBits .f32 0#32) (iblk m c 4 t) (ix2 i e)
    = val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ⟨128 * t.val + i.val, by have := t.isLt; change t.val < 8 at this; omega⟩ ⟨1 * 128 + e.val, by omega⟩) :=
  (piece10 (k0_pay9 (ldq (iblk m c 0 t))) (k0_pay11 (k0_pay8 (ldg (iblk m c 0 t)) (iblk m c 2 t) (iblk m c 3 t))) (k0_pay14 (k0_pay4 (iblk m c 1 t))) (k0_pay13 (ldr (iblk m c 0 t))) _ (iblk m c 4 t) i e).trans
    ((head_eq m c t ⟨i.val / 8, by omega⟩ 0 ⟨i.val % 8, by omega⟩ 1 _ (fun e => mix1_eq (k0_pay9 (ldq (iblk m c 0 t))) (k0_pay10 (ldk (iblk m c 0 t))) (k0_pay11 (k0_pay8 (ldg (iblk m c 0 t)) (iblk m c 2 t) (iblk m c 3 t))) (k0_pay12 (ldv (iblk m c 0 t))) _ _ e) e).trans (place_out m c t i 1 e))

theorem part10 (i e : Fin 128) : k0_pay65 k0_pay5 (k0_pay13 (ldr (iblk m c 0 t))) (k0_pay14 (k0_pay4 (iblk m c 1 t))) (mix0 (k0_pay9 (ldq (iblk m c 0 t))) (k0_pay10 (ldk (iblk m c 0 t))) (k0_pay11 (k0_pay8 (ldg (iblk m c 0 t)) (iblk m c 2 t) (iblk m c 3 t))) (k0_pay12 (ldv (iblk m c 0 t)))) (k0_pay56 (k0_pay9 (ldq (iblk m c 0 t))) (k0_pay11 (k0_pay8 (ldg (iblk m c 0 t)) (iblk m c 2 t) (iblk m c 3 t)))) (iblk m c 4 t) (ix2 i e)
    = val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ⟨128 * t.val + i.val, by have := t.isLt; change t.val < 8 at this; omega⟩ ⟨2 * 128 + e.val, by omega⟩) :=
  (piece01 (k0_pay9 (ldq (iblk m c 0 t))) (k0_pay11 (k0_pay8 (ldg (iblk m c 0 t)) (iblk m c 2 t) (iblk m c 3 t))) (k0_pay14 (k0_pay4 (iblk m c 1 t))) (k0_pay13 (ldr (iblk m c 0 t))) _ (iblk m c 4 t) i e).trans
    ((head_eq m c t ⟨i.val / 8, by omega⟩ 1 ⟨i.val % 8, by omega⟩ 0 _ (fun e => mix0_eq (k0_pay9 (ldq (iblk m c 0 t))) (k0_pay10 (ldk (iblk m c 0 t))) (k0_pay11 (k0_pay8 (ldg (iblk m c 0 t)) (iblk m c 2 t) (iblk m c 3 t))) (k0_pay12 (ldv (iblk m c 0 t))) _ _ e) e).trans (place_out m c t i 2 e))

theorem part00 (i e : Fin 128) : k0_pay64 k0_pay5 (k0_pay13 (ldr (iblk m c 0 t))) (k0_pay14 (k0_pay4 (iblk m c 1 t))) (mix0 (k0_pay9 (ldq (iblk m c 0 t))) (k0_pay10 (ldk (iblk m c 0 t))) (k0_pay11 (k0_pay8 (ldg (iblk m c 0 t)) (iblk m c 2 t) (iblk m c 3 t))) (k0_pay12 (ldv (iblk m c 0 t)))) (k0_pay56 (k0_pay9 (ldq (iblk m c 0 t))) (k0_pay11 (k0_pay8 (ldg (iblk m c 0 t)) (iblk m c 2 t) (iblk m c 3 t)))) (iblk m c 4 t) (ix2 i e)
    = val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ⟨128 * t.val + i.val, by have := t.isLt; change t.val < 8 at this; omega⟩ ⟨0 * 128 + e.val, by omega⟩) :=
  (piece00 (k0_pay9 (ldq (iblk m c 0 t))) (k0_pay11 (k0_pay8 (ldg (iblk m c 0 t)) (iblk m c 2 t) (iblk m c 3 t))) (k0_pay14 (k0_pay4 (iblk m c 1 t))) (k0_pay13 (ldr (iblk m c 0 t))) _ (iblk m c 4 t) i e).trans
    ((head_eq m c t ⟨i.val / 8, by omega⟩ 0 ⟨i.val % 8, by omega⟩ 0 _ (fun e => mix0_eq (k0_pay9 (ldq (iblk m c 0 t))) (k0_pay10 (ldk (iblk m c 0 t))) (k0_pay11 (k0_pay8 (ldg (iblk m c 0 t)) (iblk m c 2 t) (iblk m c 3 t))) (k0_pay12 (ldv (iblk m c 0 t))) _ _ e) e).trans (place_out m c t i 0 e))

/-- The kernel's four pieces of an output block hold the reference's block. -/
theorem final5 : (dats m 0 c).arrAt 5 cfg0.N = val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  unfold outsAt0
  frame_out
  refine View.canon_apply_of_pieces (fun y => val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y)) _ ?_ y ?_
  swap
  · exact View.cover_of_tiledL (s := S128x512) _ ![128, 128] (by sl_kernel_rfl) y
  generalize hq : k0_pay9 (F := Ideal) _ = q
  generalize hk : k0_pay10 (F := Ideal) _ = k
  generalize hb : k0_pay11 (F := Ideal) _ = b
  generalize hv : k0_pay12 (F := Ideal) _ = v
  generalize hr : k0_pay13 (F := Ideal) _ = r
  rw [View.ld_unit] at hq hk hb hv hr
  obtain rfl : (k0_pay9 (ldq (iblk m c 0 t))) = q := hq
  obtain rfl : (k0_pay10 (ldk (iblk m c 0 t))) = k := hk
  obtain rfl : (k0_pay11 (k0_pay8 (ldg (iblk m c 0 t)) (iblk m c 2 t) (iblk m c 3 t))) = b := hb
  obtain rfl : (k0_pay12 (ldv (iblk m c 0 t))) = v := hv
  obtain rfl : (k0_pay13 (ldr (iblk m c 0 t))) = r := hr
  simp only [List.forall_mem_cons, List.forall_mem_nil, List.not_mem_nil, IsEmpty.forall_iff, implies_true, and_true]
  refine ⟨ext2 fun i e => (part11 m c t i e).trans (congrArg (val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4))) ?_), ext2 fun i e => (part01 m c t i e).trans (congrArg (val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4))) ?_), ext2 fun i e => (part10 m c t i e).trans (congrArg (val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4))) ?_), ext2 fun i e => (part00 m c t i e).trans (congrArg (val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4))) ?_)⟩
  all_goals blk_ext! [idx t]

end

end Cert.GlaIdeal.Hand
-- ==== Proof.GlpSums.lean ====
/-
  Facts about sums used for the gated linear attention of the prompt: the running sum over a chunk,
  and the state after the last chunk as a sum over the chunks.
-/
module

public import proofs.«01_k».proof.Proof.Gen.GlaPromptRefIdeal.Read
public import proofs.«01_k».proof.Proof.GlaSums
public import Idealize.ShloMosaic.Lib.Pipeline.ValueKit

@[expose] public section

set_option maxRecDepth 16384

noncomputable section

open Idealize.ShloMosaic Idealize.ShloMosaic.TcCoe Idealize.SL.Sem

namespace Cert.GlpSums

/-- The exponential of a sum of two numbers that are not positive is the product. -/
theorem exp_add {x y : EReal} (hx : x ≤ 0) (hy : y ≤ 0) : Ideal.exp (x + y) = Ideal.exp x * Ideal.exp y := by
  induction x with
  | top => simp at hx
  | bot =>
    rw [EReal.bot_add]
    show (0 : EReal) = 0 * _
    rw [zero_mul]
  | coe a =>
    induction y with
    | top => simp at hy
    | bot =>
      rw [EReal.add_bot]
      show (0 : EReal) = _ * 0
      rw [mul_zero]
    | coe b =>
      show ((Real.exp (a + b) : ℝ) : EReal) = (Real.exp a : EReal) * (Real.exp b : EReal)
      rw [Real.exp_add, EReal.coe_mul]

theorem exp_nonneg (y : EReal) : 0 ≤ Ideal.exp y := by
  induction y with
  | bot => exact le_refl _
  | top => exact le_top
  | coe r => exact EReal.coe_nonneg.2 (Real.exp_pos r).le

theorem exp_ne_top {y : EReal} (hy : y ≤ 0) : Ideal.exp y ≠ ⊤ := by
  induction y with
  | bot => exact EReal.coe_ne_top 0
  | top => simp at hy
  | coe r => exact EReal.coe_ne_top _

theorem exp_zero : Ideal.exp 0 = 1 := by
  show ((Real.exp 0 : ℝ) : EReal) = 1
  rw [Real.exp_zero, EReal.coe_one]

/-- A finite factor that is not negative goes into a sum. -/
theorem mul_sum {ι : Type*} (s : Finset ι) {x : EReal} (h0 : 0 ≤ x) (ht : x ≠ ⊤) (f : ι → EReal) :
    x * ∑ i ∈ s, f i = ∑ i ∈ s, x * f i := by
  classical
  induction s using Finset.induction_on with
  | empty => simp
  | insert a s ha ih => rw [Finset.sum_insert ha, Finset.sum_insert ha, EReal.left_distrib_of_nonneg_of_ne_top h0 ht, ih]

theorem sum_nonpos {ι : Type*} (s : Finset ι) {f : ι → EReal} (h : ∀ i, f i ≤ 0) : ∑ i ∈ s, f i ≤ 0 := by
  classical
  induction s using Finset.induction_on with
  | empty => simp
  | insert a s ha ih => rw [Finset.sum_insert ha]; exact add_nonpos (h a) ih

/-- A state that decays and gains a term at every chunk is the sum of the terms, each decayed by the chunks after it. -/
theorem unroll (b u S : ℕ → EReal) (hb : ∀ n, b n ≤ 0) (h0 : S 0 = 0) (N : ℕ)
    (hS : ∀ n, n < N → S (n + 1) = Ideal.exp (b n) * S n + u n) :
    S N = ∑ n ∈ Finset.range N, Ideal.exp (∑ k ∈ Finset.range N, if n < k then b k else 0) * u n := by
  induction N with
  | zero => rw [h0]; simp
  | succ N ih =>
    rw [hS N (Nat.lt_succ_self N), ih fun n hn => hS n (Nat.lt_succ_of_lt hn), Finset.sum_range_succ]
    rw [mul_sum _ (exp_nonneg _) (exp_ne_top (hb N))]
    refine congrArg₂ (· + ·) (Finset.sum_congr rfl fun n hn => ?_) ?_
    · rw [Finset.sum_range_succ, if_pos (Finset.mem_range.1 hn), exp_add (sum_nonpos _ fun k => ?_) (hb N)]
      · rw [← mul_assoc, mul_comm (Ideal.exp (b N))]
      · split
        · exact hb k
        · exact le_refl 0
    · have e : (∑ k ∈ Finset.range (N + 1), if N < k then b k else 0) = 0 :=
        Finset.sum_eq_zero fun k hk => if_neg (by have := Finset.mem_range.1 hk; omega)
      rw [e, exp_zero, one_mul]

/-- The gate is not positive. -/
theorem gate_nonpos (z : EReal) : (min z 0 - Ideal.log1p (Ideal.exp (0 - max z (-z)))) * Ideal.ofBits .f32 0x3D800000#32 ≤ 0 := by
  have e1 : Ideal.ofBits .f32 0x3D800000#32 = ((1 / 16 : ℝ) : EReal) := by
    simp [Ideal.ofBits, Ideal.ieee, -EReal.coe_mul]; norm_num
  have hq : ∀ y : EReal, 0 ≤ y → 0 ≤ Ideal.log1p y := fun y hy => by
    induction y with
    | bot => simp at hy
    | top =>
      have e : (1 : EReal) + ⊤ = ⊤ := EReal.add_top_of_ne_bot (EReal.coe_ne_bot 1)
      rw [Ideal.log1p, e]
      exact le_top
    | coe r =>
      have hr : 0 ≤ r := EReal.coe_nonneg.1 hy
      have e : Ideal.log1p (r : EReal) = if (1 + r) ≤ 0 then ⊥ else (Real.log (1 + r) : EReal) := rfl
      rw [e, if_neg (by linarith)]
      exact EReal.coe_nonneg.2 (Real.log_nonneg (by linarith))
  have h1 : min z 0 - Ideal.log1p (Ideal.exp (0 - max z (-z))) ≤ 0 := by
    rw [sub_eq_add_neg]
    refine add_nonpos (min_le_right _ _) ?_
    have h := EReal.neg_le_neg_iff.2 (hq _ (exp_nonneg (0 - max z (-z))))
    rwa [neg_zero] at h
  rw [e1]
  have h := mul_le_mul_of_nonneg_right h1 (EReal.coe_nonneg.2 (show (0 : ℝ) ≤ 1 / 16 by norm_num))
  rwa [zero_mul] at h

/-- A sum over a list of the numbers below `N`, term by term. -/
theorem sum_list {N M : Nat} (hN : N = M) (f : Fin N → EReal) (g : Fin M → EReal) (h : ∀ k : Fin N, f k = g (k.cast hN)) :
    (List.finRange N).foldl (fun r n => r + f n) 0 = ∑ k : Fin M, g k := by
  subst hN
  rw [Fin.sum_univ_def, List.sum_eq_foldl, List.foldl_map]
  exact congrArg (fun F => List.foldl F 0 (List.finRange N)) (funext fun r => funext fun n => congrArg (r + ·) (h n))

/-- A sum over a window that ends at row `s` is the sum over the rows up to it. -/
theorem window (x : Fin 64 → EReal) (s : Fin 64) :
    (∑ k : Fin 64, if hk : 63 ≤ s.val + k.val then x ⟨s.val + k.val - 63, by omega⟩ else 0) = ∑ j : Fin 64, if j ≤ s then x j else 0 := by
  refine Eq.trans ?_ (Equiv.sum_comp (Equiv.addRight (s + 1)) fun j => if j ≤ s then x j else 0)
  refine Finset.sum_congr rfl fun k _ => ?_
  have hv : (k + (s + 1)).val = (k.val + (s.val + 1) % 64) % 64 := by
    rw [Fin.val_add, Fin.val_add]
    rfl
  by_cases hk : 63 ≤ s.val + k.val
  · have e : k + (s + 1) = ⟨s.val + k.val - 63, by omega⟩ := Fin.ext (by rw [hv]; simp; omega)
    rw [dif_pos hk]
    show _ = if k + (s + 1) ≤ s then x (k + (s + 1)) else 0
    rw [e, if_pos (by rw [Fin.le_def]; simp; omega)]
  · rw [dif_neg hk]
    show _ = if k + (s + 1) ≤ s then x (k + (s + 1)) else 0
    rw [if_neg (by rw [Fin.le_def, hv]; omega)]

/-- The position in the window of the running sum is the row. -/
theorem place : ∀ n : Fin (Shape.numel ⟨5, ![1, 1, 64, 1, 1]⟩), ((Shape.rowMajor ⟨5, ![1, 1, 64, 1, 1]⟩).symm n 0).val = 0
    ∧ ((Shape.rowMajor ⟨5, ![1, 1, 64, 1, 1]⟩).symm n 1).val = 0 ∧ ((Shape.rowMajor ⟨5, ![1, 1, 64, 1, 1]⟩).symm n 2).val = n.val
    ∧ ((Shape.rowMajor ⟨5, ![1, 1, 64, 1, 1]⟩).symm n 3).val = 0 ∧ ((Shape.rowMajor ⟨5, ![1, 1, 64, 1, 1]⟩).symm n 4).val = 0 := by decide +kernel

open Cert.GlaPromptRefIdeal Cert.GlaPromptRefIdeal.Gen in
/-- The running sum over the rows of a chunk: row by row, the sum of the rows up to it. -/
theorem running (x : S8x32x64x4x64.Idx → EReal) (z : S_.Idx → EReal) (hz : z (Shape.Idx.first h_S_) = 0) (n : Fin 8) (c : Fin 32) (s : Fin 64) (h : Fin 4) (d : Fin 64) :
    Host.reduceWindowAdd (F := Ideal) (φ := .f32) ![1, 1, 64, 1, 1] ![1, 1, 1, 1, 1] ![0, 0, 63, 0, 0] ![0, 0, 0, 0, 0] x z reduceWindows_S8x32x64x4x64_S8x32x64x4x64_w1s1p0_0_w1s1p0_0_w64s1p63_0_w1s1p0_0_w1s1p0_0 h_S_ (ix5 n c s h d)
    = ∑ j : Fin 64, if j ≤ s then x (ix5 n c j h d) else 0 := by
  unfold Host.reduceWindowAdd
  change Ideal.hostReduceWindowAdd _ _ _ _ _ x (z (Shape.Idx.first h_S_)) _ = _
  rw [hz]
  unfold Ideal.hostReduceWindowAdd Host.reduceWindow
  dsimp only
  refine (sum_list (by decide) _ (fun k : Fin 64 => if hk : 63 ≤ s.val + k.val then x (ix5 n c ⟨s.val + k.val - 63, by omega⟩ h d) else 0) (fun k => ?_)).trans
    (window (fun j => x (ix5 n c j h d)) s)
  have hN : Shape.numel ⟨5, ![1, 1, 64, 1, 1]⟩ = 64 := by decide
  have hk64 : k.val < 64 := (k.cast hN).isLt
  obtain ⟨p0, p1, p2, p3, p4⟩ := place k
  by_cases hk : 63 ≤ s.val + k.val
  · have hin : ∀ a, (![0, 0, 63, 0, 0] : Fin 5 → Nat) a ≤ ((ix5 n c s h d : S8x32x64x4x64.Idx) a).val * (![1, 1, 1, 1, 1] : Fin 5 → Nat) a + ((Shape.rowMajor ⟨5, ![1, 1, 64, 1, 1]⟩).symm k a).val
        ∧ ((ix5 n c s h d : S8x32x64x4x64.Idx) a).val * (![1, 1, 1, 1, 1] : Fin 5 → Nat) a + ((Shape.rowMajor ⟨5, ![1, 1, 64, 1, 1]⟩).symm k a).val - (![0, 0, 63, 0, 0] : Fin 5 → Nat) a < S8x32x64x4x64.size a := fun a => by
      match a with
      | ⟨0, _⟩ =>
        show 0 ≤ n.val * 1 + ((Shape.rowMajor ⟨5, ![1, 1, 64, 1, 1]⟩).symm k 0).val ∧ n.val * 1 + ((Shape.rowMajor ⟨5, ![1, 1, 64, 1, 1]⟩).symm k 0).val - 0 < 8
        rw [p0]; omega
      | ⟨1, _⟩ =>
        show 0 ≤ c.val * 1 + ((Shape.rowMajor ⟨5, ![1, 1, 64, 1, 1]⟩).symm k 1).val ∧ c.val * 1 + ((Shape.rowMajor ⟨5, ![1, 1, 64, 1, 1]⟩).symm k 1).val - 0 < 32
        rw [p1]; omega
      | ⟨2, _⟩ =>
        show 63 ≤ s.val * 1 + ((Shape.rowMajor ⟨5, ![1, 1, 64, 1, 1]⟩).symm k 2).val ∧ s.val * 1 + ((Shape.rowMajor ⟨5, ![1, 1, 64, 1, 1]⟩).symm k 2).val - 63 < 64
        rw [p2]; omega
      | ⟨3, _⟩ =>
        show 0 ≤ h.val * 1 + ((Shape.rowMajor ⟨5, ![1, 1, 64, 1, 1]⟩).symm k 3).val ∧ h.val * 1 + ((Shape.rowMajor ⟨5, ![1, 1, 64, 1, 1]⟩).symm k 3).val - 0 < 4
        rw [p3]; omega
      | ⟨4, _⟩ =>
        show 0 ≤ d.val * 1 + ((Shape.rowMajor ⟨5, ![1, 1, 64, 1, 1]⟩).symm k 4).val ∧ d.val * 1 + ((Shape.rowMajor ⟨5, ![1, 1, 64, 1, 1]⟩).symm k 4).val - 0 < 64
        rw [p4]; omega
    refine (dif_pos hin).trans (Eq.trans ?_ (dif_pos (show 63 ≤ s.val + (k.cast hN).val from hk)).symm)
    refine congrArg x (funext fun a => Fin.ext ?_)
    match a with
    | ⟨0, _⟩ =>
      show n.val * 1 + ((Shape.rowMajor ⟨5, ![1, 1, 64, 1, 1]⟩).symm k 0).val - 0 = n.val
      rw [p0]; omega
    | ⟨1, _⟩ =>
      show c.val * 1 + ((Shape.rowMajor ⟨5, ![1, 1, 64, 1, 1]⟩).symm k 1).val - 0 = c.val
      rw [p1]; omega
    | ⟨2, _⟩ =>
      show s.val * 1 + ((Shape.rowMajor ⟨5, ![1, 1, 64, 1, 1]⟩).symm k 2).val - 63 = s.val + k.val - 63
      rw [p2]; omega
    | ⟨3, _⟩ =>
      show h.val * 1 + ((Shape.rowMajor ⟨5, ![1, 1, 64, 1, 1]⟩).symm k 3).val - 0 = h.val
      rw [p3]; omega
    | ⟨4, _⟩ =>
      show d.val * 1 + ((Shape.rowMajor ⟨5, ![1, 1, 64, 1, 1]⟩).symm k 4).val - 0 = d.val
      rw [p4]; omega
  · refine Eq.trans (b := (0 : EReal)) (dif_neg ?_) (Eq.symm (dif_neg (show ¬ 63 ≤ s.val + (k.cast hN).val from hk)))
    intro hin
    have h1 := (hin 2).1
    change 63 ≤ s.val * 1 + ((Shape.rowMajor ⟨5, ![1, 1, 64, 1, 1]⟩).symm k 2).val at h1
    rw [p2] at h1
    omega

end Cert.GlpSums
-- ==== Proof.GlpRef.lean ====
/-
  The state of the prompt's gated linear attention, as the reference holds it.
-/
module

public import proofs.«01_k».proof.Proof.Gen.GlaPromptRefIdeal.Read
public import proofs.«01_k».proof.Proof.GlpSums
public import Idealize.ShloMosaic.Lib.Pipeline.ValueKit

@[expose] public section

set_option maxRecDepth 16384

noncomputable section

open Idealize.ShloMosaic Idealize.ShloMosaic.TcCoe Idealize.SL.Sem

namespace Cert.GlpRef

open Cert.GlaPromptRefIdeal
open Cert.GlaPromptRefIdeal.Read

variable (P : S8x2048x1552.Idx → EReal) (U : S16x256.Idx → EReal) (G : S256.Idx → EReal)

theorem rowLt (c : Fin 32) (s : Fin 64) : c.val * 64 + s.val < 2048 := by omega

/-- The gate of row `s` of chunk `c` of sequence `n` before the log of the logistic function. -/
def pre (n : Fin 8) (c : Fin 32) (s : Fin 64) (j : Fin 256) : EReal :=
  (∑ k : Fin 16, P (ix3 n ⟨c.val * 64 + s.val, rowLt c s⟩ ⟨1536 + k.val, by omega⟩) * U (ix2 k j)) + G (ix1 j)

/-- The gate of a row. -/
def gk (n : Fin 8) (c : Fin 32) (s : Fin 64) (j : Fin 256) : EReal :=
  (min (pre P U G n c s j) 0 - Ideal.log1p (Ideal.exp (0 - max (pre P U G n c s j) (-(pre P U G n c s j))))) * Ideal.ofBits .f32 0x3D800000#32

/-- The running sum of the gate over a chunk. -/
def cum (n : Fin 8) (c : Fin 32) (s : Fin 64) (j : Fin 256) : EReal := ∑ i : Fin 64, if i ≤ s then gk P U G n c i j else 0

theorem cum_nonpos (n : Fin 8) (c : Fin 32) (s : Fin 64) (j : Fin 256) : cum P U G n c s j ≤ 0 :=
  Cert.GlpSums.sum_nonpos _ fun i => by
    split
    · exact Cert.GlpSums.gate_nonpos _
    · exact le_refl 0

/-- What chunk `c` adds to the state of a lane, for one column of the values. -/
def addv (n : Fin 8) (c : Fin 32) (j : Fin 256) (e : Fin 512) : EReal :=
  ∑ s : Fin 64, (P (ix3 n ⟨c.val * 64 + s.val, rowLt c s⟩ ⟨256 + j.val, by omega⟩) * Ideal.exp (cum P U G n c 63 j - cum P U G n c s j))
    * P (ix3 n ⟨c.val * 64 + s.val, rowLt c s⟩ ⟨512 + e.val, by omega⟩)

theorem ref_gk (n : Fin 8) (c : Fin 32) (s : Fin 64) (h : Fin 4) (d : Fin 64) :
    val_main_v12 (F := Ideal) P U G (ix5 n c s h d) = gk P U G n c s ⟨h.val * 64 + d.val, by omega⟩ := by
  have hp : ∀ j, val_main_v6 (F := Ideal) P U G (ix3 n ⟨c.val * 64 + s.val, rowLt c s⟩ j) = pre P U G n c s j := by
    intro j
    pointwise [val_main_v6, val_main_v5, val_main_v4, val_main_v3, val_main_v2, pre]
  pointwise [val_main_v12, val_main_v9, val_main_v8, val_main_cst, val_main_v7, val_main_call0_v1, val_main_call0_call0_v11, val_main_call0_call0_v10,
    val_main_call0_call0_v9, val_main_call0_call0_v8, val_main_call0_call0_v7, val_main_call0_call0_v6, val_main_call0_call0_v5, val_main_call0_call0_v4,
    val_main_call0_call0_v3, val_main_call0_call0_v2, val_main_call0_call0_v1, val_main_call0_call0_v0, val_main_call0_call0_cst, val_main_call0_v0, gk]
  simp only [hp]
  generalize pre P U G n c s _ = z
  rw [if_neg (by simp)]
  exact (Cert.GlaSums.gate z).symm

theorem ref_cum (n : Fin 8) (c : Fin 32) (s : Fin 64) (h : Fin 4) (d : Fin 64) :
    val_main_v13 (F := Ideal) P U G (ix5 n c s h d) = cum P U G n c s ⟨h.val * 64 + d.val, by omega⟩ := by
  refine (Cert.GlpSums.running (val_main_v12 (F := Ideal) P U G) (val_main_call1_call0_v0 (F := Ideal)) (by pointwise [val_main_call1_call0_v0, val_main_call1_call0_cst]) n c s h d).trans ?_
  simp only [ref_gk, cum]

theorem ref_add (n : Fin 8) (c : Fin 32) (h : Fin 4) (d : Fin 64) (e : Fin 128) :
    val_main_v21 (F := Ideal) P U G (ix5 n c h d e) = addv P U G n c ⟨h.val * 64 + d.val, by omega⟩ ⟨h.val * 128 + e.val, by omega⟩ := by
  pointwise [val_main_v21, val_main_v20, val_main_v19, val_main_v18, val_main_v17, val_main_v16, val_main_v15, val_main_v14, val_main_v11, val_main_v10, val_main_v1, val_main_v0, ref_cum, addv]

/-- The chunks after a chunk. -/
theorem later : ∀ n k : Fin 32, val_main_v23 (F := Ideal) (ix2 n k) = if n < k then (1 : EReal) else 0 := by
  intro n k
  have h : ∀ n k : Fin 32, IntOp.cmpi .sge (IntOp.addi (BitVec.ofNat 32 n.val) 0#32) (BitVec.ofNat 32 k.val) = if n < k then 0#1 else 1#1 := by
    decide +kernel
  pointwise [val_main_v23, val_main_v22, val_main_cst_0, val_main_call2_v5, val_main_call2_cst, val_main_call2_v4, val_main_call2_v3, val_main_call2_v2, val_main_call2_v1, val_main_call2_c, val_main_call2_v0]
  rw [h]
  by_cases hk : n < k
  · rw [if_pos hk, if_pos hk]
    rfl
  · rw [if_neg hk, if_neg hk]
    rfl

/-- The state after the last chunk. -/
theorem ref_state (n : Fin 8) (p : Fin 2) (x e : Fin 128) :
    val_main_v31 (F := Ideal) P U G (ix4 n p x e)
    = ∑ c : Fin 32, Ideal.exp (∑ k : Fin 32, if c < k then cum P U G n k 63 ⟨p.val * 128 + x.val, by omega⟩ else 0)
        * addv P U G n c ⟨p.val * 128 + x.val, by omega⟩ ⟨p.val * 256 + (x.val / 64 * 128 + e.val), by omega⟩ := by
  pointwise [val_main_v31, val_main_v30, val_main_cst_1, val_main_v29, val_main_v28, val_main_v27, val_main_v26, val_main_v25, val_main_v24, val_main_v15, val_main_v14, ref_cum, ref_add, later]
  have h0 : (p.val * 2 + x.val / 64) * 64 + x.val % 64 = p.val * 128 + x.val := by omega
  have h1 : (p.val * 2 + x.val / 64) * 128 + e.val = p.val * 256 + (x.val / 64 * 128 + e.val) := by omega
  simp only [h0, h1, mul_ite, mul_one, mul_zero]

end Cert.GlpRef
-- ==== Proof.GlpBlk.lean ====
/-
  The blocks of the prompt's gated linear attention, read element by element.
-/
module

public import proofs.«01_k».proof.Proof.Gen.GlaPromptIdeal.Value
public import proofs.«01_k».proof.Proof.GlpRef
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GlaPromptIdeal.Hand

open Cert.GlaPromptIdeal Cert.GlaPromptIdeal.Gen
open Cert.GlpRef

variable (m : (ℓ : Loc nD τ sig) → Buf (Elt Ideal) ℓ)

theorem idx : ∀ t : Fin cfg0.N, win0_0.index t = ![t.val, 0] ∧ win0_1.index t = ![0, 0, 0, 0] ∧ win0_2.index t = ![0, 0]
    ∧ win0_3.index t = ![0, 0] ∧ win0_4.index t = ![0, 0] ∧ win0_5.index t = ![t.val, 0] ∧ win0_6.index t = ![0, 0, 0, 0] :=
  (by decide +kernel : ∀ t : Fin grid0.N, _)

/-- The chunk that a point of the grid works on. -/
def chunk (t : Fin cfg0.N) : Fin 32 := ⟨t.val, t.isLt⟩

theorem zero_word : FloatOps.sitofp (F := Ideal) .f32 (0#32) = (0 : EReal) := by
  show ((((0#32).toInt : ℝ)) : EReal) = 0
  simp

theorem one_word : FloatOps.sitofp (F := Ideal) .f32 (1#32) = (1 : EReal) := by
  show ((((1#32).toInt : ℝ)) : EReal) = 1
  simp

/-- The rows of the prompt, by chunks, then those of the sample. -/
def rows (P : S8x2048x1552.Idx → EReal) (Q : S128x8x1552.Idx → EReal) : S17408x1552.Idx → EReal :=
  concatenate S17408x1552 0 [⟨S16384x1552, shapeCast S16384x1552 (transpose S32x8x64x1552 [1, 0, 2, 3] (shapeCast S8x32x64x1552 P shapeCasts_S8x2048x1552_S8x32x64x1552)
      transposes_S8x32x64x1552_S32x8x64x1552_1_0_2_3) shapeCasts_S32x8x64x1552_S16384x1552⟩, ⟨S1024x1552, shapeCast S1024x1552 Q shapeCasts_S128x8x1552_S1024x1552⟩]
    concatenates_S16384x1552_S1024x1552_S17408x1552_d0

theorem rows_eq (P : S8x2048x1552.Idx → EReal) (Q : S128x8x1552.Idx → EReal) (c : Fin 32) (a : Fin 8) (s : Fin 64) (k : Fin 1552) :
    rows P Q (ix2 ⟨512 * c.val + (a.val * 64 + s.val), by omega⟩ k) = P (ix3 a ⟨c.val * 64 + s.val, rowLt c s⟩ k) := by
  have h1 : (512 * c.val + (a.val * 64 + s.val)) < 16384 := by omega
  pointwise [rows]
  rw [dif_pos h1]

/-- The projection with its last sixteen columns padded to a full tile of lanes. -/
theorem src0 (c : Dev nD) : V m c main_v8 = concatenate S17408x1664 1 [⟨S17408x1536, extractStridedSlice S17408x1536 ![0, 0] (rows (m ((c : Thread nD τ).loc main_arg0)) (m ((c : Thread nD τ).loc main_arg1))) slices_S17408x1552_S17408x1536_0_0⟩,
    ⟨S17408x128, pad S17408x128 ![0, 0] ![0, 112] ![0, 0] (extractStridedSlice S17408x16 ![0, 1536] (rows (m ((c : Thread nD τ).loc main_arg0)) (m ((c : Thread nD τ).loc main_arg1))) slices_S17408x1552_S17408x16_0_1536) (sitofp (F := Ideal) .f32 (constantI S_ 32 0#32)) pads_S17408x16_S17408x128_000_01120 h_S_⟩]
    concatenates_S17408x1536_S17408x128_S17408x1664_d1 := by
  unfold V
  simp only [hostOps0, hostOps0_1, hostOps0_2, hostOps0_3, hostOps0_4, List.flatten_cons, List.flatten_nil, List.append_nil, List.cons_append, List.nil_append]
  after_results
  rfl

theorem src2 (c : Dev nD) : V m c main_v9 = pad S128x256 ![0, 0] ![112, 0] ![0, 0] (m ((c : Thread nD τ).loc main_arg2)) (sitofp (F := Ideal) .f32 (constantI S_ 32 0#32)) pads_S16x256_S128x256_01120_000 h_S_ := by
  unfold V
  simp only [hostOps0, hostOps0_1, hostOps0_2, hostOps0_3, hostOps0_4, List.flatten_cons, List.flatten_nil, List.append_nil, List.cons_append, List.nil_append]
  after_results
  rfl

/-- A column of the projection proper, in a block. -/
theorem proj (c : Dev nD) (t : Fin cfg0.N) (a : Fin 8) (s : Fin 64) (k : Fin 1664) (hk : k.val < 1536) :
    (iblk m c 0 t (ix2 ⟨a.val * 64 + s.val, by omega⟩ k)) = m ((c : Thread nD τ).loc main_arg0) (ix3 a ⟨(chunk t).val * 64 + s.val, rowLt _ s⟩ ⟨k.val, by omega⟩) := by
  have e : ((cfg0.win 0).blk t).view.emb (ix2 ⟨a.val * 64 + s.val, by omega⟩ k) = ix2 ⟨512 * (chunk t).val + (a.val * 64 + s.val), by omega⟩ k := by blk_ext! [idx t, chunk]
  show V m c main_v8 (((cfg0.win 0).blk t).view.emb (ix2 ⟨a.val * 64 + s.val, by omega⟩ k)) = _
  rw [e, src0]
  refine Eq.trans ?_ (rows_eq _ (m ((c : Thread nD τ).loc main_arg1)) (chunk t) a s _)
  generalize rows _ _ = R
  pointwise []
  rw [dif_pos hk]

/-- A column of the gate's input, in a block: the sixteen columns, then zeros. -/
theorem gin (c : Dev nD) (t : Fin cfg0.N) (a : Fin 8) (s : Fin 64) (k : Fin 128) :
    (iblk m c 0 t (ix2 ⟨a.val * 64 + s.val, by omega⟩ ⟨1536 + k.val, by omega⟩)) = if hk : k.val < 16 then m ((c : Thread nD τ).loc main_arg0) (ix3 a ⟨(chunk t).val * 64 + s.val, rowLt _ s⟩ ⟨1536 + k.val, by omega⟩) else (0 : EReal) := by
  have e : ((cfg0.win 0).blk t).view.emb (ix2 ⟨a.val * 64 + s.val, by omega⟩ ⟨1536 + k.val, by omega⟩) = ix2 ⟨512 * (chunk t).val + (a.val * 64 + s.val), by omega⟩ ⟨1536 + k.val, by omega⟩ := by blk_ext! [idx t, chunk]
  have hr := rows_eq (m ((c : Thread nD τ).loc main_arg0)) (m ((c : Thread nD τ).loc main_arg1)) (chunk t) a s
  show V m c main_v8 (((cfg0.win 0).blk t).view.emb _) = _
  rw [e, src0]
  simp only [← hr]
  generalize rows _ _ = R
  pointwise []
  by_cases hk : k.val < 16
  · rw [dif_pos hk]
    exact dif_pos (And.intro (by omega) hk)
  · rw [dif_neg hk]
    exact (dif_neg fun h => hk h.2).trans zero_word

theorem wpad (U : S16x256.Idx → EReal) (k : Fin 128) (j : Fin 256) :
    pad S128x256 ![0, 0] ![112, 0] ![0, 0] U (sitofp (F := Ideal) .f32 (constantI S_ 32 0#32)) pads_S16x256_S128x256_01120_000 h_S_ (ix2 k j) = if hk : k.val < 16 then U (ix2 ⟨k.val, by omega⟩ j) else (0 : EReal) := by
  pointwise []
  by_cases hk : k.val < 16
  · rw [dif_pos hk, dif_pos hk]
  · rw [dif_neg hk, dif_neg hk]
    exact zero_word

theorem wup (c : Dev nD) (t : Fin cfg0.N) (k : Fin 128) (j : Fin 256) :
    (iblk m c 2 t (ix2 k j)) = if hk : k.val < 16 then m ((c : Thread nD τ).loc main_arg2) (ix2 ⟨k.val, by omega⟩ j) else (0 : EReal) := by
  have e : ((cfg0.win 2).blk t).view.emb (ix2 k j) = ix2 k j := by blk_ext! [idx t]
  show V m c main_v9 (((cfg0.win 2).blk t).view.emb _) = _
  rw [e, src2]
  exact wpad _ k j

theorem bias (c : Dev nD) (t : Fin cfg0.N) (j : Fin 256) : (iblk m c 3 t (ix2 0 j)) = m ((c : Thread nD τ).loc main_arg3) (ix1 j) := by
  have e : ((cfg0.win 3).blk t).view.emb (ix2 0 j) = ix2 0 j := by blk_ext! [idx t]
  show V m c main_v11 (((cfg0.win 3).blk t).view.emb _) = _
  rw [e]
  unfold V
  simp only [hostOps0, hostOps0_1, hostOps0_2, hostOps0_3, hostOps0_4, List.flatten_cons, List.flatten_nil, List.append_nil, List.cons_append, List.nil_append]
  after_results
  pointwise []

theorem st0 (c : Dev nD) (t : Fin cfg0.N) (a : Fin 8) (p : Fin 2) (r e : Fin 128) : (iblk m c 1 t (ix4 a p r e)) = (0 : EReal) := by
  have e : ((cfg0.win 1).blk t).view.emb (ix4 a p r e) = ix4 a p r e := by blk_ext! [idx t]
  show V m c main_v10 (((cfg0.win 1).blk t).view.emb _) = _
  rw [e]
  unfold V
  simp only [hostOps0, hostOps0_1, hostOps0_2, hostOps0_3, hostOps0_4, List.flatten_cons, List.flatten_nil, List.append_nil, List.cons_append, List.nil_append]
  after_results
  pointwise []

theorem pair8 (X : Vec Ideal S512x256 .f32) (g : Fin 16) (s : Fin 64) (l : Fin 128) : k0_pay8 X (ix3 g s l) = X (ix2 ⟨g.val / 2 * 64 + s.val, by omega⟩ ⟨g.val % 2 * 128 + l.val, by omega⟩) := by
  pointwise [k0_pay8]
  by_cases h : g.val % 2 < 1
  · rw [dif_pos h]
    exact congrArg X (congrArg₂ ix2 rfl (Fin.ext (by simp; omega)))
  · rw [dif_neg h]
    exact congrArg X (congrArg₂ ix2 rfl (Fin.ext (by simp; omega)))

theorem pair9 (X : FVec Ideal S512x256 .f32) (g : Fin 16) (s : Fin 64) (l : Fin 128) : k0_pay9 X (ix3 g s l) = X (ix2 ⟨g.val / 2 * 64 + s.val, by omega⟩ ⟨g.val % 2 * 128 + l.val, by omega⟩) := by
  pointwise [k0_pay9]
  by_cases h : g.val % 2 < 1
  · rw [dif_pos h]
    exact congrArg X (congrArg₂ ix2 rfl (Fin.ext (by simp; omega)))
  · rw [dif_neg h]
    exact congrArg X (congrArg₂ ix2 rfl (Fin.ext (by simp; omega)))

theorem pair10 (X : Vec Ideal S512x512 .f32) (g : Fin 16) (s : Fin 64) (l : Fin 256) : k0_pay10 X (ix3 g s l) = X (ix2 ⟨g.val / 2 * 64 + s.val, by omega⟩ ⟨g.val % 2 * 256 + l.val, by omega⟩) := by
  pointwise [k0_pay10]
  by_cases h : g.val % 2 < 1
  · rw [dif_pos h]
    exact congrArg X (congrArg₂ ix2 rfl (Fin.ext (by simp; omega)))
  · rw [dif_neg h]
    exact congrArg X (congrArg₂ ix2 rfl (Fin.ext (by simp; omega)))

theorem pair12 (X : Vec Ideal S8x2x128x128 .f32) (g : Fin 16) (r e : Fin 128) : k0_pay12 X (ix3 g r e) = X (ix4 ⟨g.val / 2, by omega⟩ ⟨g.val % 2, by omega⟩ r e) := by
  pointwise [k0_pay12]

theorem sel_if {p : Prop} [Decidable p] (x y : EReal) : Scalar.select (if p then 1#1 else 0#1) x y = if p then x else y := by
  split <;> rfl

theorem word_le : ∀ t j : Fin 64, IntOp.cmpi .sge (BitVec.ofNat 32 t.val) (BitVec.ofNat 32 j.val) = if j ≤ t then 1#1 else 0#1 := by
  decide +kernel

theorem lanes : ∀ x : Fin 128, IntOp.cmpi .slt (BitVec.ofNat 32 x.val) 64#32 = if x.val < 64 then 1#1 else 0#1 := by
  decide +kernel

/-- The state a pair carries on, entry by entry. -/
theorem carried (K b : FVec Ideal S16x64x128 .f32) (V : FVec Ideal S16x64x256 .f32) (st : FVec Ideal S16x128x128 .f32) (a : Fin 8) (p : Fin 2) (x e : Fin 128) :
    k0_pay371 k0_pay5 (iota .tc S1x128x1 32 [1] iota_S1x128x1_d1_w32) K b V st (k0_pay370 b) (ix4 a p x e)
    = Ideal.exp (b (ix3 ⟨a.val * 2 + p.val, by omega⟩ 63 x)) * st (ix3 ⟨a.val * 2 + p.val, by omega⟩ x e)
      + ∑ s : Fin 64, (K (ix3 ⟨a.val * 2 + p.val, by omega⟩ s x) * Ideal.exp (b (ix3 ⟨a.val * 2 + p.val, by omega⟩ 63 x) - b (ix3 ⟨a.val * 2 + p.val, by omega⟩ s x)))
        * V (ix3 ⟨a.val * 2 + p.val, by omega⟩ s ⟨x.val / 64 * 128 + e.val, by omega⟩) := by
  pointwise [k0_pay371, k0_pay370, k0_pay5]
  refine congrArg₂ (· + ·) ?_ ?_
  · have h : ∀ r x : Fin 128, IntOp.cmpi .eq (BitVec.ofNat 32 r.val) (BitVec.ofNat 32 x.val) = if x.val = r.val then 1#1 else 0#1 := by
      decide +kernel
    simp only [h, sel_if]
    exact Cert.GlaSums.sum_one x fun y => Ideal.exp (b (ix3 ⟨a.val * 2 + p.val, by omega⟩ 63 y)) * st (ix3 ⟨a.val * 2 + p.val, by omega⟩ y e)
  · rw [lanes, sel_if]
    by_cases hx : x.val < 64
    · have e : (⟨x.val / 64 * 128 + e.val, by omega⟩ : Fin 256) = ⟨e.val, by omega⟩ := Fin.ext (by simp; omega)
      rw [if_pos hx, e]
    · have e : (⟨x.val / 64 * 128 + e.val, by omega⟩ : Fin 256) = ⟨128 + e.val, by omega⟩ := Fin.ext (by simp; omega)
      rw [if_neg hx, e]

/-- A sum over the padded columns, of which only the first sixteen count. -/
theorem sixteen (f : Fin 128 → EReal) (hf : ∀ k : Fin 128, 16 ≤ k.val → f k = 0) : (∑ k : Fin 128, f k) = ∑ k : Fin 16, f ⟨k.val, by omega⟩ := by
  rw [Fin.sum_univ_two_halves 16 112 rfl, Finset.sum_eq_zero (s := (Finset.univ : Finset (Fin 112))), add_zero]
  intro k _
  exact hf _ (Nat.le_add_right 16 k.val)

section
set_option maxHeartbeats 1000000

/-- The kernel's running gate of a block is the reference's. -/
theorem running_gate (P : S8x2048x1552.Idx → EReal) (U : S16x256.Idx → EReal) (G : S256.Idx → EReal) (t : Fin 32)
    (X : Vec Ideal S512x128 .f32) (W : Vec Ideal S128x256 .f32) (B : Vec Ideal S1x256 .f32)
    (hX : ∀ (a : Fin 8) (s : Fin 64) (k : Fin 128), X (ix2 ⟨a.val * 64 + s.val, by omega⟩ k) = if hk : k.val < 16 then P (ix3 a ⟨t.val * 64 + s.val, rowLt t s⟩ ⟨1536 + k.val, by omega⟩) else (0 : EReal))
    (hW : ∀ (k : Fin 128) (j : Fin 256), W (ix2 k j) = if hk : k.val < 16 then U (ix2 ⟨k.val, hk⟩ j) else (0 : EReal))
    (hB : ∀ j : Fin 256, B (ix2 0 j) = G (ix1 j)) (a : Fin 8) (s : Fin 64) (l : Fin 256) :
    k0_pay6 X W B (ix2 ⟨a.val * 64 + s.val, by omega⟩ l) = cum P U G a t s l := by
  have dotp : ∀ i : Fin 64, (∑ k : Fin 128, X (ix2 ⟨a.val * 64 + i.val, by omega⟩ k) * W (ix2 k l)) + B (ix2 0 l) = pre P U G a t i l := by
    intro i
    rw [hB, pre, sixteen _ fun k hk => by rw [hW, dif_neg (by omega), mul_zero]]
    refine congrArg (· + _) (Finset.sum_congr rfl fun k _ => ?_)
    rw [hX, hW, dif_pos k.isLt, dif_pos k.isLt]
  have hs : (a.val * 64 + s.val) % 64 = s.val := by omega
  have hd : (a.val * 64 + s.val) / 64 = a.val := by omega
  have tri : ∀ s x : Fin 64, FloatOps.sitofp (F := Ideal) .f32 (BitVec.setWidth 32 (IntOp.cmpi .sge (BitVec.ofNat 32 s.val) (BitVec.ofNat 32 x.val))) = if x ≤ s then (1 : EReal) else 0 := by
    intro s x
    rw [word_le]
    split
    · exact one_word
    · exact zero_word
  pointwise [k0_pay6]
  rw [cum]
  refine Finset.sum_congr rfl fun x _ => ?_
  simp only [hs, hd, tri, dotp, gk]
  split
  · exact one_mul _
  · exact zero_mul _

end

end Cert.GlaPromptIdeal.Hand
-- ==== Proof.GlpFin.lean ====
/-
  The prompt's gated linear attention leaves the state that its reference leaves.
-/
module

public import proofs.«01_k».proof.Proof.Gen.GlaPromptIdeal.Value
public import proofs.«01_k».proof.Proof.Gen.GlaPromptRefIdeal.Read
public import proofs.«01_k».proof.Proof.GlpBlk
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GlaPromptIdeal.Hand

open Cert.GlaPromptIdeal Cert.GlaPromptIdeal.Gen
open Cert.GlpRef
open Cert.GlaPromptRefIdeal.Read (val_main_v31)

variable (m : (ℓ : Loc nD τ sig) → Buf (Elt Ideal) ℓ)

/-- The columns of a block the kernel loads. -/
def ldk (X : Vec Ideal S512x1664 .f32) : Vec Ideal S512x256 .f32 := extractStridedSlice S512x256 ![0, 256] X ⟨rfl, inb_S512x1664_S512x256_0_256⟩
def ldv (X : Vec Ideal S512x1664 .f32) : Vec Ideal S512x512 .f32 := extractStridedSlice S512x512 ![0, 512] X ⟨rfl, inb_S512x1664_S512x512_0_512⟩
def ldg (X : Vec Ideal S512x1664 .f32) : Vec Ideal S512x128 .f32 := extractStridedSlice S512x128 ![0, 1536] X ⟨rfl, inb_S512x1664_S512x128_0_1536⟩

theorem ldk_eq (X : Vec Ideal S512x1664 .f32) (r : Fin 512) (k : Fin 256) : ldk X (ix2 r k) = X (ix2 r ⟨256 + k.val, by omega⟩) := by pointwise [ldk]
theorem ldv_eq (X : Vec Ideal S512x1664 .f32) (r : Fin 512) (k : Fin 512) : ldv X (ix2 r k) = X (ix2 r ⟨512 + k.val, by omega⟩) := by pointwise [ldv]
theorem ldg_eq (X : Vec Ideal S512x1664 .f32) (r : Fin 512) (k : Fin 128) : ldg X (ix2 r k) = X (ix2 r ⟨1536 + k.val, by omega⟩) := by pointwise [ldg]

section
variable (c : Dev nD) (t : Fin cfg0.N) (a : Fin 8) (p : Fin 2) (s : Fin 64)

theorem k_eq (l : Fin 128) : k0_pay8 (ldk (iblk m c 0 t)) (ix3 ⟨a.val * 2 + p.val, by omega⟩ s l)
    = m ((c : Thread nD τ).loc main_arg0) (ix3 a ⟨(chunk t).val * 64 + s.val, rowLt _ s⟩ ⟨256 + (p.val * 128 + l.val), by omega⟩) := by
  have e : (⟨(a.val * 2 + p.val) / 2 * 64 + s.val, by omega⟩ : Fin 512) = ⟨a.val * 64 + s.val, by omega⟩ := Fin.ext (by simp; omega)
  rw [pair8, ldk_eq, e, proj m c t a s _ (by simp; omega)]
  exact congrArg (m ((c : Thread nD τ).loc main_arg0)) (congrArg (ix3 a _) (Fin.ext (by simp; omega)))

theorem v_eq (l : Fin 256) : k0_pay10 (ldv (iblk m c 0 t)) (ix3 ⟨a.val * 2 + p.val, by omega⟩ s l)
    = m ((c : Thread nD τ).loc main_arg0) (ix3 a ⟨(chunk t).val * 64 + s.val, rowLt _ s⟩ ⟨512 + (p.val * 256 + l.val), by omega⟩) := by
  have e : (⟨(a.val * 2 + p.val) / 2 * 64 + s.val, by omega⟩ : Fin 512) = ⟨a.val * 64 + s.val, by omega⟩ := Fin.ext (by simp; omega)
  rw [pair10, ldv_eq, e, proj m c t a s _ (by simp; omega)]
  exact congrArg (m ((c : Thread nD τ).loc main_arg0)) (congrArg (ix3 a _) (Fin.ext (by simp; omega)))

theorem b_eq (l : Fin 128) : k0_pay9 (k0_pay6 (ldg (iblk m c 0 t)) (iblk m c 2 t) (iblk m c 3 t)) (ix3 ⟨a.val * 2 + p.val, by omega⟩ s l)
    = cum (m ((c : Thread nD τ).loc main_arg0)) (m ((c : Thread nD τ).loc main_arg2)) (m ((c : Thread nD τ).loc main_arg3)) a (chunk t) s ⟨p.val * 128 + l.val, by omega⟩ := by
  have ha : (⟨(a.val * 2 + p.val) / 2 * 64 + s.val, by omega⟩ : Fin 512) = ⟨a.val * 64 + s.val, by omega⟩ := Fin.ext (by simp; omega)
  have hp : (⟨(a.val * 2 + p.val) % 2 * 128 + l.val, by omega⟩ : Fin 256) = ⟨p.val * 128 + l.val, by omega⟩ := Fin.ext (by simp; omega)
  rw [pair9, ha, hp]
  exact running_gate _ _ _ (chunk t) _ _ _ (fun a s k => (ldg_eq _ _ k).trans (gin m c t a s k)) (wup m c t) (bias m c t) a s _

/-- One chunk decays the state and adds to it. -/
theorem step (S : Vec Ideal S8x2x128x128 .f32) (x e : Fin 128) :
    k0_pay371 k0_pay5 (iota .tc S1x128x1 32 [1] iota_S1x128x1_d1_w32) (k0_pay8 (ldk (iblk m c 0 t))) (k0_pay9 (k0_pay6 (ldg (iblk m c 0 t)) (iblk m c 2 t) (iblk m c 3 t)))
      (k0_pay10 (ldv (iblk m c 0 t))) (k0_pay12 S) (k0_pay370 (k0_pay9 (k0_pay6 (ldg (iblk m c 0 t)) (iblk m c 2 t) (iblk m c 3 t)))) (ix4 a p x e)
    = Ideal.exp (cum (m ((c : Thread nD τ).loc main_arg0)) (m ((c : Thread nD τ).loc main_arg2)) (m ((c : Thread nD τ).loc main_arg3)) a (chunk t) 63 ⟨p.val * 128 + x.val, by omega⟩) * S (ix4 a p x e)
      + addv (m ((c : Thread nD τ).loc main_arg0)) (m ((c : Thread nD τ).loc main_arg2)) (m ((c : Thread nD τ).loc main_arg3)) a (chunk t) ⟨p.val * 128 + x.val, by omega⟩ ⟨p.val * 256 + (x.val / 64 * 128 + e.val), by omega⟩ := by
  have ha : (⟨(a.val * 2 + p.val) / 2, by omega⟩ : Fin 8) = a := Fin.ext (by simp; omega)
  have hp : (⟨(a.val * 2 + p.val) % 2, by omega⟩ : Fin 2) = p := Fin.ext (by simp; omega)
  rw [carried, addv, pair12, ha, hp]
  simp only [b_eq, k_eq, v_eq]

/-- At the first chunk the state is a step from the zero state. -/
theorem first (h0 : t.val % 32 = 0) : (outsAt0 m c t.val t.isLt).2 = k0_pay371 k0_pay5 (iota .tc S1x128x1 32 [1] iota_S1x128x1_d1_w32) (k0_pay8 (ldk (iblk m c 0 t))) (k0_pay9 (k0_pay6 (ldg (iblk m c 0 t)) (iblk m c 2 t) (iblk m c 3 t)))
      (k0_pay10 (ldv (iblk m c 0 t))) (k0_pay12 (k0_pay2 (iblk m c 1 t))) (k0_pay370 (k0_pay9 (k0_pay6 (ldg (iblk m c 0 t)) (iblk m c 2 t) (iblk m c 3 t)))) := by
  rw [outsAt0_A m c t h0]
  dsimp only
  frame_out
  simp only [View.ld_unit]
  rfl

theorem next (h0 : ¬ t.val % 32 = 0) : (outsAt0 m c t.val t.isLt).2 = k0_pay371 k0_pay5 (iota .tc S1x128x1 32 [1] iota_S1x128x1_d1_w32) (k0_pay8 (ldk (iblk m c 0 t))) (k0_pay9 (k0_pay6 (ldg (iblk m c 0 t)) (iblk m c 2 t) (iblk m c 3 t)))
      (k0_pay10 (ldv (iblk m c 0 t))) (k0_pay12 (outsAt0 m c (t.val - 1) (Nat.lt_of_le_of_lt (Nat.sub_le _ _) t.isLt)).2) (k0_pay370 (k0_pay9 (k0_pay6 (ldg (iblk m c 0 t)) (iblk m c 2 t) (iblk m c 3 t)))) := by
  rw [outsAt0_B m c t h0]
  dsimp only
  generalize (outsAt0 m c (t.val - 1) _).2 = S
  frame_out
  simp only [View.ld_unit]
  rfl

/-- The chunk of a number. -/
def nth (n : ℕ) : Fin 32 := ⟨n % 32, Nat.mod_lt _ (by decide)⟩

theorem nth_chunk : chunk t = nth t.val := Fin.ext (Nat.mod_eq_of_lt (show t.val < 32 from t.isLt)).symm

/-- The state after some chunks, one entry of it. -/
def after (x e : Fin 128) : ℕ → EReal
  | 0 => 0
  | n + 1 => if h : n < cfg0.N then (outsAt0 m c n h).2 (ix4 a p x e) else 0

theorem after_succ (x e : Fin 128) (n : ℕ) (hn : n < 32) :
    after m c a p x e (n + 1) = Ideal.exp (cum (m ((c : Thread nD τ).loc main_arg0)) (m ((c : Thread nD τ).loc main_arg2)) (m ((c : Thread nD τ).loc main_arg3)) a (nth n) 63 ⟨p.val * 128 + x.val, by omega⟩) * after m c a p x e n
      + addv (m ((c : Thread nD τ).loc main_arg0)) (m ((c : Thread nD τ).loc main_arg2)) (m ((c : Thread nD τ).loc main_arg3)) a (nth n) ⟨p.val * 128 + x.val, by omega⟩ ⟨p.val * 256 + (x.val / 64 * 128 + e.val), by omega⟩ := by
  have hN : n < cfg0.N := hn
  have hs := nth_chunk ⟨n, hN⟩
  rw [after, dif_pos hN]
  change chunk ⟨n, hN⟩ = nth n at hs
  rw [← hs]
  cases n with
  | zero =>
    rw [first m c ⟨0, hN⟩ rfl, step, after]
    have e0 : k0_pay2 (iblk m c 1 ⟨0, hN⟩) (ix4 a p x e) = (0 : EReal) := by
      pointwise [k0_pay2]
      exact st0 m c _ a p x e
    rw [e0]
  | succ n =>
    rw [next m c ⟨n + 1, hN⟩ (by show ¬ (n + 1) % 32 = 0; omega), step, after, dif_pos (Nat.lt_of_succ_lt hN)]
    rfl

theorem emb6 (x e : Fin 128) : ((cfg0.win 6).blk t).view.emb (ix4 a p x e) = ix4 a p x e := by
  blk_ext! [idx t]

theorem last6 : ∀ t : Fin cfg0.N, (cfg0.win 6).flush t = true → t.val = 31 := (by decide +kernel : ∀ t : Fin grid0.N, _)

theorem state_eq (x e : Fin 128) (n : ℕ) (h : n < cfg0.N) (hn : n = 31) : (outsAt0 m c n h).2 (ix4 a p x e)
    = val_main_v31 (F := Ideal) (m ((c : Thread nD τ).loc main_arg0)) (m ((c : Thread nD τ).loc main_arg2)) (m ((c : Thread nD τ).loc main_arg3)) (ix4 a p x e) := by
  subst hn
  rw [ref_state]
  have e0 : (outsAt0 m c 31 h).2 (ix4 a p x e) = after m c a p x e 32 := by
    rw [after, dif_pos h]
  rw [e0, Cert.GlpSums.unroll _ _ _ (fun n => cum_nonpos _ _ _ a (nth n) 63 ⟨p.val * 128 + x.val, by omega⟩) rfl 32 (after_succ m c a p x e)]
  have hn : ∀ i : Fin 32, nth i.val = i := fun i => Fin.ext (Nat.mod_eq_of_lt i.isLt)
  rw [Finset.sum_range]
  refine Finset.sum_congr rfl fun i _ => ?_
  rw [Finset.sum_range]
  simp only [hn, Fin.lt_def]

theorem final6 : (dats m 0 c).arrAt 6 cfg0.N = val_main_v31 (F := Ideal) (m ((c : Thread nD τ).loc main_arg0)) (m ((c : Thread nD τ).loc main_arg2)) (m ((c : Thread nD τ).loc main_arg3)) := by
  refine (dats m 0 c).arrAt_eq_of_covers 6 _ (by decide +kernel) fun t hf y => ?_
  have ht := last6 t hf
  blk_simp
  rw [after0_6]
  idx_vars y
  rw [emb6]
  exact state_eq m c _ _ _ _ _ _ ht

end

end Cert.GlaPromptIdeal.Hand
-- ==== Proof.Real.lean ====
/-
  Extended reals that are real numbers, and the operations that keep them so.
-/
module

public import Idealize.ShloMosaic.Lib.Pipeline.ValueKit

@[expose] public section

noncomputable section

open Idealize.ShloMosaic

namespace Cert.Finite

/-- An extended real that is neither of the two infinities. -/
def IsReal (x : EReal) : Prop := ∃ r : ℝ, x = (r : EReal)

theorem IsReal.add {x y : EReal} : IsReal x → IsReal y → IsReal (x + y) := by
  rintro ⟨a, rfl⟩ ⟨b, rfl⟩
  exact ⟨a + b, (EReal.coe_add a b).symm⟩

theorem IsReal.mul {x y : EReal} : IsReal x → IsReal y → IsReal (x * y) := by
  rintro ⟨a, rfl⟩ ⟨b, rfl⟩
  exact ⟨a * b, (EReal.coe_mul a b).symm⟩

theorem IsReal.sum {ι : Type*} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

/-- A real number less itself is zero, which fails for an infinity. -/
theorem IsReal.sub_self {x : EReal} : IsReal x → x - x = 0 := by
  rintro ⟨a, rfl⟩
  rw [← EReal.coe_sub, _root_.sub_self, EReal.coe_zero]

theorem isReal_of_abs_lt {x : EReal} (h : max x (-x) < ⊤) : IsReal x := by
  induction x with
  | bot => simp at h
  | top => simp at h
  | coe r => exact ⟨r, rfl⟩

theorem sum_squares_real {ι : Type*} (s : Finset ι) {f : ι → EReal} (h : ∀ i, IsReal (f i)) :
    ∃ r : ℝ, 0 ≤ r ∧ ∑ i ∈ s, f i * f i = (r : EReal) := by
  classical
  induction s using Finset.induction_on with
  | empty => exact ⟨0, le_refl 0, by simp⟩
  | insert a s ha ih =>
    obtain ⟨r, hr, e⟩ := ih
    obtain ⟨b, hb⟩ := h a
    exact ⟨b * b + r, add_nonneg (mul_self_nonneg b) hr, by rw [Finset.sum_insert ha, e, hb, EReal.coe_add, EReal.coe_mul]⟩

/-- The reciprocal root of a positive real number is a real number. -/
theorem isReal_rsqrt {r : ℝ} (h : 0 < r) : IsReal (Ideal.rsqrt (r : EReal)) :=
  ⟨(Real.sqrt r)⁻¹, by rw [Ideal.rsqrt_coe, if_neg (not_lt.mpr h.le), if_neg h.ne']⟩

theorem eps_real : ∃ e : ℝ, 0 < e ∧ Ideal.ofBits .f32 0x358637BD#32 = (e : EReal) := by
  refine ⟨8796093 / 2 ^ 43, by positivity, ?_⟩
  simp [Ideal.ofBits, Ideal.ieee, -EReal.coe_mul]; norm_num

theorem div_1024 (r : ℝ) : Ideal.div (r : EReal) (Ideal.ofBits .f32 0x44800000#32) = ((r / 1024 : ℝ) : EReal) := by
  have e : Ideal.ofBits .f32 0x44800000#32 = ((1024 : ℝ) : EReal) := by
    simp [Ideal.ofBits, Ideal.ieee, -EReal.coe_mul]; norm_num
  rw [e, Ideal.div, if_neg (by norm_num), ← EReal.coe_inv, ← EReal.coe_mul, div_eq_mul_inv]

/-- The scale of a root mean square norm over a row of real numbers is a real number. -/
theorem isReal_scale {ι : Type*} (s : Finset ι) {f : ι → EReal} (h : ∀ i, IsReal (f i)) :
    IsReal (Ideal.rsqrt (Ideal.div (∑ i ∈ s, f i * f i) (Ideal.ofBits .f32 0x44800000#32) + Ideal.ofBits .f32 0x358637BD#32)) := by
  obtain ⟨r, hr, e⟩ := sum_squares_real s h
  obtain ⟨ε, hε, e'⟩ := eps_real
  rw [e, div_1024, e', ← EReal.coe_add]
  exact isReal_rsqrt (by positivity)

theorem square_nonneg (x : EReal) : 0 ≤ x * x := by
  induction x with
  | bot => rw [EReal.bot_mul_bot]; exact le_top
  | top => rw [EReal.top_mul_top]; exact le_top
  | coe r => rw [← EReal.coe_mul]; exact EReal.coe_nonneg.2 (mul_self_nonneg r)

/-- A row is made of real numbers, or its sum of squares is infinite. -/
theorem real_or_top {n : ℕ} (f : Fin n → EReal) : (∀ i, IsReal (f i)) ∨ ∑ i, f i * f i = ⊤ := by
  by_cases h : ∀ i, IsReal (f i)
  · exact Or.inl h
  · obtain ⟨j, hj⟩ := not_forall.1 h
    have hs : f j * f j = ⊤ := by
      generalize f j = x at hj
      induction x with
      | bot => exact EReal.bot_mul_bot
      | top => exact EReal.top_mul_top
      | coe r => exact absurd ⟨r, rfl⟩ hj
    have hn : 0 ≤ ∑ i ∈ Finset.univ.erase j, f i * f i := Finset.sum_nonneg fun i _ => square_nonneg _
    refine Or.inr ?_
    rw [← Finset.add_sum_erase _ _ (Finset.mem_univ j), hs]
    exact EReal.top_add_of_ne_bot fun e => by rw [e] at hn; simp at hn

theorem top_add_eps : (⊤ : EReal) + Ideal.ofBits .f32 0x358637BD#32 = ⊤ := by
  obtain ⟨ε, -, e⟩ := eps_real
  rw [e]
  exact EReal.top_add_coe ε

theorem top_div_1024 : Ideal.div ⊤ (Ideal.ofBits .f32 0x44800000#32) = ⊤ := by
  have e : Ideal.ofBits .f32 0x44800000#32 = ((1024 : ℝ) : EReal) := by
    simp [Ideal.ofBits, Ideal.ieee, -EReal.coe_mul]; norm_num
  rw [e, Ideal.div, if_neg (by norm_num), ← EReal.coe_inv]
  exact EReal.top_mul_coe_of_pos (by norm_num)

/-- An entry of a row divided by the row's root mean square is a real number, whatever the row: with an infinite entry
    the scale is 0. -/
theorem isReal_normed {n : ℕ} (f : Fin n → EReal) (i : Fin n) :
    IsReal (f i * Ideal.rsqrt (Ideal.div (∑ i, f i * f i) (Ideal.ofBits .f32 0x44800000#32) + Ideal.ofBits .f32 0x358637BD#32)) := by
  rcases real_or_top f with h | h
  · exact (h i).mul (isReal_scale _ h)
  · rw [h, top_div_1024, top_add_eps, Ideal.rsqrt_top, mul_zero]
    exact ⟨0, rfl⟩

/-- A dot product of factors split into a part and the rest after it is the dot product, where the rest is zero. -/
theorem split_dot {ι : Type*} (s : Finset ι) {a w : ι → EReal} (ha : ∀ i, IsReal (a i)) (hw : ∀ i, IsReal (w i)) :
    ∑ i ∈ s, a i * w i + (∑ i ∈ s, a i * (w i - w i) + ∑ i ∈ s, (a i - a i) * w i) = ∑ i ∈ s, a i * w i := by
  have e1 : ∑ i ∈ s, a i * (w i - w i) = 0 := Finset.sum_eq_zero fun i _ => by rw [(hw i).sub_self, mul_zero]
  have e2 : ∑ i ∈ s, (a i - a i) * w i = 0 := Finset.sum_eq_zero fun i _ => by rw [(ha i).sub_self, zero_mul]
  rw [e1, e2, add_zero, add_zero]

end Cert.Finite
-- ==== Proof.GdnMath.lean ====
/-
  Facts about real numbers and eight-row matrices, used by the gated delta
  rule: forward substitution, the product of powers that inverts a unit
  lower triangular matrix, and the gate.
-/
module

public import proofs.«01_k».proof.Proof.Real

@[expose] public section

noncomputable section

open Idealize.ShloMosaic

namespace Cert.Delta

open Cert.Finite

/-- The rows of forward substitution with a unit lower triangular matrix, one after the other. -/
def sub0 {R : Type} [Sub R] [Mul R] (l : Fin 8 → Fin 8 → R) (r : Fin 8 → R) : R := r 0
def sub1 {R : Type} [Sub R] [Mul R] (l : Fin 8 → Fin 8 → R) (r : Fin 8 → R) : R := r 1 - l 1 0 * sub0 l r
def sub2 {R : Type} [Sub R] [Mul R] (l : Fin 8 → Fin 8 → R) (r : Fin 8 → R) : R := r 2 - l 2 0 * sub0 l r - l 2 1 * sub1 l r
def sub3 {R : Type} [Sub R] [Mul R] (l : Fin 8 → Fin 8 → R) (r : Fin 8 → R) : R := r 3 - l 3 0 * sub0 l r - l 3 1 * sub1 l r - l 3 2 * sub2 l r
def sub4 {R : Type} [Sub R] [Mul R] (l : Fin 8 → Fin 8 → R) (r : Fin 8 → R) : R :=
  r 4 - l 4 0 * sub0 l r - l 4 1 * sub1 l r - l 4 2 * sub2 l r - l 4 3 * sub3 l r
def sub5 {R : Type} [Sub R] [Mul R] (l : Fin 8 → Fin 8 → R) (r : Fin 8 → R) : R :=
  r 5 - l 5 0 * sub0 l r - l 5 1 * sub1 l r - l 5 2 * sub2 l r - l 5 3 * sub3 l r - l 5 4 * sub4 l r
def sub6 {R : Type} [Sub R] [Mul R] (l : Fin 8 → Fin 8 → R) (r : Fin 8 → R) : R :=
  r 6 - l 6 0 * sub0 l r - l 6 1 * sub1 l r - l 6 2 * sub2 l r - l 6 3 * sub3 l r - l 6 4 * sub4 l r - l 6 5 * sub5 l r
def sub7 {R : Type} [Sub R] [Mul R] (l : Fin 8 → Fin 8 → R) (r : Fin 8 → R) : R :=
  r 7 - l 7 0 * sub0 l r - l 7 1 * sub1 l r - l 7 2 * sub2 l r - l 7 3 * sub3 l r - l 7 4 * sub4 l r - l 7 5 * sub5 l r - l 7 6 * sub6 l r

/-- Forward substitution. -/
def subst {R : Type} [Sub R] [Mul R] (l : Fin 8 → Fin 8 → R) (r : Fin 8 → R) : Fin 8 → R :=
  ![sub0 l r, sub1 l r, sub2 l r, sub3 l r, sub4 l r, sub5 l r, sub6 l r, sub7 l r]

/-- Forward substitution on real numbers, held as extended reals. -/
theorem subst_coe (l : Fin 8 → Fin 8 → ℝ) (r : Fin 8 → ℝ) (t : Fin 8) :
    subst (fun i j => ((l i j : ℝ) : EReal)) (fun i => ((r i : ℝ) : EReal)) t = ((subst l r t : ℝ) : EReal) := by
  have e0 : sub0 (fun i j => ((l i j : ℝ) : EReal)) (fun i => ((r i : ℝ) : EReal)) = ((sub0 l r : ℝ) : EReal) := rfl
  have e1 : sub1 (fun i j => ((l i j : ℝ) : EReal)) (fun i => ((r i : ℝ) : EReal)) = ((sub1 l r : ℝ) : EReal) := by
    rw [sub1, sub1, e0]; push_cast; rfl
  have e2 : sub2 (fun i j => ((l i j : ℝ) : EReal)) (fun i => ((r i : ℝ) : EReal)) = ((sub2 l r : ℝ) : EReal) := by
    rw [sub2, sub2, e0, e1]; push_cast; rfl
  have e3 : sub3 (fun i j => ((l i j : ℝ) : EReal)) (fun i => ((r i : ℝ) : EReal)) = ((sub3 l r : ℝ) : EReal) := by
    rw [sub3, sub3, e0, e1, e2]; push_cast; rfl
  have e4 : sub4 (fun i j => ((l i j : ℝ) : EReal)) (fun i => ((r i : ℝ) : EReal)) = ((sub4 l r : ℝ) : EReal) := by
    rw [sub4, sub4, e0, e1, e2, e3]; push_cast; rfl
  have e5 : sub5 (fun i j => ((l i j : ℝ) : EReal)) (fun i => ((r i : ℝ) : EReal)) = ((sub5 l r : ℝ) : EReal) := by
    rw [sub5, sub5, e0, e1, e2, e3, e4]; push_cast; rfl
  have e6 : sub6 (fun i j => ((l i j : ℝ) : EReal)) (fun i => ((r i : ℝ) : EReal)) = ((sub6 l r : ℝ) : EReal) := by
    rw [sub6, sub6, e0, e1, e2, e3, e4, e5]; push_cast; rfl
  have e7 : sub7 (fun i j => ((l i j : ℝ) : EReal)) (fun i => ((r i : ℝ) : EReal)) = ((sub7 l r : ℝ) : EReal) := by
    rw [sub7, sub7, e0, e1, e2, e3, e4, e5, e6]; push_cast; rfl
  fin_cases t
  · exact e0
  · exact e1
  · exact e2
  · exact e3
  · exact e4
  · exact e5
  · exact e6
  · exact e7

/-- The `k`-th power of a strictly lower triangular matrix is zero above its `k`-th lower diagonal. -/
theorem pow_lower (N : Matrix (Fin 8) (Fin 8) ℝ) (hN : ∀ i j : Fin 8, i ≤ j → N i j = 0) (k : ℕ) : ∀ i j : Fin 8, i.val < j.val + k → (N ^ k) i j = 0 := by
  induction k with
  | zero =>
    intro i j h
    rw [pow_zero, Matrix.one_apply_ne]
    intro e
    rw [e] at h
    omega
  | succ k ih =>
    intro i j h
    rw [pow_succ, Matrix.mul_apply]
    refine Finset.sum_eq_zero fun a _ => ?_
    by_cases ha : a ≤ j
    · rw [hN a j ha, mul_zero]
    · have ha' : j.val < a.val := by
        have := not_le.1 ha
        exact this
      rw [ih i a (by omega), zero_mul]

/-- The eighth power of a strictly lower triangular matrix of eight rows is zero. -/
theorem pow_eight (N : Matrix (Fin 8) (Fin 8) ℝ) (hN : ∀ i j : Fin 8, i ≤ j → N i j = 0) : N ^ 8 = 0 := by
  ext i j
  exact pow_lower N hN 8 i j (by omega)

/-- The product of powers by which the kernel inverts one less a strictly lower triangular matrix. -/
def inv (N : Matrix (Fin 8) (Fin 8) ℝ) : Matrix (Fin 8) (Fin 8) ℝ :=
  ((1 + N) + (1 + N) * (N * N)) + ((1 + N) + (1 + N) * (N * N)) * ((N * N) * (N * N))

theorem inv_mul (N : Matrix (Fin 8) (Fin 8) ℝ) (hN : ∀ i j : Fin 8, i ≤ j → N i j = 0) : inv N * (1 - N) = 1 := by
  have e : inv N * (1 - N) = 1 - N ^ 8 := by
    rw [inv]
    noncomm_ring
  rw [e, pow_eight N hN, sub_zero]

/-- Forward substitution solves its equations. -/
theorem subst_solves (l : Fin 8 → Fin 8 → ℝ) (r : Fin 8 → ℝ) (hl : ∀ i j : Fin 8, i ≤ j → l i j = 0) (t : Fin 8) :
    subst l r t + ∑ s : Fin 8, l t s * subst l r s = r t := by
  rw [Fin.sum_univ_eight]
  fin_cases t <;> simp [subst, hl, sub0, sub1, sub2, sub3, sub4, sub5, sub6, sub7]

/-- The kernel's inverse applied to a column is forward substitution. -/
theorem inv_apply (l : Fin 8 → Fin 8 → ℝ) (r : Fin 8 → ℝ) (hl : ∀ i j : Fin 8, i ≤ j → l i j = 0) (t : Fin 8) :
    ∑ s : Fin 8, inv (Matrix.of fun i j => -l i j) t s * r s = subst l r t := by
  have hs : r = (1 - Matrix.of fun i j => -l i j).mulVec (subst l r) := by
    funext i
    rw [Matrix.sub_mulVec, Matrix.one_mulVec, Pi.sub_apply, Matrix.mulVec, dotProduct]
    rw [← subst_solves l r hl i]
    simp [sub_eq_add_neg, ← Finset.sum_neg_distrib]
  have h : (inv (Matrix.of fun i j => -l i j)).mulVec r = subst l r := by
    rw [hs, Matrix.mulVec_mulVec, inv_mul _ (fun i j hij => by simp [hl i j hij]), Matrix.one_mulVec, ← hs]
  exact congrFun h t

/-- A dot product of real numbers, held as extended reals. -/
theorem dot_coe {ι : Type*} (s : Finset ι) (a w : ι → ℝ) : ∑ i ∈ s, ((a i : ℝ) : EReal) * ((w i : ℝ) : EReal) = ((∑ i ∈ s, a i * w i : ℝ) : EReal) := by
  classical
  induction s using Finset.induction_on with
  | empty => simp
  | insert b s hb ih => rw [Finset.sum_insert hb, Finset.sum_insert hb, ih, EReal.coe_add, EReal.coe_mul]

/-- A dot product whose factors are each split into a part and the rest. -/
def split {n : ℕ} (a w : Fin n → EReal) : EReal := ∑ i, a i * w i + (∑ i, a i * (w i - w i) + ∑ i, (a i - a i) * w i)

theorem split_coe {n : ℕ} (a w : Fin n → ℝ) : split (fun i => ((a i : ℝ) : EReal)) (fun i => ((w i : ℝ) : EReal)) = ((∑ i, a i * w i : ℝ) : EReal) := by
  rw [split, split_dot _ (fun i => ⟨a i, rfl⟩) (fun i => ⟨w i, rfl⟩), dot_coe]

theorem exp_real {x : EReal} (h : x ≠ ⊤) : IsReal (Ideal.exp x) := by
  induction x with
  | bot => exact ⟨0, rfl⟩
  | top => exact absurd rfl h
  | coe r => exact ⟨Real.exp r, rfl⟩

theorem exp_nonneg (y : EReal) : 0 ≤ Ideal.exp y := by
  induction y with
  | bot => exact le_refl _
  | top => exact le_top
  | coe r => exact EReal.coe_nonneg.2 (Real.exp_pos r).le

theorem log1p_nonneg {y : EReal} (h : 0 ≤ y) : 0 ≤ Ideal.log1p y := by
  induction y with
  | bot => simp at h
  | top =>
    have e : (1 : EReal) + ⊤ = ⊤ := EReal.add_top_of_ne_bot (EReal.coe_ne_bot 1)
    rw [Ideal.log1p, e]
    exact le_top
  | coe r =>
    have hr : 0 ≤ r := EReal.coe_nonneg.1 h
    have e : Ideal.log1p (r : EReal) = if (1 + r) ≤ 0 then ⊥ else (Real.log (1 + r) : EReal) := rfl
    rw [e, if_neg (by linarith)]
    exact EReal.coe_nonneg.2 (Real.log_nonneg (by linarith))

/-- The gate of a row is at most zero, whatever the sign and size of its parameters. -/
theorem gate_nonpos (a z : EReal) : -Ideal.exp a * (max z 0 + Ideal.log1p (Ideal.exp (-max z (-z)))) ≤ 0 := by
  rw [EReal.neg_mul]
  refine EReal.neg_le_zero.2 (mul_nonneg (exp_nonneg a) (add_nonneg (le_max_right z 0) (log1p_nonneg (exp_nonneg _))))

/-- A running sum of numbers at most zero. -/
def run (g : Fin 8 → EReal) (s : Fin 8) : EReal := ∑ i : Fin 8, if i ≤ s then g i else 0

theorem run_anti {g : Fin 8 → EReal} (h : ∀ i, g i ≤ 0) {s t : Fin 8} (hst : s ≤ t) : run g t ≤ run g s := by
  refine Finset.sum_le_sum fun i _ => ?_
  by_cases hi : i ≤ s
  · rw [if_pos hi, if_pos (hi.trans hst)]
  · rw [if_neg hi]
    split
    · exact h i
    · exact le_refl _

theorem run_nonpos {g : Fin 8 → EReal} (h : ∀ i, g i ≤ 0) (t : Fin 8) : run g t ≤ 0 :=
  Finset.sum_nonpos fun i _ => by
    split
    · exact h i
    · exact le_refl _

theorem ne_top_of_nonpos {x : EReal} (h : x ≤ 0) : x ≠ ⊤ := fun e => by
  rw [e] at h
  simp at h

/-- The decay from a row to a later one is real, even where the gate is infinite. -/
theorem decay_real {g : Fin 8 → EReal} (h : ∀ i, g i ≤ 0) {s t : Fin 8} (hst : s ≤ t) : IsReal (Ideal.exp (run g t - run g s)) := by
  refine exp_real fun e => ?_
  have h1 := run_anti h hst
  have h0 := run_nonpos h s
  have ht := ne_top_of_nonpos (run_nonpos h t)
  generalize run g t = x at *
  generalize run g s = y at *
  induction y with
  | bot =>
    rw [le_bot_iff.1 h1] at e
    simp at e
  | top => simp at h0
  | coe b =>
    induction x with
    | bot => simp at e
    | top => exact ht rfl
    | coe a =>
      rw [← EReal.coe_sub] at e
      exact EReal.coe_ne_top _ e

/-- The logistic function is a real number, at the infinities too. -/
theorem logistic_real (x : EReal) : IsReal (Ideal.div 1 (1 + Ideal.exp (-x))) := by
  induction x with
  | bot =>
    refine ⟨0, ?_⟩
    have e : (1 : EReal) + ⊤ = ⊤ := EReal.add_top_of_ne_bot (EReal.coe_ne_bot 1)
    rw [EReal.neg_bot, Ideal.exp_top, e, Ideal.div, if_neg (by simp), EReal.inv_top, mul_zero]
    rfl
  | top =>
    refine ⟨1, ?_⟩
    rw [EReal.neg_top, Ideal.exp_bot, add_zero, Ideal.div, if_neg (by simp), ← EReal.coe_one, ← EReal.coe_inv, ← EReal.coe_mul]
    norm_num
  | coe r =>
    have e : (1 : EReal) + Ideal.exp (-(r : EReal)) = ((1 + Real.exp (-r) : ℝ) : EReal) := by
      rw [EReal.coe_add]; rfl
    have hp : (1 + Real.exp (-r) : ℝ) ≠ 0 := by positivity
    refine ⟨1 * (1 + Real.exp (-r))⁻¹, ?_⟩
    rw [e, Ideal.div, if_neg (by exact_mod_cast hp), ← EReal.coe_inv, EReal.coe_mul, EReal.coe_one]

theorem scale_real : IsReal (Ideal.ofBits .f32 0x3DB504F3#32) := by
  refine ⟨11863283 / 2 ^ 27, ?_⟩
  simp [Ideal.ofBits, Ideal.ieee, -EReal.coe_mul]; norm_num

/-- The reciprocal length of a row of real numbers. -/
theorem unit_real {ι : Type*} (s : Finset ι) {f : ι → EReal} (h : ∀ i, IsReal (f i)) :
    IsReal (Ideal.rsqrt (∑ i ∈ s, f i * f i + Ideal.ofBits .f32 0x358637BD#32)) := by
  obtain ⟨r, hr, e⟩ := sum_squares_real s h
  obtain ⟨ε, hε, e'⟩ := eps_real
  rw [e, e', ← EReal.coe_add]
  exact isReal_rsqrt (by positivity)

/-- An entry of a row divided by the row's length is a real number, whatever the row. -/
theorem entry_real {n : ℕ} (f : Fin n → EReal) (i : Fin n) : IsReal (f i * Ideal.rsqrt (∑ i, f i * f i + Ideal.ofBits .f32 0x358637BD#32)) := by
  rcases real_or_top f with h | h
  · exact (h i).mul (unit_real _ h)
  · rw [h, top_add_eps, Ideal.rsqrt_top, mul_zero]
    exact ⟨0, rfl⟩

end Cert.Delta
-- ==== Proof.GdnRef.lean ====
/-
  The reference of the gated delta rule, read element by element.
-/
module

public import proofs.«01_k».proof.Proof.Gen.GdnRefIdeal.Read
public import proofs.«01_k».proof.Proof.GdnMath
public import proofs.«01_k».proof.Proof.GlaSums
public import Idealize.ShloMosaic.Lib.Pipeline.ValueKit

@[expose] public section

set_option maxRecDepth 16384

noncomputable section

open Idealize.ShloMosaic Idealize.ShloMosaic.TcCoe Idealize.SL.Sem

namespace Cert.Delta

open Cert.GdnRefIdeal Cert.GdnRefIdeal.Gen
open Cert.GdnRefIdeal.Read

section
variable (P : S17408x2056.Idx → EReal) (S : S128x4x128x128.Idx → EReal) (C : S128x3x1536.Idx → EReal) (W : S4x1536.Idx → EReal)
  (A : S4.Idx → EReal) (D : S4.Idx → EReal) (G : S128.Idx → EReal)

/-- Row `i` of the sequence `n` with the three rows kept from before in front. -/
def tap (n : Fin 128) (i : Fin 11) (j : Fin 1536) : EReal :=
  if h : i.val < 3 then C (ix3 n ⟨i.val, h⟩ j) else P (ix2 ⟨16384 + (n.val * 8 + (i.val - 3)), by omega⟩ ⟨j.val, by omega⟩)

theorem ref_tap (n : Fin 128) (i : Fin 11) (j : Fin 1536) : val_main_v6 (F := Ideal) P C (ix3 n i j) = tap P C n i j := by
  pointwise [val_main_v6, val_main_v2, val_main_v1, val_main_v0, tap]

/-- The rows kept for later. -/
theorem ref_keep (n : Fin 128) (i : Fin 3) (j : Fin 1536) : val_main_v34 (F := Ideal) P C (ix3 n i j) = tap P C n ⟨8 + i.val, by omega⟩ j := by
  pointwise [val_main_v34, ref_tap]

/-- The short convolution. -/
def conv (n : Fin 128) (s : Fin 8) (j : Fin 1536) : EReal :=
  tap P C n ⟨s.val, by omega⟩ j * W (ix2 0 j) + tap P C n ⟨1 + s.val, by omega⟩ j * W (ix2 1 j)
    + tap P C n ⟨2 + s.val, by omega⟩ j * W (ix2 2 j) + tap P C n ⟨3 + s.val, by omega⟩ j * W (ix2 3 j)

theorem ref_conv (n : Fin 128) (s : Fin 8) (j : Fin 1536) : val_main_v33 (F := Ideal) P C W (ix3 n s j) = conv P C W n s j := by
  pointwise [val_main_v33, val_main_v26, val_main_v19, val_main_v12, val_main_v7, val_main_v11, val_main_v10, val_main_v9, val_main_v8, val_main_v18, val_main_v13, val_main_v17, val_main_v16, val_main_v15, val_main_v14, val_main_v25, val_main_v20, val_main_v24, val_main_v23, val_main_v22, val_main_v21, val_main_v32, val_main_v27, val_main_v31, val_main_v30, val_main_v29, val_main_v28, ref_tap, conv]

/-- The convolution gated by its own logistic function. -/
def act (n : Fin 128) (s : Fin 8) (j : Fin 1536) : EReal := conv P C W n s j * Ideal.div 1 (1 + Ideal.exp (-conv P C W n s j))

theorem ref_act (n : Fin 128) (s : Fin 8) (j : Fin 1536) : val_main_v35 (F := Ideal) P C W (ix3 n s j) = act P C W n s j := by
  pointwise [val_main_v35, val_main_call0_v5, val_main_call0_v4, val_main_call0_cst_0, val_main_call0_v3, val_main_call0_v2, val_main_call0_cst, val_main_call0_v1, val_main_call0_v0, ref_conv, act]

theorem ref_q (n : Fin 128) (s : Fin 8) (h : Fin 4) (d : Fin 128) : val_main_v38 (F := Ideal) P C W (ix4 n s h d) = act P C W n s ⟨h.val * 128 + d.val, by omega⟩ := by
  pointwise [val_main_v38, val_main_v37, val_main_v36, ref_act]

theorem ref_k (n : Fin 128) (s : Fin 8) (h : Fin 4) (d : Fin 128) : val_main_v40 (F := Ideal) P C W (ix4 n s h d) = act P C W n s ⟨512 + (h.val * 128 + d.val), by omega⟩ := by
  pointwise [val_main_v40, val_main_v39, val_main_v36, ref_act]
  simp only [Nat.add_assoc]

theorem ref_v (n : Fin 128) (s : Fin 8) (h : Fin 4) (d : Fin 128) : val_main_v42 (F := Ideal) P C W (ix4 n s h d) = act P C W n s ⟨1024 + (h.val * 128 + d.val), by omega⟩ := by
  pointwise [val_main_v42, val_main_v41, val_main_v36, ref_act]
  simp only [Nat.add_assoc]

/-- The queries, of unit length and scaled. -/
def qry (n : Fin 128) (s : Fin 8) (h : Fin 4) (d : Fin 128) : EReal :=
  act P C W n s ⟨h.val * 128 + d.val, by omega⟩
    * Ideal.rsqrt (∑ x : Fin 128, act P C W n s ⟨h.val * 128 + x.val, by omega⟩ * act P C W n s ⟨h.val * 128 + x.val, by omega⟩ + Ideal.ofBits .f32 0x358637BD#32)
    * Ideal.ofBits .f32 0x3DB504F3#32

theorem ref_qry (n : Fin 128) (s : Fin 8) (h : Fin 4) (d : Fin 128) : val_main_v52 (F := Ideal) P C W (ix4 n s h d) = qry P C W n s h d := by
  pointwise [val_main_v52, val_main_v50, val_main_v49, val_main_v48, val_main_v47, val_main_v45, val_main_v44, val_main_v43, val_main_cst, val_main_v46, val_main_cst_0, val_main_v51, val_main_cst_1, ref_q, qry]

/-- The keys, of unit length. -/
def key (n : Fin 128) (s : Fin 8) (h : Fin 4) (d : Fin 128) : EReal :=
  act P C W n s ⟨512 + (h.val * 128 + d.val), by omega⟩
    * Ideal.rsqrt (∑ x : Fin 128, act P C W n s ⟨512 + (h.val * 128 + x.val), by omega⟩ * act P C W n s ⟨512 + (h.val * 128 + x.val), by omega⟩ + Ideal.ofBits .f32 0x358637BD#32)

theorem ref_key (n : Fin 128) (s : Fin 8) (h : Fin 4) (d : Fin 128) : val_main_v60 (F := Ideal) P C W (ix4 n s h d) = key P C W n s h d := by
  pointwise [val_main_v60, val_main_v59, val_main_v58, val_main_v57, val_main_v55, val_main_v54, val_main_v53, val_main_cst_2, val_main_v56, val_main_cst_3, ref_k, key]

/-- How much of a row is written. -/
def beta (n : Fin 128) (s : Fin 8) (h : Fin 4) : EReal :=
  Ideal.div 1 (1 + Ideal.exp (-P (ix2 ⟨16384 + (n.val * 8 + s.val), by omega⟩ ⟨2048 + h.val, by omega⟩)))

theorem ref_beta (n : Fin 128) (s : Fin 8) (h : Fin 4) : val_main_v66 (F := Ideal) P (ix3 n s h) = beta P n s h := by
  pointwise [val_main_v66, val_main_v65, val_main_cst_5, val_main_v64, val_main_v63, val_main_cst_4, val_main_v62, val_main_v61, val_main_v4, val_main_v1, val_main_v0, beta]

/-- The gate of a row before the smooth maximum with zero. -/
def pre (n : Fin 128) (s : Fin 8) (h : Fin 4) : EReal :=
  P (ix2 ⟨16384 + (n.val * 8 + s.val), by omega⟩ ⟨2052 + h.val, by omega⟩) + D (ix1 h)

theorem ref_pre (n : Fin 128) (s : Fin 8) (h : Fin 4) : val_main_v71 (F := Ideal) P D (ix3 n s h) = pre P D n s h := by
  pointwise [val_main_v71, val_main_v5, val_main_v1, val_main_v0, val_main_v70, val_main_v69, pre]

/-- The gate of a row. -/
def gat (n : Fin 128) (h : Fin 4) (s : Fin 8) : EReal :=
  -Ideal.exp (A (ix1 h)) * (max (pre P D n s h) 0 + Ideal.log1p (Ideal.exp (-max (pre P D n s h) (-pre P D n s h))))

theorem ref_gat (n : Fin 128) (s : Fin 8) (h : Fin 4) : val_main_v75 (F := Ideal) P A D (ix3 n s h) = gat P A D n h s := by
  pointwise [val_main_v75, val_main_v74, val_main_v73, val_main_v68, val_main_v67, val_main_v72, val_main_call1_v4, val_main_call1_v3, val_main_call1_v2, val_main_call1_cst, val_main_call1_v6, val_main_call1_v5, val_main_call1_v11, val_main_call1_v1, val_main_call1_v0, val_main_call1_v10, val_main_call1_v9, val_main_call1_v8, val_main_call1_v7, ref_pre, gat]
  rw [if_neg (by simp)]
  rfl

/-- The position in the window of the running sum is the row. -/
theorem place : ∀ n : Fin (Shape.numel ⟨3, ![1, 8, 1]⟩), ((Shape.rowMajor ⟨3, ![1, 8, 1]⟩).symm n 0).val = 0
    ∧ ((Shape.rowMajor ⟨3, ![1, 8, 1]⟩).symm n 1).val = n.val ∧ ((Shape.rowMajor ⟨3, ![1, 8, 1]⟩).symm n 2).val = 0 := by decide +kernel

/-- The running sum over the eight rows of a sequence: row by row, the sum of the rows up to it. -/
theorem running (x : S128x8x4.Idx → EReal) (z : S_.Idx → EReal) (hz : z (Shape.Idx.first h_S_) = 0) (n : Fin 128) (s : Fin 8) (h : Fin 4) :
    Host.reduceWindowAdd (F := Ideal) (φ := .f32) ![1, 8, 1] ![1, 1, 1] ![0, 7, 0] ![0, 0, 0] x z reduceWindows_S128x8x4_S128x8x4_w1s1p0_0_w8s1p7_0_w1s1p0_0 h_S_ (ix3 n s h)
    = run (fun j => x (ix3 n j h)) s := by
  unfold Host.reduceWindowAdd
  change Ideal.hostReduceWindowAdd _ _ _ _ _ x (z (Shape.Idx.first h_S_)) _ = _
  rw [hz]
  unfold Ideal.hostReduceWindowAdd Host.reduceWindow
  dsimp only
  refine (Cert.GlaSums.sum8 (by decide) _ (fun k : Fin 8 => if hk : 7 ≤ s.val + k.val then x (ix3 n ⟨s.val + k.val - 7, by omega⟩ h) else 0) (fun k => ?_)).trans ?_
  · have hN : Shape.numel ⟨3, ![1, 8, 1]⟩ = 8 := by decide
    have hk8 : k.val < 8 := (k.cast hN).isLt
    obtain ⟨p0, p1, p2⟩ := place k
    by_cases hk : 7 ≤ s.val + k.val
    · have hin : ∀ a, (![0, 7, 0] : Fin 3 → Nat) a ≤ ((ix3 n s h : S128x8x4.Idx) a).val * (![1, 1, 1] : Fin 3 → Nat) a + ((Shape.rowMajor ⟨3, ![1, 8, 1]⟩).symm k a).val
          ∧ ((ix3 n s h : S128x8x4.Idx) a).val * (![1, 1, 1] : Fin 3 → Nat) a + ((Shape.rowMajor ⟨3, ![1, 8, 1]⟩).symm k a).val - (![0, 7, 0] : Fin 3 → Nat) a < S128x8x4.size a := fun a => by
        match a with
        | ⟨0, _⟩ =>
          show 0 ≤ n.val * 1 + ((Shape.rowMajor ⟨3, ![1, 8, 1]⟩).symm k 0).val ∧ n.val * 1 + ((Shape.rowMajor ⟨3, ![1, 8, 1]⟩).symm k 0).val - 0 < 128
          rw [p0]; omega
        | ⟨1, _⟩ =>
          show 7 ≤ s.val * 1 + ((Shape.rowMajor ⟨3, ![1, 8, 1]⟩).symm k 1).val ∧ s.val * 1 + ((Shape.rowMajor ⟨3, ![1, 8, 1]⟩).symm k 1).val - 7 < 8
          rw [p1]; omega
        | ⟨2, _⟩ =>
          show 0 ≤ h.val * 1 + ((Shape.rowMajor ⟨3, ![1, 8, 1]⟩).symm k 2).val ∧ h.val * 1 + ((Shape.rowMajor ⟨3, ![1, 8, 1]⟩).symm k 2).val - 0 < 4
          rw [p2]; omega
      refine (dif_pos hin).trans (Eq.trans ?_ (dif_pos (show 7 ≤ s.val + (k.cast hN).val from hk)).symm)
      refine congrArg x (funext fun a => Fin.ext ?_)
      match a with
      | ⟨0, _⟩ =>
        show n.val * 1 + ((Shape.rowMajor ⟨3, ![1, 8, 1]⟩).symm k 0).val - 0 = n.val
        rw [p0]; omega
      | ⟨1, _⟩ =>
        show s.val * 1 + ((Shape.rowMajor ⟨3, ![1, 8, 1]⟩).symm k 1).val - 7 = s.val + k.val - 7
        rw [p1]; omega
      | ⟨2, _⟩ =>
        show h.val * 1 + ((Shape.rowMajor ⟨3, ![1, 8, 1]⟩).symm k 2).val - 0 = h.val
        rw [p2]; omega
    · refine Eq.trans (b := (0 : EReal)) (dif_neg ?_) (Eq.symm (dif_neg (show ¬ 7 ≤ s.val + (k.cast hN).val from hk)))
      intro hin
      have h1 := (hin 1).1
      change 7 ≤ s.val * 1 + ((Shape.rowMajor ⟨3, ![1, 8, 1]⟩).symm k 1).val at h1
      rw [p1] at h1
      omega
  rw [run]
  fin_cases s <;> simp [Fin.sum_univ_eight]

theorem ref_run (n : Fin 128) (s : Fin 8) (h : Fin 4) : val_main_v80 (F := Ideal) P A D (ix3 n s h) = run (gat P A D n h) s := by
  refine (running (val_main_v75 (F := Ideal) P A D) (val_main_call4_call0_v0 (F := Ideal)) (by pointwise [val_main_call4_call0_v0, val_main_call4_call0_cst]) n s h).trans ?_
  simp only [ref_gat, run]

/-- The masks of the rows up to a row and before a row. -/
theorem mask_le : ∀ t s : Fin 8, Scalar.select (IntOp.cmpi .sge (IntOp.addi (BitVec.ofNat 32 t.val) 0#32) (BitVec.ofNat 32 s.val)) 1#1 0#1 = if s ≤ t then 1#1 else 0#1 := by
  decide +kernel
theorem mask_lt : ∀ t s : Fin 8, Scalar.select (IntOp.cmpi .sge (IntOp.addi (BitVec.ofNat 32 t.val) 4294967295#32) (BitVec.ofNat 32 s.val)) 1#1 0#1 = if s < t then 1#1 else 0#1 := by
  decide +kernel

theorem zero_const : (id (constant (F := Ideal) S_ .f32 0#32) ix0 : EReal) = 0 := Ideal.ofBits_zero_f32

/-- The decay from row `s` to row `t`. -/
def dec (n : Fin 128) (h : Fin 4) (t s : Fin 8) : EReal := if s ≤ t then Ideal.exp (run (gat P A D n h) t - run (gat P A D n h) s) else 0

theorem ref_dec (n : Fin 128) (h : Fin 4) (t s : Fin 8) : val_main_v89 (F := Ideal) P A D (ix4 n h t s) = dec P A D n h t s := by
  pointwise [val_main_v89, val_main_call6_v1, val_main_v77, val_main_call2_v4, val_main_call2_v2, val_main_call2_v0, val_main_call2_v1, val_main_call2_c, val_main_call2_v3, val_main_v76, val_main_c, val_main_call2_v5, val_main_call2_c_0, val_main_v88, val_main_v87, val_main_call5_v1, val_main_v86, val_main_v84, val_main_v82, val_main_v81, val_main_v85, val_main_v83, val_main_call5_v2, val_main_call5_v0, val_main_cst_7, val_main_call6_v2, val_main_call6_v0, val_main_cst_8, ref_run, dec]
  rw [mask_le]
  by_cases hst : s ≤ t
  · rw [if_pos hst, if_pos hst]
    rfl
  · rw [if_neg hst, if_neg hst]
    exact zero_const

/-- The keys by how much of a row is written. -/
def kb (n : Fin 128) (s : Fin 8) (h : Fin 4) (d : Fin 128) : EReal := key P C W n s h d * beta P n s h

theorem ref_kb (n : Fin 128) (s : Fin 8) (h : Fin 4) (d : Fin 128) : val_main_v92 (F := Ideal) P C W (ix4 n s h d) = kb P C W n s h d := by
  pointwise [val_main_v92, val_main_v91, val_main_v90, ref_key, ref_beta, kb]

/-- How much of what row `s` writes row `t` takes back. -/
def low (n : Fin 128) (h : Fin 4) (t s : Fin 8) : EReal := if s < t then (∑ d : Fin 128, kb P C W n t h d * key P C W n s h d) * dec P A D n h t s else 0

theorem ref_low (n : Fin 128) (h : Fin 4) (t s : Fin 8) : val_main_v95 (F := Ideal) P C W A D (ix4 n h t s) = low P C W A D n h t s := by
  pointwise [val_main_v95, val_main_call7_v1, val_main_v79, val_main_call3_v4, val_main_call3_v2, val_main_call3_v0, val_main_call3_v1, val_main_call3_c, val_main_call3_v3, val_main_v78, val_main_c_6, val_main_call3_v5, val_main_call3_c_0, val_main_v94, val_main_v93, val_main_call7_v2, val_main_call7_v0, val_main_cst_9, ref_kb, ref_key, ref_dec, low]
  rw [mask_lt]
  by_cases hst : s < t
  · rw [if_pos hst, if_pos hst]
    rfl
  · rw [if_neg hst, if_neg hst]
    exact zero_const

/-- What a row writes, before what the rows before it wrote is taken back. -/
def vb (n : Fin 128) (h : Fin 4) (e : Fin 128) (s : Fin 8) : EReal := act P C W n s ⟨1024 + (h.val * 128 + e.val), by omega⟩ * beta P n s h
def ke (n : Fin 128) (h : Fin 4) (d : Fin 128) (s : Fin 8) : EReal := kb P C W n s h d * Ideal.exp (run (gat P A D n h) s)

/-- The two columns side by side. -/
def rhs (n : Fin 128) (h : Fin 4) (e : Fin 256) (s : Fin 8) : EReal :=
  if he : e.val < 128 then vb P C W n h ⟨e.val, he⟩ s else ke P C W A D n h ⟨e.val - 128, by omega⟩ s

theorem ref_rhs (n : Fin 128) (s : Fin 8) (h : Fin 4) (e : Fin 256) : val_main_v103 (F := Ideal) P C W A D (ix4 n s h e) = rhs P C W A D n h e s := by
  pointwise [val_main_v103, val_main_v98, val_main_v97, val_main_v96, val_main_v102, val_main_v101, val_main_v100, val_main_v99, ref_v, ref_beta, ref_kb, ref_run, rhs, vb, ke]

end

end Cert.Delta
-- ==== Proof.GdnBlk.lean ====
/-
  The blocks of the gated delta rule's kernel, read element by element.
-/
module

public import proofs.«01_k».proof.Proof.Gen.GdnIdeal.Value
public import proofs.«01_k».proof.Proof.GdnRef
public import proofs.«01_k».proof.Proof.GlaBlk
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GdnIdeal.Hand

open Cert.GdnIdeal Cert.GdnIdeal.Gen

variable (m : (ℓ : Loc nD τ sig) → Buf (Elt Ideal) ℓ)

/-- The block indices of the windows at every grid point. -/
theorem idx : ∀ t : Fin cfg0.N, win0_0.index t = ![t.val + 128, 0] ∧ win0_1.index t = ![t.val, 0, 0, 0] ∧ win0_2.index t = ![t.val, 0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0, 0, 0] ∧ win0_9.index t = ![t.val, 0, 0] :=
  (by decide +kernel : ∀ t : Fin grid0.N, _)

/-- The arrays the layer reads, as arrays of extended reals. -/
abbrev aP (c : Dev nD) : S17408x2056.Idx → EReal := m ((c : Thread nD τ).loc main_arg0)
abbrev aS (c : Dev nD) : S128x4x128x128.Idx → EReal := m ((c : Thread nD τ).loc main_arg1)
abbrev aC (c : Dev nD) : S128x3x1536.Idx → EReal := m ((c : Thread nD τ).loc main_arg2)
abbrev aW (c : Dev nD) : S4x1536.Idx → EReal := m ((c : Thread nD τ).loc main_arg3)
abbrev aA (c : Dev nD) : S4.Idx → EReal := m ((c : Thread nD τ).loc main_arg4)
abbrev aD (c : Dev nD) : S4.Idx → EReal := m ((c : Thread nD τ).loc main_arg5)
abbrev aG (c : Dev nD) : S128.Idx → EReal := m ((c : Thread nD τ).loc main_arg6)

/-- The sequence a block's row belongs to. -/
def seq (t : Fin cfg0.N) (a : Fin 16) : Fin 128 := ⟨16 * t.val + a.val, by have := t.isLt; change t.val < 8 at this; omega⟩

/-- The projection with its last eight columns padded to a full tile of lanes. -/
theorem src0 (c : Dev nD) : V m c main_v3 = concatenate S17408x2176 1 [⟨S17408x2048, extractStridedSlice S17408x2048 ![0, 0] (aP m c) slices_S17408x2056_S17408x2048_0_0⟩,
    ⟨S17408x128, pad S17408x128 ![0, 0] ![0, 120] ![0, 0] (extractStridedSlice S17408x8 ![0, 2048] (aP m c) slices_S17408x2056_S17408x8_0_2048) (sitofp (F := Ideal) .f32 (constantI S_ 32 0#32)) pads_S17408x8_S17408x128_000_01200 h_S_⟩]
    concatenates_S17408x2048_S17408x128_S17408x2176_d1 := by
  unfold V
  simp only [hostOps0, hostOps0_1, hostOps0_2, hostOps0_3, hostOps0_4, hostOps0_5, hostOps0_6, List.flatten_cons, List.flatten_nil, List.append_nil, List.cons_append, List.nil_append]
  after_results
  rfl

/-- A column of the projection proper, in a block. -/
theorem proj (c : Dev nD) (t : Fin cfg0.N) (r : Fin 128) (k : Fin 2176) (hk : k.val < 2048) :
    (iblk m c 0 t (ix2 r k)) = aP m c (ix2 ⟨16384 + (128 * t.val + r.val), by have := t.isLt; change t.val < 8 at this; omega⟩ ⟨k.val, by omega⟩) := by
  have e : ((cfg0.win 0).blk t).view.emb (ix2 r k) = ix2 ⟨16384 + (128 * t.val + r.val), by have := t.isLt; change t.val < 8 at this; omega⟩ k := by blk_ext! [idx t]
  show V m c main_v3 (((cfg0.win 0).blk t).view.emb (ix2 r k)) = _
  rw [e, src0]
  pointwise []
  rw [dif_pos hk]

/-- A column of the two gates' inputs, in a block. -/
theorem gin (c : Dev nD) (t : Fin cfg0.N) (r : Fin 128) (k : Fin 128) (hk : k.val < 8) :
    (iblk m c 0 t (ix2 r ⟨2048 + k.val, by omega⟩)) = aP m c (ix2 ⟨16384 + (128 * t.val + r.val), by have := t.isLt; change t.val < 8 at this; omega⟩ ⟨2048 + k.val, by omega⟩) := by
  have e : ((cfg0.win 0).blk t).view.emb (ix2 r ⟨2048 + k.val, by omega⟩) = ix2 ⟨16384 + (128 * t.val + r.val), by have := t.isLt; change t.val < 8 at this; omega⟩ ⟨2048 + k.val, by omega⟩ := by blk_ext! [idx t]
  show V m c main_v3 (((cfg0.win 0).blk t).view.emb _) = _
  rw [e, src0]
  pointwise []
  exact dif_pos (And.intro (by have := t.isLt; change t.val < 8 at this; omega) hk)

theorem lanes (A : S4.Idx → EReal) (k : Fin 4) :
    pad S1x128 ![0, 4] ![0, 120] ![0, 0] (broadcastInDim S1x4 ![1] bcast_S4_S1x4_1 A) (sitofp (F := Ideal) .f32 (constantI S_ 32 0#32)) pads_S1x4_S1x128_000_41200 h_S_ (ix2 0 ⟨4 + k.val, by omega⟩) = A (ix1 k) := by
  pointwise []

theorem alog (c : Dev nD) (t : Fin cfg0.N) (k : Fin 4) : (iblk m c 4 t (ix2 0 ⟨4 + k.val, by omega⟩)) = aA m c (ix1 k) := by
  have e : ((cfg0.win 4).blk t).view.emb (ix2 0 ⟨4 + k.val, by omega⟩) = ix2 0 ⟨4 + k.val, by omega⟩ := by blk_ext! [idx t]
  show V m c main_v5 (((cfg0.win 4).blk t).view.emb _) = _
  rw [e]
  refine Eq.trans (congrFun ?_ _) (lanes (aA m c) k)
  unfold V
  simp only [hostOps0, hostOps0_1, hostOps0_2, hostOps0_3, hostOps0_4, hostOps0_5, hostOps0_6, List.flatten_cons, List.flatten_nil, List.append_nil, List.cons_append, List.nil_append]
  after_results
  rfl

theorem dtb (c : Dev nD) (t : Fin cfg0.N) (k : Fin 4) : (iblk m c 5 t (ix2 0 ⟨4 + k.val, by omega⟩)) = aD m c (ix1 k) := by
  have e : ((cfg0.win 5).blk t).view.emb (ix2 0 ⟨4 + k.val, by omega⟩) = ix2 0 ⟨4 + k.val, by omega⟩ := by blk_ext! [idx t]
  show V m c main_v7 (((cfg0.win 5).blk t).view.emb _) = _
  rw [e]
  refine Eq.trans (congrFun ?_ _) (lanes (aD m c) k)
  unfold V
  simp only [hostOps0, hostOps0_1, hostOps0_2, hostOps0_3, hostOps0_4, hostOps0_5, hostOps0_6, List.flatten_cons, List.flatten_nil, List.append_nil, List.cons_append, List.nil_append]
  after_results
  rfl

theorem norm (c : Dev nD) (t : Fin cfg0.N) (j : Fin 128) : (iblk m c 6 t (ix2 0 j)) = aG m c (ix1 j) := by
  have e : ((cfg0.win 6).blk t).view.emb (ix2 0 j) = ix2 0 j := by blk_ext! [idx t]
  show V m c main_v8 (((cfg0.win 6).blk t).view.emb _) = _
  rw [e]
  unfold V
  simp only [hostOps0, hostOps0_1, hostOps0_2, hostOps0_3, hostOps0_4, hostOps0_5, hostOps0_6, List.flatten_cons, List.flatten_nil, List.append_nil, List.cons_append, List.nil_append]
  after_results
  pointwise []

theorem st0 (c : Dev nD) (t : Fin cfg0.N) (a : Fin 16) (h : Fin 4) (d e : Fin 128) : (iblk m c 1 t (ix4 a h d e)) = aS m c (ix4 (seq t a) h d e) := by
  have e : ((cfg0.win 1).blk t).view.emb (ix4 a h d e) = ix4 (seq t a) h d e := by blk_ext! [idx t, seq]
  show V m c main_arg1 (((cfg0.win 1).blk t).view.emb _) = _
  rw [e]
  rfl

theorem cst0 (c : Dev nD) (t : Fin cfg0.N) (a : Fin 16) (i : Fin 3) (j : Fin 1536) : (iblk m c 2 t (ix3 a i j)) = aC m c (ix3 (seq t a) i j) := by
  have e : ((cfg0.win 2).blk t).view.emb (ix3 a i j) = ix3 (seq t a) i j := by blk_ext! [idx t, seq]
  show V m c main_arg2 (((cfg0.win 2).blk t).view.emb _) = _
  rw [e]
  rfl

theorem wts (c : Dev nD) (t : Fin cfg0.N) (i : Fin 4) (j : Fin 1536) : (iblk m c 3 t (ix2 i j)) = aW m c (ix2 i j) := by
  have e : ((cfg0.win 3).blk t).view.emb (ix2 i j) = ix2 i j := by blk_ext! [idx t]
  show V m c main_arg3 (((cfg0.win 3).blk t).view.emb _) = _
  rw [e]
  rfl

/-- What the two stores leave in the scratch buffer: the rows kept from before, then the block's rows. -/
def pcs (X : Vec Ideal S128x2176 .f32) (K : Vec Ideal S16x3x1536 .f32) : List (View.Piece (Elt Ideal) S16x16x1536 .f32) :=
  [⟨Rect.unit ![0, 8, 0] ![16, 8, 1536] inb_S16x16x1536_S16x8x1536_0_8_0, k0_pay12 (View.ld X (Rect.unit ![0, 0] ![128, 1536] inb_S128x2176_S128x1536_0_0))⟩,
    ⟨Rect.unit ![0, 5, 0] ![16, 3, 1536] inb_S16x16x1536_S16x3x1536_0_5_0, k0_pay6 K⟩]

theorem pcs_eq (X : Vec Ideal S128x2176 .f32) (K : Vec Ideal S16x3x1536 .f32) (a : Fin 16) (i : Fin 11) (j : Fin 1536) :
    View.canon (pcs X K) (ix3 a ⟨5 + i.val, by omega⟩ j) = if h : i.val < 3 then K (ix3 a ⟨i.val, h⟩ j) else X (ix2 ⟨a.val * 8 + (i.val - 3), by omega⟩ ⟨j.val, by omega⟩) := by
  unfold pcs
  by_cases h : i.val < 3
  · rw [dif_pos h, View.canon_cons_of_not_mem]
    · have e : (ix3 a ⟨5 + i.val, by omega⟩ j : S16x16x1536.Idx) = (Rect.unit (s := S16x16x1536) ![0, 5, 0] ![16, 3, 1536] inb_S16x16x1536_S16x3x1536_0_5_0).emb (ix3 a ⟨i.val, h⟩ j) := by blk_ext! []
      rw [e, View.canon_cons_emb]
      pointwise [k0_pay6]
    · intro hm
      obtain ⟨x, hx⟩ := LoadRect.exists_idx_of_mem _ hm
      have h1 := congrArg (fun y : S16x16x1536.Idx => (y 1).val) hx
      change 8 + 1 * (x 1).val = 5 + i.val at h1
      omega
  · rw [dif_neg h]
    have e : (ix3 a ⟨5 + i.val, by omega⟩ j : S16x16x1536.Idx) = (Rect.unit (s := S16x16x1536) ![0, 8, 0] ![16, 8, 1536] inb_S16x16x1536_S16x8x1536_0_8_0).emb (ix3 a ⟨i.val - 3, by omega⟩ j) := by blk_ext! []
    rw [e, View.canon_cons_emb, View.ld_unit]
    pointwise [k0_pay12]

/-- One row of a sequence in the scratch buffer. -/
theorem scratch (c : Dev nD) (t : Fin cfg0.N) (a : Fin 16) (i : Fin 11) (j : Fin 1536) :
    View.canon (pcs (iblk m c 0 t) (iblk m c 2 t)) (ix3 a ⟨5 + i.val, by omega⟩ j) = Cert.Delta.tap (aP m c) (aC m c) (seq t a) i j := by
  rw [pcs_eq, Cert.Delta.tap]
  by_cases h : i.val < 3
  · rw [dif_pos h, dif_pos h]
    exact cst0 m c t a _ j
  · rw [dif_neg h, dif_neg h, proj m c t _ _ (by simp; omega)]
    exact congrArg (aP m c) (congrArg₂ ix2 (Fin.ext (by simp [seq]; omega)) rfl)

end Cert.GdnIdeal.Hand
-- ==== Proof.GdnPay.lean ====
/-
  The steps of the gated delta rule's kernel, read element by element.
-/
module

public import proofs.«01_k».proof.Proof.GdnBlk

@[expose] public section

set_option maxRecDepth 16384

noncomputable section

open Idealize.ShloMosaic Idealize.ShloMosaic.TcCoe Idealize.SL.Sem
open Idealize.ShloMosaic.Pipeline (Dat)

namespace Cert.GdnIdeal.Hand

open Cert.GdnIdeal Cert.GdnIdeal.Gen
open Cert.Delta (run split)

theorem four (f : Fin 4 → EReal) (k : ℕ) (hk : k < 4) {x0 : k < 1 → EReal} {x1 : ¬k < 1 → k - 1 < 1 → EReal} {x2 : ¬k < 1 → ¬k - 1 < 1 → k - 1 - 1 < 1 → EReal}
    {x3 : ¬k < 1 → ¬k - 1 < 1 → ¬k - 1 - 1 < 1 → EReal} (h0 : ∀ a, x0 a = f 0) (h1 : ∀ a b, x1 a b = f 1) (h2 : ∀ a b c, x2 a b c = f 2) (h3 : ∀ a b c, x3 a b c = f 3) :
    (if a : k < 1 then x0 a else if b : k - 1 < 1 then x1 a b else if c : k - 1 - 1 < 1 then x2 a b c else x3 a b c) = f ⟨k, hk⟩ := by
  simp only [h0, h1, h2, h3]
  interval_cases k <;> rfl

theorem sel_if {p : Prop} [Decidable p] (x y : EReal) : Scalar.select (if p then 1#1 else 0#1) x y = if p then x else y := by
  by_cases h : p
  · rw [if_pos h, if_pos h]; rfl
  · rw [if_neg h, if_neg h]; rfl

theorem word_ge : ∀ t s : Fin 8, IntOp.cmpi .sge (BitVec.ofNat 32 t.val) (BitVec.ofNat 32 s.val) = if s ≤ t then 1#1 else 0#1 := by decide +kernel
theorem word_gt : ∀ t s : Fin 8, IntOp.cmpi .sgt (BitVec.ofNat 32 t.val) (BitVec.ofNat 32 s.val) = if s < t then 1#1 else 0#1 := by decide +kernel
theorem word_le : ∀ t s : Fin 8, IntOp.cmpi .sle (BitVec.ofNat 32 t.val) (BitVec.ofNat 32 s.val) = if t ≤ s then 1#1 else 0#1 := by decide +kernel
theorem word_eq : ∀ t s : Fin 8, IntOp.cmpi .eq (BitVec.ofNat 32 t.val) (BitVec.ofNat 32 s.val) = if t = s then 1#1 else 0#1 := by decide +kernel

theorem head24 (X : FVec Ideal S16x8x1536 .f32) (g : Fin 64) (s : Fin 8) (d : Fin 128) : k0_pay24 X (ix3 g s d) = X (ix3 ⟨g.val / 4, by omega⟩ s ⟨512 + (g.val % 4 * 128 + d.val), by omega⟩) := by
  pointwise [k0_pay24]
  refine four (fun h => X (ix3 ⟨g.val / 4, by omega⟩ s ⟨512 + (h.val * 128 + d.val), by omega⟩)) (g.val % 4) (by omega) ?_ ?_ ?_ ?_ <;> intros <;> exact congrArg (fun x => X (ix3 _ s x)) (Fin.ext (by simp; try omega))

theorem head25 (X : FVec Ideal S16x8x1536 .f32) (g : Fin 64) (s : Fin 8) (d : Fin 128) : k0_pay25 X (ix3 g s d) = X (ix3 ⟨g.val / 4, by omega⟩ s ⟨1024 + (g.val % 4 * 128 + d.val), by omega⟩) := by
  pointwise [k0_pay25]
  refine four (fun h => X (ix3 ⟨g.val / 4, by omega⟩ s ⟨1024 + (h.val * 128 + d.val), by omega⟩)) (g.val % 4) (by omega) ?_ ?_ ?_ ?_ <;> intros <;> exact congrArg (fun x => X (ix3 _ s x)) (Fin.ext (by simp; try omega))

theorem head51 (X : Vec Ideal S128x512 .f32) (g : Fin 64) (s : Fin 8) (d : Fin 128) : k0_pay51 X (ix3 g s d) = X (ix2 ⟨g.val / 4 * 8 + s.val, by omega⟩ ⟨g.val % 4 * 128 + d.val, by omega⟩) := by
  pointwise [k0_pay51]
  refine four (fun h => X (ix2 ⟨g.val / 4 * 8 + s.val, by omega⟩ ⟨h.val * 128 + d.val, by omega⟩)) (g.val % 4) (by omega) ?_ ?_ ?_ ?_ <;> intros <;> exact congrArg (fun x => X (ix2 _ x)) (Fin.ext (by simp; try omega))

theorem head29 (X : FVec Ideal S16x8x128 .f32) (g : Fin 64) (s : Fin 8) : k0_pay29 X (ix3 g s 0) = X (ix3 ⟨g.val / 4, by omega⟩ s ⟨g.val % 4, by omega⟩) := by
  pointwise [k0_pay29]
  exact four (fun h => X (ix3 ⟨g.val / 4, by omega⟩ s ⟨h.val, by omega⟩)) (g.val % 4) (by omega) (fun _ => rfl) (fun _ _ => rfl) (fun _ _ _ => rfl) (fun _ _ _ => rfl)

theorem head30 (X : FVec Ideal S16x8x128 .f32) (g : Fin 64) (s : Fin 8) : k0_pay30 X (ix3 g s 0) = X (ix3 ⟨g.val / 4, by omega⟩ s ⟨4 + g.val % 4, by omega⟩) := by
  pointwise [k0_pay30]
  exact four (fun h => X (ix3 ⟨g.val / 4, by omega⟩ s ⟨4 + h.val, by omega⟩)) (g.val % 4) (by omega) (fun _ => rfl) (fun _ _ => rfl) (fun _ _ _ => rfl) (fun _ _ _ => rfl)

/-- The queries' heads side by side. -/
def heads (X : FVec Ideal S16x8x1536 .f32) (g : Fin 64) (s : Fin 8) (d : Fin 128) : EReal := X (ix3 ⟨g.val / 4, by omega⟩ s ⟨g.val % 4 * 128 + d.val, by omega⟩)

theorem head26 (X : FVec Ideal S16x8x1536 .f32) (g : Fin 64) (s : Fin 8) (d : Fin 128) : k0_pay26 X (ix3 g s d)
    = heads X g s d * Ideal.rsqrt (∑ x : Fin 128, heads X g s x * heads X g s x + Ideal.ofBits .f32 0x358637BD#32) * Ideal.ofBits .f32 0x3DB504F3#32 := by
  unfold k0_pay26
  generalize hQ : shapeCast S64x8x128 (concatenate S16x4x8x128 1 _ _) _ = Q
  have hq : ∀ x, Q (ix3 g s x) = heads X g s x := fun x => by
    rw [← hQ]
    pointwise [heads]
    refine four (fun h => X (ix3 ⟨g.val / 4, by omega⟩ s ⟨h.val * 128 + x.val, by omega⟩)) (g.val % 4) (by omega) ?_ ?_ ?_ ?_ <;> intros <;> exact congrArg (fun x => X (ix3 _ s x)) (Fin.ext (by simp; try omega))
  clear hQ
  pointwise [hq]

theorem key28 (X : FVec Ideal S16x8x1536 .f32) (g : Fin 64) (s : Fin 8) (d : Fin 128) : k0_pay28 (k0_pay24 X) (k0_pay27 X) (ix3 g s d)
    = k0_pay24 X (ix3 g s d) * Ideal.rsqrt (∑ x : Fin 128, k0_pay24 X (ix3 g s x) * k0_pay24 X (ix3 g s x) + Ideal.ofBits .f32 0x358637BD#32) := by
  pointwise [k0_pay28, k0_pay27]

theorem tri (t s : Fin 8) (a : Fin 16) : k0_pay10 (F := Ideal) (ix3 a t s) = if s ≤ t then 1 else 0 := by
  pointwise [k0_pay10, k0_pay7]
  rw [word_ge]
  split
  · exact Cert.GlaIdeal.Hand.one_word
  · exact Cert.GlaIdeal.Hand.zero_word

theorem eye (t s : Fin 8) : k0_pay9 (F := Ideal) (ix3 0 t s) = if t = s then 1 else 0 := by
  pointwise [k0_pay9]
  rw [word_eq]
  split
  · exact Cert.GlaIdeal.Hand.one_word
  · exact Cert.GlaIdeal.Hand.zero_word

theorem running (A : FVec Ideal S1x128 .f32) (U V : FVec Ideal S16x8x128 .f32) (z : Ideal .f32) (a : Fin 16) (t : Fin 8) (l : Fin 128) :
    k0_pay23 k0_pay10 A U V z (ix3 a t l) = run (fun i => k0_pay22 A U V z (ix3 a i l)) t := by
  pointwise [k0_pay23, tri, run]
  refine Finset.sum_congr rfl fun i _ => ?_
  split
  · exact one_mul _
  · exact zero_mul _

theorem gate22 (X : Vec Ideal S128x128 .f32) (A D : Vec Ideal S1x128 .f32) (a : Fin 16) (s : Fin 8) (l : Fin 128) :
    k0_pay22 (k0_pay18 A) (k0_pay20 X D) (k0_pay21 X D) (Scalar.ofBits .f32 0x00000000#32) (ix3 a s l)
      = -Ideal.exp (A (ix2 0 l)) * (max (X (ix2 ⟨a.val * 8 + s.val, by omega⟩ l) + D (ix2 0 l)) 0
        + Ideal.log1p (Ideal.exp (-max (X (ix2 ⟨a.val * 8 + s.val, by omega⟩ l) + D (ix2 0 l)) (-(X (ix2 ⟨a.val * 8 + s.val, by omega⟩ l) + D (ix2 0 l)))))) := by
  pointwise [k0_pay22, k0_pay18, k0_pay20, k0_pay21, k0_pay19, k0_pay16]
  rw [zero_sub, zero_sub]
  rfl

theorem beta17 (X : Vec Ideal S128x128 .f32) (a : Fin 16) (s : Fin 8) (l : Fin 128) :
    k0_pay17 X (ix3 a s l) = Ideal.div 1 (1 + Ideal.exp (-X (ix2 ⟨a.val * 8 + s.val, by omega⟩ l))) := by
  pointwise [k0_pay17, k0_pay16]
  rfl

theorem decay31 (X B : FVec Ideal S16x8x128 .f32) (g : Fin 64) (t s : Fin 8) :
    k0_pay31 (iota .tc S1x8x8 32 [1] iota_S1x8x8_d1_w32) (iota .tc S1x8x8 32 [2] iota_S1x8x8_d2_w32) k0_pay7 k0_pay11 X B (ix3 g t s)
      = if s ≤ t then Ideal.exp (k0_pay30 B (ix3 g t 0) - run (fun i => k0_pay30 X (ix3 g i 0)) s) else 0 := by
  unfold k0_pay31
  generalize hQ : shapeCast S64x8x1 (concatenate S16x4x8x1 1 _ _) _ = Q
  obtain rfl : k0_pay30 X = Q := hQ
  pointwise [k0_pay7, k0_pay11]
  simp only [word_ge, word_le, sel_if]
  by_cases h : s ≤ t
  · rw [if_pos h, if_pos h, if_pos h, run]
  · rw [if_neg h, if_neg h]

theorem kb32 (B : FVec Ideal S16x8x128 .f32) (K : FVec Ideal S64x8x128 .f32) (U : FVec Ideal S64x8x1 .f32) (g : Fin 64) (s : Fin 8) (d : Fin 128) :
    k0_pay32 B K U (ix3 g s d) = k0_pay28 K U (ix3 g s d) * k0_pay29 B (ix3 g s 0) := by
  pointwise [k0_pay32]

theorem low35 (K : FVec Ideal S64x8x128 .f32) (D : FVec Ideal S64x8x8 .f32) (B B1 : FVec Ideal S64x8x128 .f32) (B0 : FVec Ideal S64x8x128 .bf16) (g : Fin 64) (t s : Fin 8)
    (h0 : ∀ d, B0 (ix3 g t d) = B (ix3 g t d)) (h1 : ∀ d, B1 (ix3 g t d) = B (ix3 g t d)) :
    k0_pay35 (F := Ideal) k0_pay8 K D B B0 B1 (ix3 g t s) = 0 - if s < t then split (fun d => B (ix3 g t d)) (fun d => K (ix3 g s d)) * D (ix3 g t s) else 0 := by
  pointwise [k0_pay35, k0_pay8]
  simp only [word_gt, sel_if, h0, h1]
  rfl

theorem kb33 (B : FVec Ideal S16x8x128 .f32) (K : FVec Ideal S64x8x128 .f32) (U : FVec Ideal S64x8x1 .f32) (g : Fin 64) (s : Fin 8) (d : Fin 128) :
    k0_pay33 B K U (ix3 g s d) = k0_pay32 B K U (ix3 g s d) := by
  pointwise [k0_pay33]

theorem kb34 (B : FVec Ideal S16x8x128 .f32) (K : FVec Ideal S64x8x128 .f32) (U : FVec Ideal S64x8x1 .f32) (g : Fin 64) (s : Fin 8) (d : Fin 128) :
    k0_pay34 B K U (ix3 g s d) = k0_pay32 B K U (ix3 g s d) := by
  pointwise [k0_pay34, kb33]

theorem sq36 (M : IVec S1x8x8 1) (K : FVec Ideal S64x8x128 .f32) (D : FVec Ideal S64x8x8 .f32) (B B1 : FVec Ideal S64x8x128 .f32) (B0 : FVec Ideal S64x8x128 .bf16) (g : Fin 64) (t s : Fin 8) :
    k0_pay36 M K D B B0 B1 (ix3 g t s) = split (fun i => k0_pay35 M K D B B0 B1 (ix3 g t i)) (fun i => k0_pay35 M K D B B0 B1 (ix3 g i s)) := by
  pointwise [k0_pay36, split]

theorem half37 (M : IVec S1x8x8 1) (K : FVec Ideal S64x8x128 .f32) (D : FVec Ideal S64x8x8 .f32) (B B1 : FVec Ideal S64x8x128 .f32) (B0 : FVec Ideal S64x8x128 .bf16) (g : Fin 64) (t s : Fin 8) :
    k0_pay37 M k0_pay9 K D B B0 B1 (ix3 g t s) = ((if t = s then 1 else 0) + k0_pay35 M K D B B0 B1 (ix3 g t s))
      + split (fun i => (if t = i then 1 else 0) + k0_pay35 M K D B B0 B1 (ix3 g t i)) (fun i => k0_pay36 M K D B B0 B1 (ix3 g i s)) := by
  pointwise [k0_pay37, eye, split]

theorem hi38 (M : IVec S1x8x8 1) (K : FVec Ideal S64x8x128 .f32) (D : FVec Ideal S64x8x8 .f32) (B B1 : FVec Ideal S64x8x128 .f32) (B0 : FVec Ideal S64x8x128 .bf16) (g : Fin 64) (t s : Fin 8) :
    k0_pay38 M K D B B0 B1 (ix3 g t s) = k0_pay36 M K D B B0 B1 (ix3 g t s) := by
  pointwise [k0_pay38]

theorem lo39 (M : IVec S1x8x8 1) (K : FVec Ideal S64x8x128 .f32) (D : FVec Ideal S64x8x8 .f32) (B B1 : FVec Ideal S64x8x128 .f32) (B0 : FVec Ideal S64x8x128 .bf16) (g : Fin 64) (t s : Fin 8) :
    k0_pay39 M K D B B0 B1 (ix3 g t s) = k0_pay36 M K D B B0 B1 (ix3 g t s) - k0_pay36 M K D B B0 B1 (ix3 g t s) := by
  pointwise [k0_pay39, hi38]

theorem sq40 (M : IVec S1x8x8 1) (K : FVec Ideal S64x8x128 .f32) (D : FVec Ideal S64x8x8 .f32) (B B1 : FVec Ideal S64x8x128 .f32) (B0 : FVec Ideal S64x8x128 .bf16) (g : Fin 64) (t s : Fin 8) :
    k0_pay40 M K D B B0 B1 (ix3 g t s) = ∑ i : Fin 8, k0_pay36 M K D B B0 B1 (ix3 g t i) * k0_pay36 M K D B B0 B1 (ix3 g i s) := by
  pointwise [k0_pay40, hi38]

theorem full41 (H : FVec Ideal S64x8x8 .f32) (X Y : FVec Ideal S64x8x8 .bf16) (Z : FVec Ideal S64x8x8 .f32) (g : Fin 64) (t s : Fin 8) :
    k0_pay41 H X Y Z (ix3 g t s) = H (ix3 g t s) + split (fun i => H (ix3 g t i))
      (fun i => Z (ix3 g i s) + (∑ j : Fin 8, X (ix3 g i j) * Y (ix3 g j s) + ∑ j : Fin 8, Y (ix3 g i j) * X (ix3 g j s))) := by
  pointwise [k0_pay41, split]

theorem sol45 (V : FVec Ideal S64x8x128 .f32) (B : FVec Ideal S64x8x1 .f32) (H : FVec Ideal S64x8x8 .f32) (X Y : FVec Ideal S64x8x8 .bf16) (Z : FVec Ideal S64x8x8 .f32) (g : Fin 64) (t : Fin 8) (e : Fin 128) :
    k0_pay45 V B H X Y Z (ix3 g t e) = split (fun i => k0_pay41 H X Y Z (ix3 g t i)) (fun i => V (ix3 g i e) * B (ix3 g i 0)) := by
  pointwise [k0_pay45, k0_pay43, k0_pay44, split]

theorem sol46 (B : FVec Ideal S64x8x1 .f32) (V : FVec Ideal S64x8x128 .f32) (H : FVec Ideal S64x8x8 .f32) (X Y : FVec Ideal S64x8x8 .bf16) (Z : FVec Ideal S64x8x8 .f32) (g : Fin 64) (t : Fin 8) (e : Fin 128) :
    k0_pay46 B V H X Y Z (ix3 g t e) = split (fun i => k0_pay41 H X Y Z (ix3 g t i)) (fun i => V (ix3 g i e) * Ideal.exp (B (ix3 g i 0))) := by
  pointwise [k0_pay46, k0_pay42, k0_pay43, k0_pay44, split]

theorem new48 (U V : FVec Ideal S64x8x128 .f32) (S : Vec Ideal S16x4x128x128 .f32) (g : Fin 64) (t : Fin 8) (e : Fin 128) :
    k0_pay48 U V S (ix3 g t e) = U (ix3 g t e) - ∑ d : Fin 128, V (ix3 g t d) * S (ix4 ⟨g.val / 4, by omega⟩ ⟨g.val % 4, by omega⟩ d e) := by
  pointwise [k0_pay48, k0_pay47]

theorem row49 (Q K : FVec Ideal S64x8x128 .f32) (D : FVec Ideal S64x8x8 .f32) (B : FVec Ideal S64x8x1 .f32) (U V : FVec Ideal S64x8x128 .f32) (S : Vec Ideal S16x4x128x128 .f32) (g : Fin 64) (t : Fin 8) (e : Fin 128) :
    k0_pay49 Q K D (k0_pay42 B) U V S (ix3 g t e) = (∑ d : Fin 128, Q (ix3 g t d) * Ideal.exp (B (ix3 g t 0)) * S (ix4 ⟨g.val / 4, by omega⟩ ⟨g.val % 4, by omega⟩ d e))
      + ∑ s : Fin 8, (∑ d : Fin 128, Q (ix3 g t d) * K (ix3 g s d)) * D (ix3 g t s) * k0_pay48 U V S (ix3 g s e) := by
  pointwise [k0_pay49, k0_pay42, k0_pay47]

theorem state50 (K : FVec Ideal S64x8x128 .f32) (B : FVec Ideal S64x8x1 .f32) (U V : FVec Ideal S64x8x128 .f32) (S : Vec Ideal S16x4x128x128 .f32) (a : Fin 16) (h : Fin 4) (d e : Fin 128) :
    k0_pay50 K B U V S (ix4 a h d e) = Ideal.exp (B (ix3 ⟨a.val * 4 + h.val, by omega⟩ 7 0)) * S (ix4 a h d e)
      + ∑ s : Fin 8, K (ix3 ⟨a.val * 4 + h.val, by omega⟩ s d) * Ideal.exp (B (ix3 ⟨a.val * 4 + h.val, by omega⟩ 7 0) - B (ix3 ⟨a.val * 4 + h.val, by omega⟩ s 0)) * k0_pay48 U V S (ix3 ⟨a.val * 4 + h.val, by omega⟩ s e) := by
  pointwise [k0_pay50, k0_pay47]

/-- A row of a head, normed, scaled and gated. -/
def outk (O Z : FVec Ideal S64x8x128 .f32) (N : FVec Ideal S1x128 .f32) (Q : FVec Ideal S64x8x1 .f32) (g : Fin 64) (s : Fin 8) (d : Fin 128) : EReal :=
  O (ix3 g s d) * Ideal.rsqrt (Ideal.div (Q (ix3 g s 0)) (Ideal.ofBits .f32 0x43000000#32) + Ideal.ofBits .f32 0x358637BD#32) * N (ix2 0 d)
    * (Z (ix3 g s d) * Ideal.div 1 (1 + Ideal.exp (-Z (ix3 g s d))))

theorem out1 (O Z : FVec Ideal S64x8x128 .f32) (N : FVec Ideal S1x128 .f32) (Q : FVec Ideal S64x8x1 .f32) (a : Fin 16) (h : Fin 4) (s : Fin 8) (d : Fin 128) :
    k0_pay1 O Z N Q k0_pay54 (ix4 a h s d) = outk O Z N Q ⟨a.val * 4 + h.val, by omega⟩ s d := by
  pointwise [k0_pay1, k0_pay54, outk]
  rfl

theorem out2 (O Z : FVec Ideal S64x8x128 .f32) (N : FVec Ideal S1x128 .f32) (Q : FVec Ideal S64x8x1 .f32) (r : Fin 128) (l : Fin 128) :
    k0_pay2 O Z N Q k0_pay54 (ix2 r l) = outk O Z N Q ⟨r.val / 8 * 4, by omega⟩ ⟨r.val % 8, by omega⟩ l := by
  pointwise [k0_pay2, out1]
theorem out3 (O Z : FVec Ideal S64x8x128 .f32) (N : FVec Ideal S1x128 .f32) (Q : FVec Ideal S64x8x1 .f32) (r : Fin 128) (l : Fin 128) :
    k0_pay3 O Z N Q k0_pay54 (ix2 r l) = outk O Z N Q ⟨r.val / 8 * 4 + 1, by omega⟩ ⟨r.val % 8, by omega⟩ l := by
  pointwise [k0_pay3, out1]
theorem out4 (O Z : FVec Ideal S64x8x128 .f32) (N : FVec Ideal S1x128 .f32) (Q : FVec Ideal S64x8x1 .f32) (r : Fin 128) (l : Fin 128) :
    k0_pay4 O Z N Q k0_pay54 (ix2 r l) = outk O Z N Q ⟨r.val / 8 * 4 + 2, by omega⟩ ⟨r.val % 8, by omega⟩ l := by
  pointwise [k0_pay4, out1]
theorem out5 (O Z : FVec Ideal S64x8x128 .f32) (N : FVec Ideal S1x128 .f32) (Q : FVec Ideal S64x8x1 .f32) (r : Fin 128) (l : Fin 128) :
    k0_pay5 O Z N Q k0_pay54 (ix2 r l) = outk O Z N Q ⟨r.val / 8 * 4 + 3, by omega⟩ ⟨r.val % 8, by omega⟩ l := by
  pointwise [k0_pay5, out1]

theorem sum53 (Q K : FVec Ideal S64x8x128 .f32) (D : FVec Ideal S64x8x8 .f32) (B : FVec Ideal S64x8x1 .f32) (U V : FVec Ideal S64x8x128 .f32) (S : Vec Ideal S16x4x128x128 .f32) (g : Fin 64) (t : Fin 8) :
    k0_pay53 Q K D B U V S (ix3 g t 0) = ∑ e : Fin 128, k0_pay49 Q K D B U V S (ix3 g t e) * k0_pay49 Q K D B U V S (ix3 g t e) := by
  pointwise [k0_pay53]

theorem norm52 (N : Vec Ideal S1x128 .f32) (d : Fin 128) : k0_pay52 N (ix2 0 d) = N (ix2 0 d) := by
  pointwise [k0_pay52]

theorem conv15 (T0 T1 T2 T3 : Vec Ideal S16x8x1536 .f32) (W0 W1 W2 W3 : Vec Ideal S1x1536 .f32) (a : Fin 16) (s : Fin 8) (j : Fin 1536) {x : EReal}
    (hx : T0 (ix3 a s j) * W0 (ix2 0 j) + T1 (ix3 a s j) * W1 (ix2 0 j) + T2 (ix3 a s j) * W2 (ix2 0 j) + T3 (ix3 a s j) * W3 (ix2 0 j) = x) :
    k0_pay15 (k0_pay13 T0 W0 T1 W1) T2 W2 T3 W3 (ix3 a s j) = x * Ideal.div 1 (1 + Ideal.exp (-x)) := by
  subst hx
  pointwise [k0_pay15, k0_pay13]
  rfl

theorem keep14 (K : Vec Ideal S16x3x1536 .f32) (a : Fin 16) (i : Fin 3) (j : Fin 1536) : k0_pay14 K (ix3 a i j) = K (ix3 a i j) := by
  pointwise [k0_pay14]

end Cert.GdnIdeal.Hand
-- ==== Proof.GdnSol.lean ====
/-
  The kernel's inverse applied to a column is forward substitution.
-/
module

public import proofs.«01_k».proof.Proof.GdnPay

@[expose] public section

set_option maxRecDepth 16384

noncomputable section

open Idealize.ShloMosaic Idealize.ShloMosaic.TcCoe Idealize.SL.Sem
open Idealize.ShloMosaic.Pipeline (Dat)

namespace Cert.GdnIdeal.Hand

open Cert.GdnIdeal Cert.GdnIdeal.Gen
open Cert.Delta (run split split_coe subst subst_coe inv inv_apply dot_coe)
open Cert.Finite

theorem split_real {n : ℕ} {a w : Fin n → EReal} (ha : ∀ i, IsReal (a i)) (hw : ∀ i, IsReal (w i)) : split a w = ∑ i, a i * w i := by
  rw [split, split_dot _ ha hw]

section
variable (M : IVec S1x8x8 1) (K : FVec Ideal S64x8x128 .f32) (D : FVec Ideal S64x8x8 .f32) (B B1 : FVec Ideal S64x8x128 .f32) (B0 : FVec Ideal S64x8x128 .bf16) (g : Fin 64)
  (N : Matrix (Fin 8) (Fin 8) ℝ) (hN : ∀ t s : Fin 8, k0_pay35 M K D B B0 B1 (ix3 g t s) = ((N t s : ℝ) : EReal))
include hN

theorem square (t s : Fin 8) : k0_pay36 M K D B B0 B1 (ix3 g t s) = (((N * N) t s : ℝ) : EReal) := by
  rw [sq36]
  simp only [hN]
  exact split_coe (fun i => N t i) (fun i => N i s)

theorem onePlus (t s : Fin 8) : ((if t = s then 1 else 0) + k0_pay35 M K D B B0 B1 (ix3 g t s) : EReal) = (((1 + N) t s : ℝ) : EReal) := by
  rw [hN, Matrix.add_apply, Matrix.one_apply, EReal.coe_add]
  split <;> rfl

theorem half (t s : Fin 8) : k0_pay37 M k0_pay9 K D B B0 B1 (ix3 g t s) = ((((1 + N) + (1 + N) * (N * N)) t s : ℝ) : EReal) := by
  rw [half37]
  simp only [onePlus M K D B B1 B0 g N hN, square M K D B B1 B0 g N hN]
  rw [Matrix.add_apply, EReal.coe_add, split_coe (fun i => (1 + N) t i) (fun i => (N * N) i s)]
  rfl

theorem full (t s : Fin 8) : k0_pay41 (k0_pay37 M k0_pay9 K D B B0 B1) (k0_pay38 M K D B B0 B1) (k0_pay39 M K D B B0 B1) (k0_pay40 M K D B B0 B1) (ix3 g t s) = ((inv N t s : ℝ) : EReal) := by
  have e : ∀ i : Fin 8, k0_pay40 M K D B B0 B1 (ix3 g i s) + (∑ j : Fin 8, k0_pay38 M K D B B0 B1 (ix3 g i j) * k0_pay39 M K D B B0 B1 (ix3 g j s) + ∑ j : Fin 8, k0_pay39 M K D B B0 B1 (ix3 g i j) * k0_pay38 M K D B B0 B1 (ix3 g j s))
      = ((((N * N) * (N * N)) i s : ℝ) : EReal) := by
    intro i
    simp only [sq40, hi38, lo39, square M K D B B1 B0 g N hN]
    exact split_coe (fun j => (N * N) i j) (fun j => (N * N) j s)
  rw [full41]
  simp only [e, half M K D B B1 B0 g N hN]
  change _ = (((((1 + N) + (1 + N) * (N * N)) + ((1 + N) + (1 + N) * (N * N)) * ((N * N) * (N * N))) t s : ℝ) : EReal)
  rw [Matrix.add_apply, EReal.coe_add, split_coe (fun i => ((1 + N) + (1 + N) * (N * N)) t i) (fun i => ((N * N) * (N * N)) i s)]
  rfl
end

/-- The kernel's inverse applied to a column of real numbers. -/
theorem solve (M : IVec S1x8x8 1) (K : FVec Ideal S64x8x128 .f32) (D : FVec Ideal S64x8x8 .f32) (B B1 : FVec Ideal S64x8x128 .f32) (B0 : FVec Ideal S64x8x128 .bf16) (g : Fin 64)
    (l : Fin 8 → Fin 8 → EReal) (r : Fin 8 → EReal) (hl : ∀ i j, IsReal (l i j)) (hr : ∀ i, IsReal (r i)) (hz : ∀ i j : Fin 8, i ≤ j → l i j = 0)
    (hN : ∀ t s : Fin 8, k0_pay35 M K D B B0 B1 (ix3 g t s) = 0 - l t s) (t : Fin 8) :
    split (fun i => k0_pay41 (k0_pay37 M k0_pay9 K D B B0 B1) (k0_pay38 M K D B B0 B1) (k0_pay39 M K D B B0 B1) (k0_pay40 M K D B B0 B1) (ix3 g t i)) r = subst l r t := by
  choose L hL using hl
  choose R hR using hr
  obtain rfl : r = fun i => ((R i : ℝ) : EReal) := funext fun i => (hR i)
  obtain rfl : l = fun i j => ((L i j : ℝ) : EReal) := funext fun i => funext fun j => (hL i j)
  have hN' : ∀ t s : Fin 8, k0_pay35 M K D B B0 B1 (ix3 g t s) = (((Matrix.of fun i j => -L i j) t s : ℝ) : EReal) := fun t s => by
    rw [hN, zero_sub]; rfl
  simp only [full M K D B B1 B0 g _ hN']
  rw [split_coe, subst_coe, inv_apply L R (fun i j h => EReal.coe_eq_zero.1 (hz i j h))]

end Cert.GdnIdeal.Hand
-- ==== Proof.GdnRows.lean ====
/-
  The rows of the reference of the gated delta rule, solved one after the other.
-/
module

public import proofs.«01_k».proof.Proof.GdnRef
public import Idealize.ShloMosaic.Lib.Pipeline.ValueKit

@[expose] public section

set_option maxRecDepth 16384

noncomputable section

open Idealize.ShloMosaic Idealize.ShloMosaic.TcCoe Idealize.SL.Sem

namespace Cert.Delta

open Cert.GdnRefIdeal Cert.GdnRefIdeal.Gen
open Cert.GdnRefIdeal.Read

section
variable (P : S17408x2056.Idx → EReal) (S : S128x4x128x128.Idx → EReal) (C : S128x3x1536.Idx → EReal) (W : S4x1536.Idx → EReal)
  (A : S4.Idx → EReal) (D : S4.Idx → EReal) (G : S128.Idx → EReal)

/-- One product of forward substitution, read at an element. -/
theorem take (L : S128x4x8x8.Idx → EReal) (x : S128x4x256.Idx → EReal) (t s : Fin 8) (hs : S128x4x8x8.Slices ![0, 0, t.val, s.val] S128x4x1x1) (n : Fin 128) (h : Fin 4) (e : Fin 256) :
    mulf (F := Ideal) (φ := .f32) (broadcastInDim S128x4x256 ![0, 1, 2] bcast_S128x4x1_S128x4x256_0_1_2 (broadcastInDim S128x4x1 ![0, 1] bcast_S128x4_S128x4x1_0_1
      (shapeCast S128x4 (extractStridedSlice S128x4x1x1 ![0, 0, t.val, s.val] L hs) shapeCasts_S128x4x1x1_S128x4))) x (ix3 n h e)
    = L (ix4 n h t s) * x (ix3 n h e) := by
  pointwise []

/-- One row of the right hand side, read at an element. -/
theorem pick (X : S128x8x4x256.Idx → EReal) (t : Fin 8) (hs : S128x8x4x256.Slices ![0, t.val, 0, 0] S128x1x4x256) (n : Fin 128) (h : Fin 4) (e : Fin 256) :
    shapeCast S128x4x256 (extractStridedSlice S128x1x4x256 ![0, t.val, 0, 0] X hs) shapeCasts_S128x1x4x256_S128x4x256 (ix3 n h e) = X (ix4 n t h e) := by
  pointwise []

theorem ref_row0 (n : Fin 128) (h : Fin 4) (e : Fin 256) : val_main_v105 (F := Ideal) P C W A D (ix3 n h e) = sub0 (low P C W A D n h) (rhs P C W A D n h e) := by
  exact ((pick (val_main_v103 (F := Ideal) P C W A D) 0 slices_S128x8x4x256_S128x1x4x256_0_0_0_0 n h e).trans (ref_rhs P C W A D n 0 h e))

theorem ref_row1 (n : Fin 128) (h : Fin 4) (e : Fin 256) : val_main_v113 (F := Ideal) P C W A D (ix3 n h e) = sub1 (low P C W A D n h) (rhs P C W A D n h e) := by
  have a0 : val_main_v112 (F := Ideal) P C W A D (ix3 n h e) = low P C W A D n h 1 0 * sub0 (low P C W A D n h) (rhs P C W A D n h e) :=
    (take (val_main_v95 (F := Ideal) P C W A D) (val_main_v105 (F := Ideal) P C W A D) 1 0 slices_S128x4x8x8_S128x4x1x1_0_0_1_0 n h e).trans (congrArg₂ (· * ·) (ref_low P C W A D n h 1 0) (ref_row0 P C W A D n h e))
  exact congrArg₂ (· - ·) ((pick (val_main_v103 (F := Ideal) P C W A D) 1 slices_S128x8x4x256_S128x1x4x256_0_1_0_0 n h e).trans (ref_rhs P C W A D n 1 h e)) a0

theorem ref_row2 (n : Fin 128) (h : Fin 4) (e : Fin 256) : val_main_v127 (F := Ideal) P C W A D (ix3 n h e) = sub2 (low P C W A D n h) (rhs P C W A D n h e) := by
  have a0 : val_main_v120 (F := Ideal) P C W A D (ix3 n h e) = low P C W A D n h 2 0 * sub0 (low P C W A D n h) (rhs P C W A D n h e) :=
    (take (val_main_v95 (F := Ideal) P C W A D) (val_main_v105 (F := Ideal) P C W A D) 2 0 slices_S128x4x8x8_S128x4x1x1_0_0_2_0 n h e).trans (congrArg₂ (· * ·) (ref_low P C W A D n h 2 0) (ref_row0 P C W A D n h e))
  have a1 : val_main_v126 (F := Ideal) P C W A D (ix3 n h e) = low P C W A D n h 2 1 * sub1 (low P C W A D n h) (rhs P C W A D n h e) :=
    (take (val_main_v95 (F := Ideal) P C W A D) (val_main_v113 (F := Ideal) P C W A D) 2 1 slices_S128x4x8x8_S128x4x1x1_0_0_2_1 n h e).trans (congrArg₂ (· * ·) (ref_low P C W A D n h 2 1) (ref_row1 P C W A D n h e))
  exact congrArg₂ (· - ·) (congrArg₂ (· - ·) ((pick (val_main_v103 (F := Ideal) P C W A D) 2 slices_S128x8x4x256_S128x1x4x256_0_2_0_0 n h e).trans (ref_rhs P C W A D n 2 h e)) a0) a1

theorem ref_row3 (n : Fin 128) (h : Fin 4) (e : Fin 256) : val_main_v147 (F := Ideal) P C W A D (ix3 n h e) = sub3 (low P C W A D n h) (rhs P C W A D n h e) := by
  have a0 : val_main_v134 (F := Ideal) P C W A D (ix3 n h e) = low P C W A D n h 3 0 * sub0 (low P C W A D n h) (rhs P C W A D n h e) :=
    (take (val_main_v95 (F := Ideal) P C W A D) (val_main_v105 (F := Ideal) P C W A D) 3 0 slices_S128x4x8x8_S128x4x1x1_0_0_3_0 n h e).trans (congrArg₂ (· * ·) (ref_low P C W A D n h 3 0) (ref_row0 P C W A D n h e))
  have a1 : val_main_v140 (F := Ideal) P C W A D (ix3 n h e) = low P C W A D n h 3 1 * sub1 (low P C W A D n h) (rhs P C W A D n h e) :=
    (take (val_main_v95 (F := Ideal) P C W A D) (val_main_v113 (F := Ideal) P C W A D) 3 1 slices_S128x4x8x8_S128x4x1x1_0_0_3_1 n h e).trans (congrArg₂ (· * ·) (ref_low P C W A D n h 3 1) (ref_row1 P C W A D n h e))
  have a2 : val_main_v146 (F := Ideal) P C W A D (ix3 n h e) = low P C W A D n h 3 2 * sub2 (low P C W A D n h) (rhs P C W A D n h e) :=
    (take (val_main_v95 (F := Ideal) P C W A D) (val_main_v127 (F := Ideal) P C W A D) 3 2 slices_S128x4x8x8_S128x4x1x1_0_0_3_2 n h e).trans (congrArg₂ (· * ·) (ref_low P C W A D n h 3 2) (ref_row2 P C W A D n h e))
  exact congrArg₂ (· - ·) (congrArg₂ (· - ·) (congrArg₂ (· - ·) ((pick (val_main_v103 (F := Ideal) P C W A D) 3 slices_S128x8x4x256_S128x1x4x256_0_3_0_0 n h e).trans (ref_rhs P C W A D n 3 h e)) a0) a1) a2

theorem ref_row4 (n : Fin 128) (h : Fin 4) (e : Fin 256) : val_main_v173 (F := Ideal) P C W A D (ix3 n h e) = sub4 (low P C W A D n h) (rhs P C W A D n h e) := by
  have a0 : val_main_v154 (F := Ideal) P C W A D (ix3 n h e) = low P C W A D n h 4 0 * sub0 (low P C W A D n h) (rhs P C W A D n h e) :=
    (take (val_main_v95 (F := Ideal) P C W A D) (val_main_v105 (F := Ideal) P C W A D) 4 0 slices_S128x4x8x8_S128x4x1x1_0_0_4_0 n h e).trans (congrArg₂ (· * ·) (ref_low P C W A D n h 4 0) (ref_row0 P C W A D n h e))
  have a1 : val_main_v160 (F := Ideal) P C W A D (ix3 n h e) = low P C W A D n h 4 1 * sub1 (low P C W A D n h) (rhs P C W A D n h e) :=
    (take (val_main_v95 (F := Ideal) P C W A D) (val_main_v113 (F := Ideal) P C W A D) 4 1 slices_S128x4x8x8_S128x4x1x1_0_0_4_1 n h e).trans (congrArg₂ (· * ·) (ref_low P C W A D n h 4 1) (ref_row1 P C W A D n h e))
  have a2 : val_main_v166 (F := Ideal) P C W A D (ix3 n h e) = low P C W A D n h 4 2 * sub2 (low P C W A D n h) (rhs P C W A D n h e) :=
    (take (val_main_v95 (F := Ideal) P C W A D) (val_main_v127 (F := Ideal) P C W A D) 4 2 slices_S128x4x8x8_S128x4x1x1_0_0_4_2 n h e).trans (congrArg₂ (· * ·) (ref_low P C W A D n h 4 2) (ref_row2 P C W A D n h e))
  have a3 : val_main_v172 (F := Ideal) P C W A D (ix3 n h e) = low P C W A D n h 4 3 * sub3 (low P C W A D n h) (rhs P C W A D n h e) :=
    (take (val_main_v95 (F := Ideal) P C W A D) (val_main_v147 (F := Ideal) P C W A D) 4 3 slices_S128x4x8x8_S128x4x1x1_0_0_4_3 n h e).trans (congrArg₂ (· * ·) (ref_low P C W A D n h 4 3) (ref_row3 P C W A D n h e))
  exact congrArg₂ (· - ·) (congrArg₂ (· - ·) (congrArg₂ (· - ·) (congrArg₂ (· - ·) ((pick (val_main_v103 (F := Ideal) P C W A D) 4 slices_S128x8x4x256_S128x1x4x256_0_4_0_0 n h e).trans (ref_rhs P C W A D n 4 h e)) a0) a1) a2) a3

theorem ref_row5 (n : Fin 128) (h : Fin 4) (e : Fin 256) : val_main_v205 (F := Ideal) P C W A D (ix3 n h e) = sub5 (low P C W A D n h) (rhs P C W A D n h e) := by
  have a0 : val_main_v180 (F := Ideal) P C W A D (ix3 n h e) = low P C W A D n h 5 0 * sub0 (low P C W A D n h) (rhs P C W A D n h e) :=
    (take (val_main_v95 (F := Ideal) P C W A D) (val_main_v105 (F := Ideal) P C W A D) 5 0 slices_S128x4x8x8_S128x4x1x1_0_0_5_0 n h e).trans (congrArg₂ (· * ·) (ref_low P C W A D n h 5 0) (ref_row0 P C W A D n h e))
  have a1 : val_main_v186 (F := Ideal) P C W A D (ix3 n h e) = low P C W A D n h 5 1 * sub1 (low P C W A D n h) (rhs P C W A D n h e) :=
    (take (val_main_v95 (F := Ideal) P C W A D) (val_main_v113 (F := Ideal) P C W A D) 5 1 slices_S128x4x8x8_S128x4x1x1_0_0_5_1 n h e).trans (congrArg₂ (· * ·) (ref_low P C W A D n h 5 1) (ref_row1 P C W A D n h e))
  have a2 : val_main_v192 (F := Ideal) P C W A D (ix3 n h e) = low P C W A D n h 5 2 * sub2 (low P C W A D n h) (rhs P C W A D n h e) :=
    (take (val_main_v95 (F := Ideal) P C W A D) (val_main_v127 (F := Ideal) P C W A D) 5 2 slices_S128x4x8x8_S128x4x1x1_0_0_5_2 n h e).trans (congrArg₂ (· * ·) (ref_low P C W A D n h 5 2) (ref_row2 P C W A D n h e))
  have a3 : val_main_v198 (F := Ideal) P C W A D (ix3 n h e) = low P C W A D n h 5 3 * sub3 (low P C W A D n h) (rhs P C W A D n h e) :=
    (take (val_main_v95 (F := Ideal) P C W A D) (val_main_v147 (F := Ideal) P C W A D) 5 3 slices_S128x4x8x8_S128x4x1x1_0_0_5_3 n h e).trans (congrArg₂ (· * ·) (ref_low P C W A D n h 5 3) (ref_row3 P C W A D n h e))
  have a4 : val_main_v204 (F := Ideal) P C W A D (ix3 n h e) = low P C W A D n h 5 4 * sub4 (low P C W A D n h) (rhs P C W A D n h e) :=
    (take (val_main_v95 (F := Ideal) P C W A D) (val_main_v173 (F := Ideal) P C W A D) 5 4 slices_S128x4x8x8_S128x4x1x1_0_0_5_4 n h e).trans (congrArg₂ (· * ·) (ref_low P C W A D n h 5 4) (ref_row4 P C W A D n h e))
  exact congrArg₂ (· - ·) (congrArg₂ (· - ·) (congrArg₂ (· - ·) (congrArg₂ (· - ·) (congrArg₂ (· - ·) ((pick (val_main_v103 (F := Ideal) P C W A D) 5 slices_S128x8x4x256_S128x1x4x256_0_5_0_0 n h e).trans (ref_rhs P C W A D n 5 h e)) a0) a1) a2) a3) a4

theorem ref_row6 (n : Fin 128) (h : Fin 4) (e : Fin 256) : val_main_v243 (F := Ideal) P C W A D (ix3 n h e) = sub6 (low P C W A D n h) (rhs P C W A D n h e) := by
  have a0 : val_main_v212 (F := Ideal) P C W A D (ix3 n h e) = low P C W A D n h 6 0 * sub0 (low P C W A D n h) (rhs P C W A D n h e) :=
    (take (val_main_v95 (F := Ideal) P C W A D) (val_main_v105 (F := Ideal) P C W A D) 6 0 slices_S128x4x8x8_S128x4x1x1_0_0_6_0 n h e).trans (congrArg₂ (· * ·) (ref_low P C W A D n h 6 0) (ref_row0 P C W A D n h e))
  have a1 : val_main_v218 (F := Ideal) P C W A D (ix3 n h e) = low P C W A D n h 6 1 * sub1 (low P C W A D n h) (rhs P C W A D n h e) :=
    (take (val_main_v95 (F := Ideal) P C W A D) (val_main_v113 (F := Ideal) P C W A D) 6 1 slices_S128x4x8x8_S128x4x1x1_0_0_6_1 n h e).trans (congrArg₂ (· * ·) (ref_low P C W A D n h 6 1) (ref_row1 P C W A D n h e))
  have a2 : val_main_v224 (F := Ideal) P C W A D (ix3 n h e) = low P C W A D n h 6 2 * sub2 (low P C W A D n h) (rhs P C W A D n h e) :=
    (take (val_main_v95 (F := Ideal) P C W A D) (val_main_v127 (F := Ideal) P C W A D) 6 2 slices_S128x4x8x8_S128x4x1x1_0_0_6_2 n h e).trans (congrArg₂ (· * ·) (ref_low P C W A D n h 6 2) (ref_row2 P C W A D n h e))
  have a3 : val_main_v230 (F := Ideal) P C W A D (ix3 n h e) = low P C W A D n h 6 3 * sub3 (low P C W A D n h) (rhs P C W A D n h e) :=
    (take (val_main_v95 (F := Ideal) P C W A D) (val_main_v147 (F := Ideal) P C W A D) 6 3 slices_S128x4x8x8_S128x4x1x1_0_0_6_3 n h e).trans (congrArg₂ (· * ·) (ref_low P C W A D n h 6 3) (ref_row3 P C W A D n h e))
  have a4 : val_main_v236 (F := Ideal) P C W A D (ix3 n h e) = low P C W A D n h 6 4 * sub4 (low P C W A D n h) (rhs P C W A D n h e) :=
    (take (val_main_v95 (F := Ideal) P C W A D) (val_main_v173 (F := Ideal) P C W A D) 6 4 slices_S128x4x8x8_S128x4x1x1_0_0_6_4 n h e).trans (congrArg₂ (· * ·) (ref_low P C W A D n h 6 4) (ref_row4 P C W A D n h e))
  have a5 : val_main_v242 (F := Ideal) P C W A D (ix3 n h e) = low P C W A D n h 6 5 * sub5 (low P C W A D n h) (rhs P C W A D n h e) :=
    (take (val_main_v95 (F := Ideal) P C W A D) (val_main_v205 (F := Ideal) P C W A D) 6 5 slices_S128x4x8x8_S128x4x1x1_0_0_6_5 n h e).trans (congrArg₂ (· * ·) (ref_low P C W A D n h 6 5) (ref_row5 P C W A D n h e))
  exact congrArg₂ (· - ·) (congrArg₂ (· - ·) (congrArg₂ (· - ·) (congrArg₂ (· - ·) (congrArg₂ (· - ·) (congrArg₂ (· - ·) ((pick (val_main_v103 (F := Ideal) P C W A D) 6 slices_S128x8x4x256_S128x1x4x256_0_6_0_0 n h e).trans (ref_rhs P C W A D n 6 h e)) a0) a1) a2) a3) a4) a5

theorem ref_row7 (n : Fin 128) (h : Fin 4) (e : Fin 256) : val_main_v287 (F := Ideal) P C W A D (ix3 n h e) = sub7 (low P C W A D n h) (rhs P C W A D n h e) := by
  have a0 : val_main_v250 (F := Ideal) P C W A D (ix3 n h e) = low P C W A D n h 7 0 * sub0 (low P C W A D n h) (rhs P C W A D n h e) :=
    (take (val_main_v95 (F := Ideal) P C W A D) (val_main_v105 (F := Ideal) P C W A D) 7 0 slices_S128x4x8x8_S128x4x1x1_0_0_7_0 n h e).trans (congrArg₂ (· * ·) (ref_low P C W A D n h 7 0) (ref_row0 P C W A D n h e))
  have a1 : val_main_v256 (F := Ideal) P C W A D (ix3 n h e) = low P C W A D n h 7 1 * sub1 (low P C W A D n h) (rhs P C W A D n h e) :=
    (take (val_main_v95 (F := Ideal) P C W A D) (val_main_v113 (F := Ideal) P C W A D) 7 1 slices_S128x4x8x8_S128x4x1x1_0_0_7_1 n h e).trans (congrArg₂ (· * ·) (ref_low P C W A D n h 7 1) (ref_row1 P C W A D n h e))
  have a2 : val_main_v262 (F := Ideal) P C W A D (ix3 n h e) = low P C W A D n h 7 2 * sub2 (low P C W A D n h) (rhs P C W A D n h e) :=
    (take (val_main_v95 (F := Ideal) P C W A D) (val_main_v127 (F := Ideal) P C W A D) 7 2 slices_S128x4x8x8_S128x4x1x1_0_0_7_2 n h e).trans (congrArg₂ (· * ·) (ref_low P C W A D n h 7 2) (ref_row2 P C W A D n h e))
  have a3 : val_main_v268 (F := Ideal) P C W A D (ix3 n h e) = low P C W A D n h 7 3 * sub3 (low P C W A D n h) (rhs P C W A D n h e) :=
    (take (val_main_v95 (F := Ideal) P C W A D) (val_main_v147 (F := Ideal) P C W A D) 7 3 slices_S128x4x8x8_S128x4x1x1_0_0_7_3 n h e).trans (congrArg₂ (· * ·) (ref_low P C W A D n h 7 3) (ref_row3 P C W A D n h e))
  have a4 : val_main_v274 (F := Ideal) P C W A D (ix3 n h e) = low P C W A D n h 7 4 * sub4 (low P C W A D n h) (rhs P C W A D n h e) :=
    (take (val_main_v95 (F := Ideal) P C W A D) (val_main_v173 (F := Ideal) P C W A D) 7 4 slices_S128x4x8x8_S128x4x1x1_0_0_7_4 n h e).trans (congrArg₂ (· * ·) (ref_low P C W A D n h 7 4) (ref_row4 P C W A D n h e))
  have a5 : val_main_v280 (F := Ideal) P C W A D (ix3 n h e) = low P C W A D n h 7 5 * sub5 (low P C W A D n h) (rhs P C W A D n h e) :=
    (take (val_main_v95 (F := Ideal) P C W A D) (val_main_v205 (F := Ideal) P C W A D) 7 5 slices_S128x4x8x8_S128x4x1x1_0_0_7_5 n h e).trans (congrArg₂ (· * ·) (ref_low P C W A D n h 7 5) (ref_row5 P C W A D n h e))
  have a6 : val_main_v286 (F := Ideal) P C W A D (ix3 n h e) = low P C W A D n h 7 6 * sub6 (low P C W A D n h) (rhs P C W A D n h e) :=
    (take (val_main_v95 (F := Ideal) P C W A D) (val_main_v243 (F := Ideal) P C W A D) 7 6 slices_S128x4x8x8_S128x4x1x1_0_0_7_6 n h e).trans (congrArg₂ (· * ·) (ref_low P C W A D n h 7 6) (ref_row6 P C W A D n h e))
  exact congrArg₂ (· - ·) (congrArg₂ (· - ·) (congrArg₂ (· - ·) (congrArg₂ (· - ·) (congrArg₂ (· - ·) (congrArg₂ (· - ·) (congrArg₂ (· - ·) ((pick (val_main_v103 (F := Ideal) P C W A D) 7 slices_S128x8x4x256_S128x1x4x256_0_7_0_0 n h e).trans (ref_rhs P C W A D n 7 h e)) a0) a1) a2) a3) a4) a5) a6

/-- Eight rows stacked, read at an element. -/
theorem stack (x0 x1 x2 x3 x4 x5 x6 x7 : S128x4x256.Idx → EReal) (n : Fin 128) (h : Fin 4) (t : Fin 8) (e : Fin 256) :
    concatenate S128x4x8x256 2 [⟨S128x4x1x256, (broadcastInDim S128x4x1x256 ![0, 1, 3] bcast_S128x4x256_S128x4x1x256_0_1_3 x0 : S128x4x1x256.Idx → EReal)⟩, ⟨S128x4x1x256, (broadcastInDim S128x4x1x256 ![0, 1, 3] bcast_S128x4x256_S128x4x1x256_0_1_3 x1 : S128x4x1x256.Idx → EReal)⟩, ⟨S128x4x1x256, (broadcastInDim S128x4x1x256 ![0, 1, 3] bcast_S128x4x256_S128x4x1x256_0_1_3 x2 : S128x4x1x256.Idx → EReal)⟩, ⟨S128x4x1x256, (broadcastInDim S128x4x1x256 ![0, 1, 3] bcast_S128x4x256_S128x4x1x256_0_1_3 x3 : S128x4x1x256.Idx → EReal)⟩, ⟨S128x4x1x256, (broadcastInDim S128x4x1x256 ![0, 1, 3] bcast_S128x4x256_S128x4x1x256_0_1_3 x4 : S128x4x1x256.Idx → EReal)⟩, ⟨S128x4x1x256, (broadcastInDim S128x4x1x256 ![0, 1, 3] bcast_S128x4x256_S128x4x1x256_0_1_3 x5 : S128x4x1x256.Idx → EReal)⟩, ⟨S128x4x1x256, (broadcastInDim S128x4x1x256 ![0, 1, 3] bcast_S128x4x256_S128x4x1x256_0_1_3 x6 : S128x4x1x256.Idx → EReal)⟩, ⟨S128x4x1x256, (broadcastInDim S128x4x1x256 ![0, 1, 3] bcast_S128x4x256_S128x4x1x256_0_1_3 x7 : S128x4x1x256.Idx → EReal)⟩]
      concatenates_S128x4x1x256_S128x4x1x256_S128x4x1x256_S128x4x1x256_S128x4x1x256_S128x4x1x256_S128x4x1x256_S128x4x1x256_S128x4x8x256_d2 (ix4 n h t e)
    = (![x0 (ix3 n h e), x1 (ix3 n h e), x2 (ix3 n h e), x3 (ix3 n h e), x4 (ix3 n h e), x5 (ix3 n h e), x6 (ix3 n h e), x7 (ix3 n h e)] : Fin 8 → EReal) t := by
  fin_cases t <;> pointwise []

/-- The rows the reference solves for. -/
theorem ref_sol (n : Fin 128) (h : Fin 4) (t : Fin 8) (e : Fin 256) : val_main_v296 (F := Ideal) P C W A D (ix4 n h t e) = subst (low P C W A D n h) (rhs P C W A D n h e) t := by
  refine (stack (val_main_v105 (F := Ideal) P C W A D) (val_main_v113 (F := Ideal) P C W A D) (val_main_v127 (F := Ideal) P C W A D) (val_main_v147 (F := Ideal) P C W A D) (val_main_v173 (F := Ideal) P C W A D) (val_main_v205 (F := Ideal) P C W A D) (val_main_v243 (F := Ideal) P C W A D) (val_main_v287 (F := Ideal) P C W A D) n h t e).trans ?_
  rw [ref_row0, ref_row1, ref_row2, ref_row3, ref_row4, ref_row5, ref_row6, ref_row7]
  rfl

end

end Cert.Delta
-- ==== Proof.GdnOut.lean ====
/-
  The results of the reference of the gated delta rule, read element by element.
-/
module

public import proofs.«01_k».proof.Proof.GdnRows
public import Idealize.ShloMosaic.Lib.Pipeline.ValueKit

@[expose] public section

set_option maxRecDepth 16384

noncomputable section

open Idealize.ShloMosaic Idealize.ShloMosaic.TcCoe Idealize.SL.Sem

namespace Cert.Delta

open Cert.GdnRefIdeal Cert.GdnRefIdeal.Gen
open Cert.GdnRefIdeal.Read

section
variable (P : S17408x2056.Idx → EReal) (S : S128x4x128x128.Idx → EReal) (C : S128x3x1536.Idx → EReal) (W : S4x1536.Idx → EReal)
  (A : S4.Idx → EReal) (D : S4.Idx → EReal) (G : S128.Idx → EReal)

/-- What a row writes, net of what the state already holds. -/
def new (n : Fin 128) (h : Fin 4) (t : Fin 8) (e : Fin 128) : EReal :=
  subst (low P C W A D n h) (vb P C W n h e) t - ∑ d : Fin 128, subst (low P C W A D n h) (ke P C W A D n h d) t * S (ix4 n h d e)

theorem rhs_left (n : Fin 128) (h : Fin 4) (e : Fin 128) (he : e.val < 256) : rhs P C W A D n h ⟨e.val, he⟩ = vb P C W n h e := by
  funext s
  exact dif_pos e.isLt

theorem rhs_right (n : Fin 128) (h : Fin 4) (e : Fin 128) (he : 128 + e.val < 256) : rhs P C W A D n h ⟨128 + e.val, he⟩ = ke P C W A D n h e := by
  funext s
  refine (dif_neg (by simp)).trans ?_
  exact congrArg (fun d => ke P C W A D n h d s) (Fin.ext (by simp))

theorem ref_new (n : Fin 128) (h : Fin 4) (t : Fin 8) (e : Fin 128) : val_main_v300 (F := Ideal) P S C W A D (ix4 n h t e) = new P S C W A D n h t e := by
  pointwise [val_main_v300, val_main_v297, val_main_v299, val_main_v298, ref_sol, rhs_left, rhs_right, new]

/-- The weight of row `s` in row `t`. -/
def att (n : Fin 128) (h : Fin 4) (t s : Fin 8) : EReal := (∑ d : Fin 128, qry P C W n t h d * key P C W n s h d) * dec P A D n h t s

theorem ref_att (n : Fin 128) (h : Fin 4) (t s : Fin 8) : val_main_v302 (F := Ideal) P C W A D (ix4 n h t s) = att P C W A D n h t s := by
  pointwise [val_main_v302, val_main_v301, ref_qry, ref_key, ref_dec, att]

/-- A row of a head before the norm. -/
def row (n : Fin 128) (h : Fin 4) (t : Fin 8) (e : Fin 128) : EReal :=
  (∑ d : Fin 128, qry P C W n t h d * Ideal.exp (run (gat P A D n h) t) * S (ix4 n h d e)) + ∑ s : Fin 8, att P C W A D n h t s * new P S C W A D n h s e

theorem ref_row (n : Fin 128) (h : Fin 4) (t : Fin 8) (e : Fin 128) : val_main_v311 (F := Ideal) P S C W A D (ix4 n t h e) = row P S C W A D n h t e := by
  pointwise [val_main_v311, val_main_v308, val_main_v307, val_main_v306, val_main_v305, val_main_v304, val_main_v303, val_main_v310, val_main_v309, ref_att, ref_new, ref_qry, ref_run, row]
  exact congrArg₂ (· + ·) (Finset.sum_congr rfl fun d _ => mul_comm _ _) (Finset.sum_congr rfl fun s _ => mul_comm _ _)

/-- The state after the eight rows of a sequence. -/
def sta (n : Fin 128) (h : Fin 4) (d e : Fin 128) : EReal :=
  Ideal.exp (run (gat P A D n h) 7) * S (ix4 n h d e)
    + ∑ s : Fin 8, key P C W n s h d * Ideal.exp (run (gat P A D n h) 7 - run (gat P A D n h) s) * new P S C W A D n h s e

theorem ref_sta (n : Fin 128) (h : Fin 4) (d e : Fin 128) : val_main_v326 (F := Ideal) P S C W A D (ix4 n h d e) = sta P S C W A D n h d e := by
  pointwise [val_main_v326, val_main_v317, val_main_v316, val_main_v315, val_main_v314, val_main_v313, val_main_v312, val_main_v325, val_main_v324, val_main_v323, val_main_v322, val_main_v321, val_main_v320, val_main_v319, val_main_v318, ref_new, ref_key, ref_run, sta]

/-- A row of a head, normed, scaled and gated. -/
def outv (n : Fin 128) (h : Fin 4) (t : Fin 8) (e : Fin 128) : EReal :=
  row P S C W A D n h t e
    * Ideal.rsqrt (Ideal.div (∑ x : Fin 128, row P S C W A D n h t x * row P S C W A D n h t x) (Ideal.ofBits .f32 0x43000000#32) + Ideal.ofBits .f32 0x358637BD#32)
    * G (ix1 e)
    * (P (ix2 ⟨16384 + (n.val * 8 + t.val), by omega⟩ ⟨1536 + (h.val * 128 + e.val), by omega⟩)
      * Ideal.div 1 (1 + Ideal.exp (-P (ix2 ⟨16384 + (n.val * 8 + t.val), by omega⟩ ⟨1536 + (h.val * 128 + e.val), by omega⟩))))

theorem ref_outv (n : Fin 128) (h : Fin 4) (t : Fin 8) (e : Fin 128) : val_main_v342 (F := Ideal) P S C W A D G (ix4 n t h e) = outv P S C W A D G n h t e := by
  pointwise [val_main_v342, val_main_v339, val_main_v336, val_main_v335, val_main_v334, val_main_v333, val_main_v331, val_main_v329, val_main_v328, val_main_v327, val_main_cst_10, val_main_v330, val_main_cst_11, val_main_v332, val_main_cst_12, val_main_v338, val_main_v337, val_main_v341, val_main_v340, val_main_v3, val_main_v1, val_main_v0, val_main_call8_v5, val_main_call8_v4, val_main_call8_cst_0, val_main_call8_v3, val_main_call8_v2, val_main_call8_cst, val_main_call8_v1, val_main_call8_v0, ref_row, outv]

theorem ref_out (r : Fin 1024) (l : Fin 512) :
    val_main_v343 (F := Ideal) P S C W A D G (ix2 r l) = outv P S C W A D G ⟨r.val / 8, by omega⟩ ⟨l.val / 128, by omega⟩ ⟨r.val % 8, by omega⟩ ⟨l.val % 128, by omega⟩ := by
  pointwise [val_main_v343, ref_outv]

end

end Cert.Delta
-- ==== Proof.GdnKer.lean ====
/-
  The kernel's values are the reference's, from the short convolution on.
-/
module

public import proofs.«01_k».proof.Proof.GdnSol
public import proofs.«01_k».proof.Proof.GdnOut

@[expose] public section

set_option maxRecDepth 16384

noncomputable section

open Idealize.ShloMosaic Idealize.ShloMosaic.TcCoe Idealize.SL.Sem
open Idealize.ShloMosaic.Pipeline (Dat)

namespace Cert.Delta

theorem valLt (h : Fin 4) (e : Fin 128) : 1024 + (h.val * 128 + e.val) < 1536 := by omega

open Cert.Finite
open Cert.GdnRefIdeal Cert.GdnRefIdeal.Gen

section
variable (P : S17408x2056.Idx → EReal) (C : S128x3x1536.Idx → EReal) (W : S4x1536.Idx → EReal) (A D : S4.Idx → EReal)
  (hV : ∀ (n : Fin 128) (s : Fin 8) (h : Fin 4) (e : Fin 128), IsReal (act P C W n s ⟨1024 + (h.val * 128 + e.val), valLt h e⟩))

theorem beta_real (n : Fin 128) (s : Fin 8) (h : Fin 4) : IsReal (beta P n s h) := logistic_real _

theorem gat_nonpos (n : Fin 128) (h : Fin 4) (s : Fin 8) : gat P A D n h s ≤ 0 := gate_nonpos _ _

theorem dec_real (n : Fin 128) (h : Fin 4) (t s : Fin 8) : IsReal (dec P A D n h t s) := by
  rw [dec]
  split
  · exact decay_real (gat_nonpos P A D n h) ‹_›
  · exact ⟨0, rfl⟩

theorem key_real (n : Fin 128) (s : Fin 8) (h : Fin 4) (d : Fin 128) : IsReal (key P C W n s h d) :=
  entry_real (fun x : Fin 128 => act P C W n s ⟨512 + (h.val * 128 + x.val), by omega⟩) d

theorem kb_real (n : Fin 128) (s : Fin 8) (h : Fin 4) (d : Fin 128) : IsReal (kb P C W n s h d) :=
  (key_real P C W n s h d).mul (beta_real P n s h)

include hV in
theorem vb_real (n : Fin 128) (h : Fin 4) (e : Fin 128) (s : Fin 8) : IsReal (vb P C W n h e s) :=
  (hV n s h e).mul (beta_real P n s h)

theorem ke_real (n : Fin 128) (h : Fin 4) (d : Fin 128) (s : Fin 8) : IsReal (ke P C W A D n h d s) :=
  (kb_real P C W n s h d).mul (exp_real (ne_top_of_nonpos (run_nonpos (gat_nonpos P A D n h) s)))

theorem low_real (n : Fin 128) (h : Fin 4) (t s : Fin 8) : IsReal (low P C W A D n h t s) := by
  rw [low]
  split
  · exact (IsReal.sum _ fun d => (kb_real P C W n t h d).mul (key_real P C W n s h d)).mul (dec_real P A D n h t s)
  · exact ⟨0, rfl⟩

end

theorem low_zero (P : S17408x2056.Idx → EReal) (C : S128x3x1536.Idx → EReal) (W : S4x1536.Idx → EReal) (A D : S4.Idx → EReal) (n : Fin 128) (h : Fin 4) (t s : Fin 8) (hts : t ≤ s) :
    low P C W A D n h t s = 0 := if_neg (not_lt.2 hts)

end Cert.Delta

namespace Cert.GdnIdeal.Hand

open Cert.GdnIdeal Cert.GdnIdeal.Gen
open Cert.Delta
open Cert.Finite

theorem seqLt (g : Fin 64) : g.val / 4 < 16 := by omega
theorem headLt (g : Fin 64) : g.val % 4 < 4 := by omega
theorem laneLt (g : Fin 64) : g.val % 4 < 128 := by omega
theorem laneLt4 (g : Fin 64) : 4 + g.val % 4 < 128 := by omega
theorem rowLt (n : Fin 128) (t : Fin 8) : 16384 + (n.val * 8 + t.val) < 17408 := by omega
theorem colLt (h : Fin 4) (e : Fin 128) : 1536 + (h.val * 128 + e.val) < 2056 := by omega

/-- The kernel's keys, decays, written keys, corrections of values and of keys. -/
def kK (X : FVec Ideal S16x8x1536 .f32) : FVec Ideal S64x8x128 .f32 := k0_pay28 (k0_pay24 X) (k0_pay27 X)
def kD (G R : FVec Ideal S16x8x128 .f32) : FVec Ideal S64x8x8 .f32 :=
  k0_pay31 (iota .tc S1x8x8 32 [1] iota_S1x8x8_d1_w32) (iota .tc S1x8x8 32 [2] iota_S1x8x8_d2_w32) k0_pay7 k0_pay11 G R
def kB (X : FVec Ideal S16x8x1536 .f32) (B : FVec Ideal S16x8x128 .f32) : FVec Ideal S64x8x128 .f32 := k0_pay32 B (k0_pay24 X) (k0_pay27 X)
def kU (X : FVec Ideal S16x8x1536 .f32) (B G R : FVec Ideal S16x8x128 .f32) : FVec Ideal S64x8x128 .f32 :=
  k0_pay45 (k0_pay25 X) (k0_pay29 B)
    (k0_pay37 k0_pay8 k0_pay9 (kK X) (kD G R) (kB X B) (k0_pay33 B (k0_pay24 X) (k0_pay27 X)) (k0_pay34 B (k0_pay24 X) (k0_pay27 X)))
    (k0_pay38 k0_pay8 (kK X) (kD G R) (kB X B) (k0_pay33 B (k0_pay24 X) (k0_pay27 X)) (k0_pay34 B (k0_pay24 X) (k0_pay27 X)))
    (k0_pay39 k0_pay8 (kK X) (kD G R) (kB X B) (k0_pay33 B (k0_pay24 X) (k0_pay27 X)) (k0_pay34 B (k0_pay24 X) (k0_pay27 X)))
    (k0_pay40 k0_pay8 (kK X) (kD G R) (kB X B) (k0_pay33 B (k0_pay24 X) (k0_pay27 X)) (k0_pay34 B (k0_pay24 X) (k0_pay27 X)))
def kW (X : FVec Ideal S16x8x1536 .f32) (B G R : FVec Ideal S16x8x128 .f32) : FVec Ideal S64x8x128 .f32 :=
  k0_pay46 (k0_pay30 R) (kB X B)
    (k0_pay37 k0_pay8 k0_pay9 (kK X) (kD G R) (kB X B) (k0_pay33 B (k0_pay24 X) (k0_pay27 X)) (k0_pay34 B (k0_pay24 X) (k0_pay27 X)))
    (k0_pay38 k0_pay8 (kK X) (kD G R) (kB X B) (k0_pay33 B (k0_pay24 X) (k0_pay27 X)) (k0_pay34 B (k0_pay24 X) (k0_pay27 X)))
    (k0_pay39 k0_pay8 (kK X) (kD G R) (kB X B) (k0_pay33 B (k0_pay24 X) (k0_pay27 X)) (k0_pay34 B (k0_pay24 X) (k0_pay27 X)))
    (k0_pay40 k0_pay8 (kK X) (kD G R) (kB X B) (k0_pay33 B (k0_pay24 X) (k0_pay27 X)) (k0_pay34 B (k0_pay24 X) (k0_pay27 X)))

section
variable (P : S17408x2056.Idx → EReal) (S : S128x4x128x128.Idx → EReal) (C : S128x3x1536.Idx → EReal) (W : S4x1536.Idx → EReal)
  (A : S4.Idx → EReal) (D : S4.Idx → EReal)
  (hV : ∀ (n : Fin 128) (s : Fin 8) (h : Fin 4) (e : Fin 128), IsReal (act P C W n s ⟨1024 + (h.val * 128 + e.val), valLt h e⟩))
  (X : FVec Ideal S16x8x1536 .f32) (B G R : FVec Ideal S16x8x128 .f32) (Sb : Vec Ideal S16x4x128x128 .f32) (n : Fin 128) (g : Fin 64) (h : Fin 4)
  (hX : ∀ s j, X (ix3 ⟨g.val / 4, seqLt g⟩ s j) = act P C W n s j)
  (hB : ∀ s, B (ix3 ⟨g.val / 4, seqLt g⟩ s ⟨g.val % 4, laneLt g⟩) = beta P n s h)
  (hG : ∀ s, G (ix3 ⟨g.val / 4, seqLt g⟩ s ⟨4 + g.val % 4, laneLt4 g⟩) = gat P A D n h s)
  (hR : ∀ s, R (ix3 ⟨g.val / 4, seqLt g⟩ s ⟨4 + g.val % 4, laneLt4 g⟩) = run (gat P A D n h) s)
  (hS : ∀ d e, Sb (ix4 ⟨g.val / 4, seqLt g⟩ ⟨g.val % 4, headLt g⟩ d e) = S (ix4 n h d e))
  (hh : h.val = g.val % 4)

include hh hX in
theorem k_eq (s : Fin 8) (d : Fin 128) : kK X (ix3 g s d) = key P C W n s h d := by
  rw [kK, key28]
  simp only [head24, hX, ← hh]
  rfl

include hh hX in
theorem q_eq (s : Fin 8) (d : Fin 128) : k0_pay26 X (ix3 g s d) = qry P C W n s h d := by
  rw [head26]
  simp only [heads, hX, ← hh]
  rfl

include hR in
theorem b_eq (s : Fin 8) : k0_pay30 R (ix3 g s 0) = run (gat P A D n h) s := by
  rw [head30, hR]

include hG hR in
theorem d_eq (t s : Fin 8) : kD G R (ix3 g t s) = dec P A D n h t s := by
  rw [kD, decay31]
  simp only [head30, hG, hR]
  rfl

include hh hX hB in
theorem kb_eq (s : Fin 8) (d : Fin 128) : kB X B (ix3 g s d) = kb P C W n s h d := by
  have e := k_eq P C W X n g h hX hh s d
  rw [kK] at e
  rw [kB, kb32, e, head29, hB]
  rfl

include hV hh hX hB hG hR in
theorem low_eq (t s : Fin 8) : k0_pay35 (F := Ideal) k0_pay8 (kK X) (kD G R) (kB X B) (k0_pay33 B (k0_pay24 X) (k0_pay27 X)) (k0_pay34 B (k0_pay24 X) (k0_pay27 X)) (ix3 g t s)
    = 0 - low P C W A D n h t s := by
  rw [low35 (kK X) (kD G R) (kB X B) (k0_pay34 B (k0_pay24 X) (k0_pay27 X)) (k0_pay33 B (k0_pay24 X) (k0_pay27 X)) g t s (fun d => kb33 _ _ _ _ _ _) (fun d => kb34 _ _ _ _ _ _)]
  simp only [k_eq P C W X n g h hX hh, kb_eq P C W X B n g h hX hB hh, d_eq P A D G R n g h hG hR]
  rw [split_real (fun d => kb_real P C W n t h d) (fun d => key_real P C W n s h d)]
  rfl

include hV hh hX hB hG hR in
theorem u_eq (t : Fin 8) (e : Fin 128) : kU X B G R (ix3 g t e) = subst (low P C W A D n h) (vb P C W n h e) t := by
  rw [kU, sol45]
  simp only [head25, head29, hX, hB]
  simp only [← hh]
  exact solve k0_pay8 (kK X) (kD G R) (kB X B) _ _ g (low P C W A D n h) (vb P C W n h e) (low_real P C W A D n h) (vb_real P C W hV n h e)
    (low_zero P C W A D n h) (low_eq P C W A D hV X B G R n g h hX hB hG hR hh) t

include hV hh hX hB hG hR in
theorem w_eq (t : Fin 8) (e : Fin 128) : kW X B G R (ix3 g t e) = subst (low P C W A D n h) (ke P C W A D n h e) t := by
  rw [kW, sol46]
  simp only [b_eq P A D R n g h hR, kb_eq P C W X B n g h hX hB hh]
  exact solve k0_pay8 (kK X) (kD G R) (kB X B) _ _ g (low P C W A D n h) (ke P C W A D n h e) (low_real P C W A D n h) (ke_real P C W A D n h e)
    (low_zero P C W A D n h) (low_eq P C W A D hV X B G R n g h hX hB hG hR hh) t

include hV hh hX hB hG hR hS in
theorem new_eq (t : Fin 8) (e : Fin 128) : k0_pay48 (kU X B G R) (kW X B G R) Sb (ix3 g t e) = new P S C W A D n h t e := by
  rw [new48]
  simp only [u_eq P C W A D hV X B G R n g h hX hB hG hR hh, w_eq P C W A D hV X B G R n g h hX hB hG hR hh, hS]
  rfl

include hV hh hX hB hG hR hS in
theorem row_eq (t : Fin 8) (e : Fin 128) : k0_pay49 (k0_pay26 X) (kK X) (kD G R) (k0_pay42 (k0_pay30 R)) (kU X B G R) (kW X B G R) Sb (ix3 g t e) = row P S C W A D n h t e := by
  rw [row49]
  simp only [new_eq P S C W A D hV X B G R Sb n g h hX hB hG hR hS hh, q_eq P C W X n g h hX hh, k_eq P C W X n g h hX hh, d_eq P A D G R n g h hG hR, b_eq P A D R n g h hR, hS]
  rfl

include hV hh hX hB hG hR hS in
theorem outk_eq (Nb : Vec Ideal S1x128 .f32) (N : S128.Idx → EReal) (Z : FVec Ideal S64x8x128 .f32) (hN : ∀ e, Nb (ix2 0 e) = N (ix1 e)) (t : Fin 8) (e : Fin 128)
    (hZ : Z (ix3 g t e) = P (ix2 ⟨16384 + (n.val * 8 + t.val), rowLt n t⟩ ⟨1536 + (h.val * 128 + e.val), colLt h e⟩)) :
    outk (k0_pay49 (k0_pay26 X) (kK X) (kD G R) (k0_pay42 (k0_pay30 R)) (kU X B G R) (kW X B G R) Sb) Z (k0_pay52 Nb)
      (k0_pay53 (k0_pay26 X) (kK X) (kD G R) (k0_pay42 (k0_pay30 R)) (kU X B G R) (kW X B G R) Sb) g t e = outv P S C W A D N n h t e := by
  rw [outk, sum53, norm52, hN, hZ]
  simp only [row_eq P S C W A D hV X B G R Sb n g h hX hB hG hR hS hh]
  rfl

include hV hh hX hB hG hR hS in
theorem sta_eq (d e : Fin 128) : k0_pay50 (kK X) (k0_pay30 R) (kU X B G R) (kW X B G R) Sb (ix4 ⟨g.val / 4, seqLt g⟩ ⟨g.val % 4, headLt g⟩ d e) = sta P S C W A D n h d e := by
  have eg : (⟨g.val / 4 * 4 + g.val % 4, by omega⟩ : Fin 64) = g := Fin.ext (by simp; omega)
  rw [state50, hS]
  simp only [eg]
  simp only [new_eq P S C W A D hV X B G R Sb n g h hX hB hG hR hS hh, k_eq P C W X n g h hX hh, b_eq P A D R n g h hR]
  rfl

end

end Cert.GdnIdeal.Hand
-- ==== Proof.GdnFin.lean ====
/-
  The three results of the gated delta rule's kernel.
-/
module

public import proofs.«01_k».proof.Proof.GdnKer
public import proofs.«01_k».proof.Defs
public import proofs.«01_k».proof.Proof.Gen.Pre_gdn_finite

@[expose] public section

set_option maxRecDepth 16384

noncomputable section

open Idealize.ShloMosaic Idealize.ShloMosaic.TcCoe Idealize.SL.Sem
open Idealize.ShloMosaic.Pipeline (Dat)

namespace Cert.GdnIdeal.Hand

open Cert.GdnIdeal Cert.GdnIdeal.Gen
open Cert.Delta
open Cert.Finite

variable (m : (ℓ : Loc nD τ sig) → Buf (Elt Ideal) ℓ)

theorem below {x : EReal} (h : Ideal.cmp .olt (max x (-x)) (Ideal.ofBits .f32 0x7F800000#32) = 1) : max x (-x) < ⊤ := by
  have e : Ideal.ofBits .f32 0x7F800000#32 = (⊤ : EReal) := by simp [Ideal.ofBits, Ideal.ieee]
  rw [e] at h
  by_contra n
  simp [Ideal.cmp, n] at h

/-- The precondition, element by element: in the columns of the values, the projection, the rows kept from before and the
    convolution's weights are real numbers. -/
theorem reals (h : Cert.Pre_GdnIdeal_gdn_finite m) (c : Dev nD) :
    (∀ (r : Fin 1024) (k : Fin 512), IsReal (aP m c (ix2 ⟨16384 + r.val, by omega⟩ ⟨1024 + k.val, by omega⟩)))
    ∧ (∀ (n : Fin 128) (i : Fin 3) (k : Fin 512), IsReal (aC m c (ix3 n i ⟨1024 + k.val, by omega⟩)))
    ∧ (∀ (i : Fin 4) (k : Fin 512), IsReal (aW m c (ix2 i ⟨1024 + k.val, by omega⟩))) := by
  obtain ⟨h0, h2, h3⟩ := h c
  refine ⟨fun r k => isReal_of_abs_lt (below ?_), fun n i k => isReal_of_abs_lt (below ?_), fun i k => isReal_of_abs_lt (below ?_)⟩
  · refine Eq.trans ?_ (congrFun h0 (ix2 r k))
    pointwise [Cert.Pre_gdn_finite.fn]
    rfl
  · refine Eq.trans ?_ (congrFun h2 (ix3 n i k))
    pointwise [Cert.Pre_gdn_finite.fn]
    rfl
  · refine Eq.trans ?_ (congrFun h3 (ix2 i k))
    pointwise [Cert.Pre_gdn_finite.fn]
    rfl

/-- The values after the convolution are real numbers. -/
theorem value_real (h : Cert.Pre_GdnIdeal_gdn_finite m) (c : Dev nD) (n : Fin 128) (s : Fin 8) (hd : Fin 4) (e : Fin 128) :
    IsReal (act (aP m c) (aC m c) (aW m c) n s ⟨1024 + (hd.val * 128 + e.val), valLt hd e⟩) := by
  obtain ⟨hP, hC, hW⟩ := reals m h c
  have ht (i : Fin 11) : IsReal (tap (aP m c) (aC m c) n i ⟨1024 + (hd.val * 128 + e.val), valLt hd e⟩) := by
    rw [tap]
    split
    · exact hC n _ ⟨hd.val * 128 + e.val, by omega⟩
    · exact hP ⟨n.val * 8 + (i.val - 3), by omega⟩ ⟨hd.val * 128 + e.val, by omega⟩
  have hw (i : Fin 4) : IsReal (aW m c (ix2 i ⟨1024 + (hd.val * 128 + e.val), valLt hd e⟩)) := hW i ⟨hd.val * 128 + e.val, by omega⟩
  have hc : IsReal (conv (aP m c) (aC m c) (aW m c) n s ⟨1024 + (hd.val * 128 + e.val), valLt hd e⟩) :=
    ((((ht _).mul (hw _)).add ((ht _).mul (hw _))).add ((ht _).mul (hw _))).add ((ht _).mul (hw _))
  exact hc.mul (logistic_real _)

section
variable (c : Dev nD) (t : Fin cfg0.N)

/-- The rows of tap 0. -/
abbrev rec0 : Rect S16x16x1536 := Rect.unit ![0, 5, 0] ![16, 8, 1536] inb_S16x16x1536_S16x8x1536_0_5_0
def tap0 : Vec Ideal S16x8x1536 .f32 := (View.whole cc0_scratch0).readCov (pcs (iblk m c 0 t) (iblk m c 2 t)) rec0.toLoadRect
theorem tap0_eq (a : Fin 16) (s : Fin 8) (j : Fin 1536) : tap0 m c t (ix3 a s j) = tap (aP m c) (aC m c) (seq t a) ⟨0 + s.val, by omega⟩ j := by
  rw [tap0, View.readCov_eq_canon']
  refine Eq.trans (congrArg (View.canon _) ?_) (scratch m c t a ⟨0 + s.val, by omega⟩ j)
  refine funext fun x => Fin.ext ((Rect.idx_unit_val _ _ _ _ x).trans ?_)
  fin_cases x
  · exact Nat.zero_add _
  · change 5 + s.val = 5 + (0 + s.val); omega
  · exact Nat.zero_add _
def wrow0 : Vec Ideal S1x1536 .f32 := View.ld (iblk m c 3 t) (Rect.unit ![0, 0] ![1, 1536] inb_S4x1536_S1x1536_0_0)
theorem wrow0_eq (j : Fin 1536) : wrow0 m c t (ix2 0 j) = aW m c (ix2 0 j) := by
  rw [wrow0, View.ld_unit]
  refine Eq.trans ?_ (wts m c t 0 j)
  generalize iblk m c 3 t = X
  pointwise []

/-- The rows of tap 1. -/
abbrev rec1 : Rect S16x16x1536 := Rect.unit ![0, 6, 0] ![16, 8, 1536] inb_S16x16x1536_S16x8x1536_0_6_0
def tap1 : Vec Ideal S16x8x1536 .f32 := (View.whole cc0_scratch0).readCov (pcs (iblk m c 0 t) (iblk m c 2 t)) rec1.toLoadRect
theorem tap1_eq (a : Fin 16) (s : Fin 8) (j : Fin 1536) : tap1 m c t (ix3 a s j) = tap (aP m c) (aC m c) (seq t a) ⟨1 + s.val, by omega⟩ j := by
  rw [tap1, View.readCov_eq_canon']
  refine Eq.trans (congrArg (View.canon _) ?_) (scratch m c t a ⟨1 + s.val, by omega⟩ j)
  refine funext fun x => Fin.ext ((Rect.idx_unit_val _ _ _ _ x).trans ?_)
  fin_cases x
  · exact Nat.zero_add _
  · change 6 + s.val = 5 + (1 + s.val); omega
  · exact Nat.zero_add _
def wrow1 : Vec Ideal S1x1536 .f32 := View.ld (iblk m c 3 t) (Rect.unit ![1, 0] ![1, 1536] inb_S4x1536_S1x1536_1_0)
theorem wrow1_eq (j : Fin 1536) : wrow1 m c t (ix2 0 j) = aW m c (ix2 1 j) := by
  rw [wrow1, View.ld_unit]
  refine Eq.trans ?_ (wts m c t 1 j)
  generalize iblk m c 3 t = X
  pointwise []

/-- The rows of tap 2. -/
abbrev rec2 : Rect S16x16x1536 := Rect.unit ![0, 7, 0] ![16, 8, 1536] inb_S16x16x1536_S16x8x1536_0_7_0
def tap2 : Vec Ideal S16x8x1536 .f32 := (View.whole cc0_scratch0).readCov (pcs (iblk m c 0 t) (iblk m c 2 t)) rec2.toLoadRect
theorem tap2_eq (a : Fin 16) (s : Fin 8) (j : Fin 1536) : tap2 m c t (ix3 a s j) = tap (aP m c) (aC m c) (seq t a) ⟨2 + s.val, by omega⟩ j := by
  rw [tap2, View.readCov_eq_canon']
  refine Eq.trans (congrArg (View.canon _) ?_) (scratch m c t a ⟨2 + s.val, by omega⟩ j)
  refine funext fun x => Fin.ext ((Rect.idx_unit_val _ _ _ _ x).trans ?_)
  fin_cases x
  · exact Nat.zero_add _
  · change 7 + s.val = 5 + (2 + s.val); omega
  · exact Nat.zero_add _
def wrow2 : Vec Ideal S1x1536 .f32 := View.ld (iblk m c 3 t) (Rect.unit ![2, 0] ![1, 1536] inb_S4x1536_S1x1536_2_0)
theorem wrow2_eq (j : Fin 1536) : wrow2 m c t (ix2 0 j) = aW m c (ix2 2 j) := by
  rw [wrow2, View.ld_unit]
  refine Eq.trans ?_ (wts m c t 2 j)
  generalize iblk m c 3 t = X
  pointwise []

/-- The rows of tap 3. -/
abbrev rec3 : Rect S16x16x1536 := Rect.unit ![0, 8, 0] ![16, 8, 1536] inb_S16x16x1536_S16x8x1536_0_8_0
def tap3 : Vec Ideal S16x8x1536 .f32 := (View.whole cc0_scratch0).readCov (pcs (iblk m c 0 t) (iblk m c 2 t)) rec3.toLoadRect
theorem tap3_eq (a : Fin 16) (s : Fin 8) (j : Fin 1536) : tap3 m c t (ix3 a s j) = tap (aP m c) (aC m c) (seq t a) ⟨3 + s.val, by omega⟩ j := by
  rw [tap3, View.readCov_eq_canon']
  refine Eq.trans (congrArg (View.canon _) ?_) (scratch m c t a ⟨3 + s.val, by omega⟩ j)
  refine funext fun x => Fin.ext ((Rect.idx_unit_val _ _ _ _ x).trans ?_)
  fin_cases x
  · exact Nat.zero_add _
  · change 8 + s.val = 5 + (3 + s.val); omega
  · exact Nat.zero_add _
def wrow3 : Vec Ideal S1x1536 .f32 := View.ld (iblk m c 3 t) (Rect.unit ![3, 0] ![1, 1536] inb_S4x1536_S1x1536_3_0)
theorem wrow3_eq (j : Fin 1536) : wrow3 m c t (ix2 0 j) = aW m c (ix2 3 j) := by
  rw [wrow3, View.ld_unit]
  refine Eq.trans ?_ (wts m c t 3 j)
  generalize iblk m c 3 t = X
  pointwise []

/-- The rows kept for later. -/
abbrev recT : Rect S16x16x1536 := Rect.unit ![0, 13, 0] ![16, 3, 1536] inb_S16x16x1536_S16x3x1536_0_13_0
def keep : Vec Ideal S16x3x1536 .f32 := (View.whole cc0_scratch0).readCov (pcs (iblk m c 0 t) (iblk m c 2 t)) recT.toLoadRect
theorem keep_eq (a : Fin 16) (i : Fin 3) (j : Fin 1536) : keep m c t (ix3 a i j) = tap (aP m c) (aC m c) (seq t a) ⟨8 + i.val, by omega⟩ j := by
  rw [keep, View.readCov_eq_canon']
  refine Eq.trans (congrArg (View.canon _) ?_) (scratch m c t a ⟨8 + i.val, by omega⟩ j)
  refine funext fun x => Fin.ext ((Rect.idx_unit_val _ _ _ _ x).trans ?_)
  fin_cases x
  · exact Nat.zero_add _
  · change 13 + i.val = 5 + (8 + i.val); omega
  · exact Nat.zero_add _

/-- The block after the short convolution. -/
def actb : FVec Ideal S16x8x1536 .f32 := k0_pay15 (k0_pay13 (tap0 m c t) (wrow0 m c t) (tap1 m c t) (wrow1 m c t)) (tap2 m c t) (wrow2 m c t) (tap3 m c t) (wrow3 m c t)
theorem act_eq (a : Fin 16) (s : Fin 8) (j : Fin 1536) : actb m c t (ix3 a s j) = act (aP m c) (aC m c) (aW m c) (seq t a) s j := by
  refine conv15 _ _ _ _ _ _ _ _ a s j ?_
  rw [tap0_eq, tap1_eq, tap2_eq, tap3_eq, wrow0_eq, wrow1_eq, wrow2_eq, wrow3_eq, conv]
  exact congrArg (fun x => tap (aP m c) (aC m c) (seq t a) x j * aW m c (ix2 0 j) + _ + _ + _) (Fin.ext (by simp))

/-- The columns of the two gates' inputs. -/
def smal : Vec Ideal S128x128 .f32 := View.ld (iblk m c 0 t) (Rect.unit ![0, 2048] ![128, 128] inb_S128x2176_S128x128_0_2048)
theorem smal_eq (r : Fin 128) (k : Fin 128) (hk : k.val < 8) : smal m c t (ix2 r k) = aP m c (ix2 ⟨16384 + (128 * t.val + r.val), by have := t.isLt; change t.val < 8 at this; omega⟩ ⟨2048 + k.val, by omega⟩) := by
  rw [smal, View.ld_unit]
  refine Eq.trans ?_ (gin m c t r k hk)
  generalize iblk m c 0 t = X
  pointwise []

def betab : FVec Ideal S16x8x128 .f32 := k0_pay17 (smal m c t)
theorem betab_eq (a : Fin 16) (s : Fin 8) (h : Fin 4) : betab m c t (ix3 a s ⟨h.val, by omega⟩) = beta (aP m c) (seq t a) s h := by
  rw [betab, beta17, smal_eq _ _ _ _ _ (by simp; omega), beta]
  exact congrArg (fun x => Ideal.div 1 (1 + Ideal.exp (-aP m c (ix2 x _)))) (Fin.ext (by simp [seq]; omega))

def gateb : FVec Ideal S16x8x128 .f32 := k0_pay22 (k0_pay18 (iblk m c 4 t)) (k0_pay20 (smal m c t) (iblk m c 5 t)) (k0_pay21 (smal m c t) (iblk m c 5 t)) (Scalar.ofBits .f32 0x00000000#32)
theorem gateb_eq (a : Fin 16) (s : Fin 8) (h : Fin 4) : gateb m c t (ix3 a s ⟨4 + h.val, by omega⟩) = gat (aP m c) (aA m c) (aD m c) (seq t a) h s := by
  have e : smal m c t (ix2 ⟨a.val * 8 + s.val, by omega⟩ ⟨4 + h.val, by omega⟩) + iblk m c 5 t (ix2 0 ⟨4 + h.val, by omega⟩) = pre (aP m c) (aD m c) (seq t a) s h := by
    rw [smal_eq _ _ _ _ _ (by simp; omega), dtb, pre]
    exact congrArg (· + _) (congrArg (aP m c) (congrArg₂ ix2 (Fin.ext (by simp [seq]; omega)) (Fin.ext (by simp; omega))))
  rw [gateb, gate22, e, alog]
  rfl

def runb : FVec Ideal S16x8x128 .f32 := k0_pay23 k0_pay10 (k0_pay18 (iblk m c 4 t)) (k0_pay20 (smal m c t) (iblk m c 5 t)) (k0_pay21 (smal m c t) (iblk m c 5 t)) (Scalar.ofBits .f32 0x00000000#32)
theorem runb_eq (a : Fin 16) (s : Fin 8) (h : Fin 4) : runb m c t (ix3 a s ⟨4 + h.val, by omega⟩) = run (gat (aP m c) (aA m c) (aD m c) (seq t a) h) s := by
  rw [runb, running]
  exact congrArg (fun f => run f s) (funext fun i => gateb_eq m c t a i h)

/-- The columns of the output's gate. -/
def zcol : Vec Ideal S128x512 .f32 := View.ld (iblk m c 0 t) (Rect.unit ![0, 1536] ![128, 512] inb_S128x2176_S128x512_0_1536)
theorem zcol_eq (r : Fin 128) (k : Fin 512) : zcol m c t (ix2 r k) = aP m c (ix2 ⟨16384 + (128 * t.val + r.val), by have := t.isLt; change t.val < 8 at this; omega⟩ ⟨1536 + k.val, by omega⟩) := by
  rw [zcol, View.ld_unit]
  refine Eq.trans ?_ (proj m c t r ⟨1536 + k.val, by omega⟩ (by simp; omega))
  generalize iblk m c 0 t = X
  pointwise []

end

section
variable (P : S17408x2056.Idx → EReal) (S : S128x4x128x128.Idx → EReal) (C : S128x3x1536.Idx → EReal) (W : S4x1536.Idx → EReal)
  (A : S4.Idx → EReal) (D : S4.Idx → EReal)
  (hV : ∀ (n : Fin 128) (s : Fin 8) (h : Fin 4) (e : Fin 128), IsReal (act P C W n s ⟨1024 + (h.val * 128 + e.val), valLt h e⟩))
  (X : FVec Ideal S16x8x1536 .f32) (B G R : FVec Ideal S16x8x128 .f32) (Sb : Vec Ideal S16x4x128x128 .f32) (n : Fin 16 → Fin 128)
  (hX : ∀ a s j, X (ix3 a s j) = act P C W (n a) s j)
  (hB : ∀ a s (h : Fin 4), B (ix3 a s ⟨h.val, by omega⟩) = beta P (n a) s h)
  (hG : ∀ a s (h : Fin 4), G (ix3 a s ⟨4 + h.val, by omega⟩) = gat P A D (n a) h s)
  (hR : ∀ a s (h : Fin 4), R (ix3 a s ⟨4 + h.val, by omega⟩) = run (gat P A D (n a) h) s)
  (hS : ∀ a h d e, Sb (ix4 a h d e) = S (ix4 (n a) h d e))

include hV hX hB hG hR hS

/-- The state the block leaves, by the sequence and the head. -/
theorem stateOf (a : Fin 16) (h : Fin 4) (g : Fin 64) (hg : g.val = a.val * 4 + h.val) (d e : Fin 128) :
    k0_pay50 (kK X) (k0_pay30 R) (kU X B G R) (kW X B G R) Sb (ix4 a h d e) = sta P S C W A D (n a) h d e := by
  obtain rfl : a = ⟨g.val / 4, Nat.div_lt_of_lt_mul g.isLt⟩ := Fin.ext (by simp; omega)
  obtain rfl : h = ⟨g.val % 4, Nat.mod_lt _ (by decide)⟩ := Fin.ext (by simp at hg ⊢; omega)
  exact sta_eq P S C W A D hV X B G R Sb (n ⟨g.val / 4, by omega⟩) g ⟨g.val % 4, by omega⟩ (hX _) (fun s => hB _ s ⟨g.val % 4, by omega⟩)
    (fun s => hG _ s ⟨g.val % 4, by omega⟩) (fun s => hR _ s ⟨g.val % 4, by omega⟩) (hS _ _) rfl d e

/-- The output of the block, by the sequence, the head and the step. -/
theorem outOf (Nb : Vec Ideal S1x128 .f32) (N : S128.Idx → EReal) (Z : FVec Ideal S64x8x128 .f32) (hN : ∀ e, Nb (ix2 0 e) = N (ix1 e))
    (a : Fin 16) (h : Fin 4) (g : Fin 64) (hg : g.val = a.val * 4 + h.val) (s : Fin 8) (e : Fin 128)
    (hZ : Z (ix3 g s e) = P (ix2 ⟨16384 + ((n a).val * 8 + s.val), by omega⟩ ⟨1536 + (h.val * 128 + e.val), by omega⟩)) :
    outk (k0_pay49 (k0_pay26 X) (kK X) (kD G R) (k0_pay42 (k0_pay30 R)) (kU X B G R) (kW X B G R) Sb) Z (k0_pay52 Nb)
      (k0_pay53 (k0_pay26 X) (kK X) (kD G R) (k0_pay42 (k0_pay30 R)) (kU X B G R) (kW X B G R) Sb) g s e = outv P S C W A D N (n a) h s e := by
  obtain rfl : a = ⟨g.val / 4, Nat.div_lt_of_lt_mul g.isLt⟩ := Fin.ext (by simp; omega)
  obtain rfl : h = ⟨g.val % 4, Nat.mod_lt _ (by decide)⟩ := Fin.ext (by simp at hg ⊢; omega)
  exact outk_eq P S C W A D hV X B G R Sb (n ⟨g.val / 4, by omega⟩) g ⟨g.val % 4, by omega⟩ (hX _) (fun s => hB _ s ⟨g.val % 4, by omega⟩)
    (fun s => hG _ s ⟨g.val % 4, by omega⟩) (fun s => hR _ s ⟨g.val % 4, by omega⟩) (hS _ _) rfl Nb N Z hN s e hZ

end

/-- The reference's output at a row and a column. -/
theorem ref_at (P : S17408x2056.Idx → EReal) (S : S128x4x128x128.Idx → EReal) (C : S128x3x1536.Idx → EReal) (W : S4x1536.Idx → EReal)
    (A : S4.Idx → EReal) (D : S4.Idx → EReal) (N : S128.Idx → EReal) (n : Fin 128) (h : Fin 4) (s : Fin 8) (e : Fin 128) (x : Fin 1024) (y : Fin 512)
    (hx : x.val = n.val * 8 + s.val) (hy : y.val = h.val * 128 + e.val) :
    Cert.GdnRefIdeal.Read.val_main_v343 (F := Ideal) P S C W A D N (ix2 x y) = outv P S C W A D N n h s e := by
  rw [ref_out]
  have e1 : (⟨x.val / 8, by omega⟩ : Fin 128) = n := Fin.ext (by simp; omega)
  have e2 : (⟨y.val / 128, by omega⟩ : Fin 4) = h := Fin.ext (by simp; omega)
  have e3 : (⟨x.val % 8, by omega⟩ : Fin 8) = s := Fin.ext (by simp; omega)
  have e4 : (⟨y.val % 128, by omega⟩ : Fin 128) = e := Fin.ext (by simp; omega)
  exact congr (congr (congrArg₂ (outv P S C W A D N) e1 e2) e3) e4

section
variable (c : Dev nD) (t : Fin cfg0.N)

/-- The output rows of the block before the norm. -/
def rowb : FVec Ideal S64x8x128 .f32 := k0_pay49 (k0_pay26 (actb m c t)) (kK (actb m c t)) (kD (gateb m c t) (runb m c t)) (k0_pay42 (k0_pay30 (runb m c t)))
  (kU (actb m c t) (betab m c t) (gateb m c t) (runb m c t)) (kW (actb m c t) (betab m c t) (gateb m c t) (runb m c t)) (iblk m c 1 t)
/-- Their sums of squares. -/
def sumb : FVec Ideal S64x8x1 .f32 := k0_pay53 (k0_pay26 (actb m c t)) (kK (actb m c t)) (kD (gateb m c t) (runb m c t)) (k0_pay42 (k0_pay30 (runb m c t)))
  (kU (actb m c t) (betab m c t) (gateb m c t) (runb m c t)) (kW (actb m c t) (betab m c t) (gateb m c t) (runb m c t)) (iblk m c 1 t)
/-- The state the block leaves. -/
def stab : FVec Ideal S16x4x128x128 .f32 := k0_pay50 (kK (actb m c t)) (k0_pay30 (runb m c t)) (kU (actb m c t) (betab m c t) (gateb m c t) (runb m c t))
  (kW (actb m c t) (betab m c t) (gateb m c t) (runb m c t)) (iblk m c 1 t)
/-- The gate of the output. -/
def zetb : FVec Ideal S64x8x128 .f32 := k0_pay51 (zcol m c t)

variable (hV : ∀ (n : Fin 128) (s : Fin 8) (h : Fin 4) (e : Fin 128), IsReal (act (aP m c) (aC m c) (aW m c) n s ⟨1024 + (h.val * 128 + e.val), valLt h e⟩))
include hV

theorem stab_eq (a : Fin 16) (h : Fin 4) (d e : Fin 128) : stab m c t (ix4 a h d e) = sta (aP m c) (aS m c) (aC m c) (aW m c) (aA m c) (aD m c) (seq t a) h d e := by
  rw [stab]
  exact stateOf (aP m c) (aS m c) (aC m c) (aW m c) (aA m c) (aD m c) hV _ _ _ _ _ (seq t) (act_eq m c t) (betab_eq m c t) (gateb_eq m c t) (runb_eq m c t) (st0 m c t) a h ⟨a.val * 4 + h.val, by omega⟩ rfl d e

omit hV in
theorem zetb_eq (a : Fin 16) (p : Fin 4) (g : Fin 64) (hg : g.val = a.val * 4 + p.val) (s : Fin 8) (e : Fin 128) :
    zetb m c t (ix3 g s e) = aP m c (ix2 ⟨16384 + ((seq t a).val * 8 + s.val), by omega⟩ ⟨1536 + (p.val * 128 + e.val), by omega⟩) := by
  rw [zetb, head51, zcol_eq]
  exact congrArg (aP m c) (congrArg₂ ix2 (Fin.ext (by simp [seq]; omega)) (Fin.ext (by simp; omega)))

theorem outb_eq (a : Fin 16) (p : Fin 4) (g : Fin 64) (hg : g.val = a.val * 4 + p.val) (s : Fin 8) (e : Fin 128) :
    outk (rowb m c t) (zetb m c t) (k0_pay52 (iblk m c 6 t)) (sumb m c t) g s e
      = outv (aP m c) (aS m c) (aC m c) (aW m c) (aA m c) (aD m c) (aG m c) (seq t a) p s e := by
  rw [rowb, sumb]
  exact outOf (aP m c) (aS m c) (aC m c) (aW m c) (aA m c) (aD m c) hV _ _ _ _ _ (seq t) (act_eq m c t) (betab_eq m c t) (gateb_eq m c t) (runb_eq m c t) (st0 m c t)
    _ (aG m c) _ (norm m c t) a p g hg s e (zetb_eq m c t a p g hg s e)

theorem part (p : Fin 4) (r l : Fin 128) (x : Fin 1024) (y : Fin 512) (hx : x.val = 128 * t.val + r.val) (hy : y.val = p.val * 128 + l.val) :
    outk (rowb m c t) (zetb m c t) (k0_pay52 (iblk m c 6 t)) (sumb m c t) ⟨r.val / 8 * 4 + p.val, by omega⟩ ⟨r.val % 8, by omega⟩ l
    = Cert.GdnRefIdeal.Read.val_main_v343 (F := Ideal) (aP m c) (aS m c) (aC m c) (aW m c) (aA m c) (aD m c) (aG m c) (ix2 x y) :=
  (outb_eq m c t hV ⟨r.val / 8, by omega⟩ p _ rfl _ l).trans
    (ref_at _ _ _ _ _ _ _ (seq t ⟨r.val / 8, by omega⟩) p _ l x y (by simp [seq]; omega) hy).symm

end

theorem ext3 {f g : S16x3x1536.Idx → EReal} (h : ∀ a i j, f (ix3 a i j) = g (ix3 a i j)) : ∀ x : S16x3x1536.Idx, f x = g x := by
  intro x
  idx_vars x
  exact h _ _ _

theorem ext4 {f g : S16x4x128x128.Idx → EReal} (h : ∀ a i j k, f (ix4 a i j k) = g (ix4 a i j k)) : ∀ x : S16x4x128x128.Idx, f x = g x := by
  intro x
  idx_vars x
  exact h _ _ _ _

theorem final9 (c : Dev nD) : (dats m 0 c).arrAt 9 cfg0.N = Cert.GdnRefIdeal.Read.val_main_v34 (F := Ideal) (aP m c) (aC m c) := by
  refine (dats m 0 c).arrAt_eq_of_covers 9 _ (by decide +kernel) fun t _ y => ?_
  blk_simp
  rw [after0_9]
  unfold outsAt0
  frame_out
  refine ext3 (f := keep m c t) (g := fun y => Cert.GdnRefIdeal.Read.val_main_v34 (F := Ideal) (aP m c) (aC m c) (((cfg0.win 9).blk t).view.emb y)) (fun a i j => ?_) y
  rw [keep_eq, ← ref_keep]
  refine congrArg (Cert.GdnRefIdeal.Read.val_main_v34 (F := Ideal) (aP m c) (aC m c)) ?_
  blk_ext! [idx t, seq]

theorem final8 (hfin : Cert.Pre_GdnIdeal_gdn_finite m) (c : Dev nD) : (dats m 0 c).arrAt 8 cfg0.N = Cert.GdnRefIdeal.Read.val_main_v326 (F := Ideal) (aP m c) (aS m c) (aC m c) (aW m c) (aA m c) (aD m c) := by
  have hV := value_real m hfin c
  refine (dats m 0 c).arrAt_eq_of_covers 8 _ (by decide +kernel) fun t _ y => ?_
  blk_simp
  rw [after0_8]
  unfold outsAt0
  frame_out
  generalize hX : k0_pay15 (F := Ideal) _ _ _ _ _ = X
  generalize hB : k0_pay17 (F := Ideal) _ = B
  generalize hG : k0_pay22 (F := Ideal) _ _ _ _ = G
  generalize hR : k0_pay23 (F := Ideal) _ _ _ _ _ = R
  obtain rfl : actb m c t = X := hX
  obtain rfl : betab m c t = B := hB
  obtain rfl : gateb m c t = G := hG
  obtain rfl : runb m c t = R := hR
  refine ext4 (f := stab m c t)
    (g := fun y => Cert.GdnRefIdeal.Read.val_main_v326 (F := Ideal) (aP m c) (aS m c) (aC m c) (aW m c) (aA m c) (aD m c) (((cfg0.win 8).blk t).view.emb y)) (fun a h d e => ?_) y
  rw [stab_eq m c t hV, ← ref_sta]
  refine congrArg (Cert.GdnRefIdeal.Read.val_main_v326 (F := Ideal) (aP m c) (aS m c) (aC m c) (aW m c) (aA m c) (aD m c)) ?_
  blk_ext! [idx t, seq]

theorem ext2 {f g : S128x128.Idx → EReal} (h : ∀ i e : Fin 128, f (ix2 i e) = g (ix2 i e)) : ∀ x : S128x128.Idx, f x = g x := by
  intro x
  idx_vars x
  exact h _ _

theorem final7 (hfin : Cert.Pre_GdnIdeal_gdn_finite m) (c : Dev nD) : (dats m 0 c).arrAt 7 cfg0.N = Cert.GdnRefIdeal.Read.val_main_v343 (F := Ideal) (aP m c) (aS m c) (aC m c) (aW m c) (aA m c) (aD m c) (aG m c) := by
  have hV := value_real m hfin c
  refine (dats m 0 c).arrAt_eq_of_covers 7 _ (by decide +kernel) fun t _ y => ?_
  blk_simp
  rw [after0_7]
  unfold outsAt0
  frame_out
  refine View.canon_apply_of_pieces (fun y => Cert.GdnRefIdeal.Read.val_main_v343 (F := Ideal) (aP m c) (aS m c) (aC m c) (aW m c) (aA m c) (aD m c) (aG m c) (((cfg0.win 7).blk t).view.emb y)) _ ?_ y ?_
  swap
  · exact View.cover_of_tiledL (s := S128x512) _ ![128, 128] (by sl_kernel_rfl) y
  generalize hX : k0_pay15 (F := Ideal) _ _ _ _ _ = X
  generalize hB : k0_pay17 (F := Ideal) _ = B
  generalize hG : k0_pay22 (F := Ideal) _ _ _ _ = G
  generalize hR : k0_pay23 (F := Ideal) _ _ _ _ _ = R
  generalize hZ : k0_pay51 (F := Ideal) _ = Z
  obtain rfl : actb m c t = X := hX
  obtain rfl : betab m c t = B := hB
  obtain rfl : gateb m c t = G := hG
  obtain rfl : runb m c t = R := hR
  obtain rfl : zetb m c t = Z := hZ
  simp only [List.forall_mem_cons, List.forall_mem_nil, List.not_mem_nil, IsEmpty.forall_iff, implies_true, and_true]
  have final (p : Fin 4) (i e : Fin 128) := part m c t hV p i e ⟨128 * t.val + i.val, by have := t.isLt; change t.val < 8 at this; omega⟩ ⟨p.val * 128 + e.val, by omega⟩ rfl rfl
  refine ⟨ext2 fun i e => (out5 (rowb m c t) _ _ (sumb m c t) i e).trans ((final 3 i e).trans (congrArg (Cert.GdnRefIdeal.Read.val_main_v343 (F := Ideal) (aP m c) (aS m c) (aC m c) (aW m c) (aA m c) (aD m c) (aG m c)) ?_)),
    ext2 fun i e => (out4 (rowb m c t) _ _ (sumb m c t) i e).trans ((final 2 i e).trans (congrArg (Cert.GdnRefIdeal.Read.val_main_v343 (F := Ideal) (aP m c) (aS m c) (aC m c) (aW m c) (aA m c) (aD m c) (aG m c)) ?_)),
    ext2 fun i e => (out3 (rowb m c t) _ _ (sumb m c t) i e).trans ((final 1 i e).trans (congrArg (Cert.GdnRefIdeal.Read.val_main_v343 (F := Ideal) (aP m c) (aS m c) (aC m c) (aW m c) (aA m c) (aD m c) (aG m c)) ?_)),
    ext2 fun i e => (out2 (rowb m c t) _ _ (sumb m c t) i e).trans ((final 0 i e).trans (congrArg (Cert.GdnRefIdeal.Read.val_main_v343 (F := Ideal) (aP m c) (aS m c) (aC m c) (aW m c) (aA m c) (aD m c) (aG m c)) ?_))⟩
  all_goals blk_ext! [idx t]

end Cert.GdnIdeal.Hand
-- ==== Proof.InProj.lean ====
/-
  The input projection: what the kernel's two result arrays hold is the reference's normalised rows times the
  weight columns, padded with zero columns.
-/
module

public import proofs.«01_k».proof.Proof.Gen.InProjIdeal.Value
public import proofs.«01_k».proof.Proof.Gen.InProjRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InProjIdeal.Hand

open Cert.InProjIdeal Cert.InProjIdeal.Gen
open Cert.InProjRefIdeal.Read

variable (m : (ℓ : Loc nD τ sig) → Buf (Elt Ideal) ℓ)

/-- The block indices of the windows at every grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- The four pieces of the weight array, side by side. -/
def joined (a : FVec Ideal S1024x1536 .f32) (b : FVec Ideal S1024x128 .f32) (d : FVec Ideal S1024x2048 .f32)
    (e : FVec Ideal S1024x128 .f32) : FVec Ideal S1024x3840 .bf16 :=
  truncf .bf16 (concatenate S1024x3840 1 [⟨S1024x1536, a⟩, ⟨S1024x128, b⟩, ⟨S1024x2048, d⟩, ⟨S1024x128, e⟩]
    concatenates_S1024x1536_S1024x128_S1024x2048_S1024x128_S1024x3840_d1) bitsLt_bf16_f32

/-- A run of zeros appended to the first narrow piece. -/
def narrow1 (w : FVec Ideal S1024x3608 .f32) : FVec Ideal S1024x128 .f32 :=
  pad S1024x128 ![0, 0] ![0, 112] ![0, 0] (extractStridedSlice S1024x16 ![0, 1536] w slices_S1024x3608_S1024x16_0_1536)
    (sitofp .f32 (constantI S_ 32 0#32)) pads_S1024x16_S1024x128_000_01120 h_S_

/-- A run of zeros appended to the second narrow piece. -/
def narrow2 (w : FVec Ideal S1024x3608 .f32) : FVec Ideal S1024x128 .f32 :=
  pad S1024x128 ![0, 0] ![0, 120] ![0, 0] (extractStridedSlice S1024x8 ![0, 3600] w slices_S1024x3608_S1024x8_0_3600)
    (sitofp .f32 (constantI S_ 32 0#32)) pads_S1024x8_S1024x128_000_01200 h_S_

/-- The host's weight array as a function of the weights given. -/
def laid (w : FVec Ideal S1024x3608 .f32) : FVec Ideal S1024x3840 .bf16 :=
  joined (extractStridedSlice S1024x1536 ![0, 0] w slices_S1024x3608_S1024x1536_0_0) (narrow1 w)
    (extractStridedSlice S1024x2048 ![0, 1552] w slices_S1024x3608_S1024x2048_0_1552) (narrow2 w)

theorem joined_congr {a a' b b' d d' e e'} (ha : a = a') (hb : b = b') (hd : d = d') (he : e = e') :
    joined a b d e = joined a' b' d' e' := by subst ha hb hd he; rfl

/-- The last two host operations that make the weight array, over any memory before them. -/
theorem last_two (F : Valuation τ sig (Elt Ideal)) :
    StableHlo.after hostOps0_4 F (Proc.tc.devRef main_v7)
    = joined (F (Proc.tc.devRef main_v0)) (F (Proc.tc.devRef main_v2)) (F (Proc.tc.devRef main_v3)) (F (Proc.tc.devRef main_v5)) := by
  simp only [hostOps0_4]
  after_results
  rfl

/-- The weight array the region reads, as the host operations before it compose it. -/
theorem weights (c : Dev nD) : V m c main_v7 = laid (m ((c : Thread nD τ).loc main_arg2)) := by
  simp only [V, List.flatten_cons, List.flatten_nil, List.append_nil, List.cons_append, List.nil_append, StableHlo.after_append]
  refine (last_two _).trans (joined_congr ?_ ?_ ?_ ?_) <;>
  simp only [hostOps0, hostOps0_1, hostOps0_2, hostOps0_3, StableHlo.TRef.binary, StableHlo.TRef.unary, StableHlo.TRef.toBuf, StableHlo.TRef.ofBuf, cast_eq] <;> after_results_simp <;> rfl

/-- The laid out weights entry by entry. -/
theorem laid_apply (w : FVec Ideal S1024x3608 .f32) (x : Fin 1024) (l : Fin 3840) : laid w (ix2 x l)
    = if h : l.val < 1552 then w (ix2 x ⟨l.val, by omega⟩)
      else if l.val < 1664 then (0 : EReal)
      else if h : l.val < 3720 then w (ix2 x ⟨l.val - 112, by omega⟩)
      else (0 : EReal) := by
  pointwise [laid, joined, narrow1, narrow2]
  have z : (FloatOps.sitofp (F := Ideal) FTy.f32 (0#32) : EReal) = 0 := by simp [FloatOps.sitofp]
  simp only [z]
  repeat' split
  all_goals first | rfl | omega | (congr 3; omega)

theorem laid_first (w : FVec Ideal S1024x3608 .f32) (x : Fin 1024) (k : Nat) (h : k < 1552) {p q} :
    laid w (ix2 x ⟨k, p⟩) = w (ix2 x ⟨k, q⟩) := by
  rw [laid_apply, dif_pos h]

theorem laid_zero1 (w : FVec Ideal S1024x3608 .f32) (x : Fin 1024) (k : Nat) (h : ¬ k < 1552) (h' : k < 1664) {p} :
    laid w (ix2 x ⟨k, p⟩) = (0 : EReal) := by
  rw [laid_apply, dif_neg h, if_pos h']

theorem laid_second (w : FVec Ideal S1024x3608 .f32) (x : Fin 1024) (k : Nat) (h : k < 2056) {p q} :
    laid w (ix2 x ⟨1664 + k, p⟩) = w (ix2 x ⟨1552 + k, q⟩) := by
  rw [laid_apply, dif_neg (by simp only; omega), if_neg (by simp only; omega), dif_pos (by simp only; omega)]
  congr 3; simp only; omega

theorem laid_zero2 (w : FVec Ideal S1024x3608 .f32) (x : Fin 1024) (k : Nat) (h : ¬ k < 2056) (h' : k < 2176) {p} :
    laid w (ix2 x ⟨1664 + k, p⟩) = (0 : EReal) := by
  rw [laid_apply, dif_neg (by simp only; omega), if_neg (by simp only; omega), dif_neg (by simp only; omega)]

/-- The gain row the region reads is the gain vector. -/
theorem gains (c : Dev nD) (x : Fin 1024) : (show FVec Ideal S1x1024 .f32 from V m c main_v8) (ix2 0 x)
    = (show FVec Ideal S1024 .f32 from m ((c : Thread nD τ).loc main_arg1)) (ix1 x) := by
  have h : V m c main_v8 = (broadcastInDim S1x1024 ![1] bcast_S1024_S1x1024_1 (m ((c : Thread nD τ).loc main_arg1)) : FVec Ideal S1x1024 .f32) := by
    simp only [V, List.flatten_cons, List.flatten_nil, List.append_nil, List.cons_append, List.nil_append, StableHlo.after_append]
    simp only [hostOps0, hostOps0_1, hostOps0_2, hostOps0_3, hostOps0_4, StableHlo.TRef.binary, StableHlo.TRef.unary, StableHlo.TRef.toBuf, StableHlo.TRef.ofBuf, cast_eq]
    after_results_simp
  rw [h]
  pointwise

theorem at1 (t : Fin cfg0.N) (x : Fin 1024) : (win0_1.blk t).view.emb (ix2 0 x) = ix2 0 x := by
  blk_ext! [idx t]

theorem at2 (t : Fin cfg0.N) (x : Fin 1024) (l : Fin 3840) : (win0_2.blk t).view.emb (ix2 x l) = ix2 x l := by
  blk_ext! [idx t]

/-- What one block of result 0 holds. -/
theorem point3 (c : Dev nD) (t : Fin cfg0.N) (y) :
    k0_pay2 (iblk m c 0 t) (iblk m c 1 t) (View.ld (iblk m c 2 t) r0_2) y
    = val_main_v15 (F := Ideal) (m ((c : Thread nD τ).loc main_arg0)) (m ((c : Thread nD τ).loc main_arg1)) (m ((c : Thread nD τ).loc main_arg2)) (((cfg0.win 3).blk t).view.emb y) := by
  pointwise [val_main_v15, val_main_v17, val_main_v16, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_call0_v0, val_main_c, val_main_c_2, val_main_call1_v0, dot_S256x1024_S1024x1664_S256x1664_1_0_0_1_n_n, dot_S256x1024_S1024x2176_S256x2176_1_0_0_1_n_n, k0_pay1, k0_pay2]
  blk_simp [iblk, idx t]
  split
  next h =>
    refine Finset.sum_congr rfl fun x _ => congrArg₂ (· * ·) ?_ ?_
    · blk_point [iblk, V, idx t]
      exact (congrArg (V m c main_v8) (at1 t x)).trans (gains m c x)
    · rw [weights]
      exact (congrArg (laid _) (at2 t x _)).trans (laid_first _ x _ h)
  next h =>
    have z : (FloatOps.sitofp (F := Ideal) FTy.f32 (0#32) : EReal) = 0 := by simp [FloatOps.sitofp]
    refine (Finset.sum_eq_zero fun x _ => ?_).trans z.symm
    rw [weights]
    exact (congrArg (_ * ·) ((congrArg (laid _) (at2 t x _)).trans (laid_zero1 _ x _ h (y 1).isLt))).trans (mul_zero _)

/-- What the whole of result 0 holds. -/
theorem final3 (c : Dev nD) : (dats m 0 c).arrAt 3 cfg0.N = val_main_v15 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point3 m c t y

/-- What one block of result 1 holds. -/
theorem point4 (c : Dev nD) (t : Fin cfg0.N) (y) :
    k0_pay3 (iblk m c 0 t) (iblk m c 1 t) (View.ld (iblk m c 2 t) r0_4) y
    = val_main_v17 (F := Ideal) (m ((c : Thread nD τ).loc main_arg0)) (m ((c : Thread nD τ).loc main_arg1)) (m ((c : Thread nD τ).loc main_arg2)) (((cfg0.win 4).blk t).view.emb y) := by
  pointwise [val_main_v15, val_main_v17, val_main_v16, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_call0_v0, val_main_c, val_main_c_2, val_main_call1_v0, dot_S256x1024_S1024x1664_S256x1664_1_0_0_1_n_n, dot_S256x1024_S1024x2176_S256x2176_1_0_0_1_n_n, k0_pay1, k0_pay3]
  blk_simp [iblk, idx t]
  split
  next h =>
    refine Finset.sum_congr rfl fun x _ => congrArg₂ (· * ·) ?_ ?_
    · blk_point [iblk, V, idx t]
      exact (congrArg (V m c main_v8) (at1 t x)).trans (gains m c x)
    · rw [weights]
      exact (congrArg (laid _) (at2 t x _)).trans (laid_second _ x _ h)
  next h =>
    have z : (FloatOps.sitofp (F := Ideal) FTy.f32 (0#32) : EReal) = 0 := by simp [FloatOps.sitofp]
    refine (Finset.sum_eq_zero fun x _ => ?_).trans z.symm
    rw [weights]
    exact (congrArg (_ * ·) ((congrArg (laid _) (at2 t x _)).trans (laid_zero2 _ x _ h (y 1).isLt))).trans (mul_zero _)

/-- What the whole of result 1 holds. -/
theorem final4 (c : Dev nD) : (dats m 0 c).arrAt 4 cfg0.N = val_main_v17 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point4 m c t y

end Cert.InProjIdeal.Hand
-- ==== Proof.Mid.lean ====
/-
  The output projection with its residual, the norm, the router's queries and their scores: what the kernel's three
  result arrays hold, block by block and whole.
-/
module

public import proofs.«01_k».proof.Proof.Gen.MidIdeal.Value
public import proofs.«01_k».proof.Proof.Gen.MidRefIdeal.Read
public import Idealize.ShloMosaic.Lib.Pipeline.ValueKit
public import proofs.«01_k».proof.Proof.Real
public import proofs.«01_k».proof.Defs
public import proofs.«01_k».proof.Proof.Gen.Pre_mid_finite

@[expose] public section

set_option maxRecDepth 16384

noncomputable section

open Idealize.ShloMosaic Idealize.ShloMosaic.TcCoe Idealize.SL.Sem
open Idealize.ShloMosaic.Pipeline (Dat)

namespace Cert.MidIdeal.Hand

open Cert.MidIdeal Cert.MidIdeal.Gen
open Cert.MidRefIdeal.Read
open Cert.Finite

variable (m : (ℓ : Loc nD τ sig) → Buf (Elt Ideal) ℓ)

/-- The block indices of the windows at every grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0, 0] ∧ win0_8.index t = ![t.val, 0] ∧ win0_9.index t = ![t.val, 0] ∧ win0_10.index t = ![0, 0, t.val] :=
  (by decide +kernel : ∀ t : Fin grid0.N, _)

/-- One block of the residual stream after the mixers. -/
theorem point8 (c : Dev nD) (t : Fin cfg0.N) (y) :
    k0_pay3 (iblk m c 0 t) (iblk m c 1 t) (View.ld (iblk m c 3 t) r0_2) (iblk m c 2 t) (View.ld (iblk m c 3 t) r0_3) y
    = val_main_v2 (F := Ideal) (m ((c : Thread nD τ).loc main_arg0)) (m ((c : Thread nD τ).loc main_arg1)) (m ((c : Thread nD τ).loc main_arg2)) (m ((c : Thread nD τ).loc main_arg3)) (((cfg0.win 8).blk t).view.emb y) := by
  pointwise [k0_pay3, dot_S256x512_S512x1024_S256x1024_1_0_0_1_n_n, val_main_v2, val_main_v1, val_main_v0]
  rw [add_assoc]
  blk_point [iblk, V, idx t]

theorem final8 (c : Dev nD) : (dats m 0 c).arrAt 8 cfg0.N = val_main_v2 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [after0_8]; frame_out
  exact point8 m c t y

/-- One block of the normalised residual stream. -/
theorem point9 (c : Dev nD) (t : Fin cfg0.N) (y) :
    k0_pay5 (iblk m c 0 t) (iblk m c 1 t) (View.ld (iblk m c 3 t) r0_2) (iblk m c 2 t) (View.ld (iblk m c 3 t) r0_3) (iblk m c 4 t) y
    = val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 9).blk t).view.emb y) := by
  pointwise [k0_pay5, k0_pay4, val_main_v19, val_main_v15, val_main_v14, val_main_v13, val_main_v12, val_main_v11, val_main_v10, val_main_v9, val_main_v8, val_main_v7, val_main_v6, val_main_v5, val_main_v4, val_main_v3, val_main_cst, val_main_cst_0, val_main_cst_1]
  have row : ∀ k : Fin 1024, k0_pay3 (iblk m c 0 t) (iblk m c 1 t) (View.ld (iblk m c 3 t) r0_2) (iblk m c 2 t) (View.ld (iblk m c 3 t) r0_3) (ix2 (y 0) k)
      = val_main_v2 (F := Ideal) (m ((c : Thread nD τ).loc main_arg0)) (m ((c : Thread nD τ).loc main_arg1)) (m ((c : Thread nD τ).loc main_arg2)) (m ((c : Thread nD τ).loc main_arg3)) (ix2 ((((cfg0.win 9).blk t).view.emb y) 0) k) := fun k =>
    (point8 m c t (ix2 (y 0) k)).trans (by blk_point [idx t])
  have own : k0_pay3 (iblk m c 0 t) (iblk m c 1 t) (View.ld (iblk m c 3 t) r0_2) (iblk m c 2 t) (View.ld (iblk m c 3 t) r0_3) y
      = val_main_v2 (F := Ideal) (m ((c : Thread nD τ).loc main_arg0)) (m ((c : Thread nD τ).loc main_arg1)) (m ((c : Thread nD τ).loc main_arg2)) (m ((c : Thread nD τ).loc main_arg3)) (((cfg0.win 9).blk t).view.emb y) :=
    (point8 m c t y).trans (by blk_point [idx t])
  refine congrArg₂ (· * ·) (congrArg₂ (· * ·) own (congrArg (fun z => Ideal.rsqrt (Ideal.div z _ + _)) ?_)) ?_
  · exact Finset.sum_congr rfl fun k _ => congrArg₂ (· * ·) (row k) (row k)
  · blk_point [iblk, V, idx t]

theorem final9 (c : Dev nD) : (dats m 0 c).arrAt 9 cfg0.N = val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t _ y => ?_
  blk_simp
  rw [after0_9]; frame_out
  exact point9 m c t y

theorem out10 (x0 : Vec Ideal S256x1024 .f32) (x1 : Vec Ideal S256x512 .f32) (x2 : Vec Ideal S256x512 .f32) (x3 : Vec Ideal S1024x1024 .bf16)
    (x4 : Vec Ideal S1x1024 .f32) (x5 : Vec Ideal S1024x2048 .bf16) (x6 : Vec Ideal S1024x2048 .bf16) (x7 : Vec Ideal S16x128x128 .f32) (y : S16x128x256.Idx) :
    out0_10 x0 x1 x2 x3 x4 x5 x6 x7 y
    = ∑ d : Fin 128, (x7 (ix3 (y 0) (y 1) d) : EReal) * k0_pay28 x0 x1 x2 x3 x4 x5 x6 x7 (ix2 (y 2) ⟨128 * (y 0).val + d.val, by have := (y 0).isLt; simp at this; omega⟩) := by
  unfold out0_10
  refine View.canon_apply_of_pieces (fun y : S16x128x256.Idx => ∑ d : Fin 128, (x7 (ix3 (y 0) (y 1) d) : EReal) * k0_pay28 x0 x1 x2 x3 x4 x5 x6 x7 (ix2 (y 2) ⟨128 * (y 0).val + d.val, by have := (y 0).isLt; simp at this; omega⟩)) _ ?_ y ?_
  · simp only [List.forall_mem_cons, List.forall_mem_nil, List.not_mem_nil, IsEmpty.forall_iff, implies_true, and_true]
    refine ⟨fun x => ?_, fun x => ?_, fun x => ?_, fun x => ?_, fun x => ?_, fun x => ?_, fun x => ?_, fun x => ?_,
      fun x => ?_, fun x => ?_, fun x => ?_, fun x => ?_, fun x => ?_, fun x => ?_, fun x => ?_, fun x => ?_⟩
    all_goals
      pointwise [k0_pay1, k0_pay2, k0_pay8, k0_pay9, k0_pay10, k0_pay11, k0_pay12, k0_pay13, k0_pay14, k0_pay15, k0_pay16,
        k0_pay17, k0_pay18, k0_pay19, k0_pay20, k0_pay21, k0_pay22, k0_pay23, k0_pay24, k0_pay25,
        dot_S128x128_S256x128_S128x256_1_1_0_0_n_n]
      blk_point []
  · exact cover0_10 _ _ _ _ _ _ _ _ _ _ _ _ _ _ _ _ y

theorem below {x : EReal} (h : Ideal.cmp .olt (max x (-x)) (Ideal.ofBits .f32 0x7F800000#32) = 1) : max x (-x) < ⊤ := by
  have e : Ideal.ofBits .f32 0x7F800000#32 = (⊤ : EReal) := by simp [Ideal.ofBits, Ideal.ieee]
  rw [e] at h
  by_contra n
  simp [Ideal.cmp, n] at h

/-- Every element of the norm's and of the queries' weights is a real number. -/
theorem reals (h : Cert.Pre_MidIdeal_mid_finite m) (c : Dev nD) :
    (∀ i, IsReal (m ((c : Thread nD τ).loc main_arg4) i)) ∧ (∀ i, IsReal (m ((c : Thread nD τ).loc main_arg5) i)) := by
  obtain ⟨h4, h5⟩ := h c
  exact ⟨fun i => isReal_of_abs_lt (below (congrFun h4 i)), fun i => isReal_of_abs_lt (below (congrFun h5 i))⟩

/-- The normalised residual stream is made of real numbers. -/
theorem norm_real (h : Cert.Pre_MidIdeal_mid_finite m) (c : Dev nD) (r : Fin 17408) (k : Fin 1024) :
    IsReal (val_main_v15 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r k)) := by
  pointwise [val_main_v15, val_main_v14, val_main_v13, val_main_v12, val_main_v11, val_main_v10, val_main_v9, val_main_v8, val_main_v7, val_main_v6, val_main_v5, val_main_v4, val_main_v3, val_main_cst, val_main_cst_0, val_main_cst_1]
  exact (isReal_normed (fun k : Fin 1024 => val_main_v2 (F := Ideal) (m ((c : Thread nD τ).loc main_arg0)) (m ((c : Thread nD τ).loc main_arg1)) (m ((c : Thread nD τ).loc main_arg2)) (m ((c : Thread nD τ).loc main_arg3)) (ix2 r k)) k).mul ((reals m h c).1 _)

/-- One entry of the normalised block the queries are made of. -/
theorem own (c : Dev nD) (t : Fin cfg0.N) (r : Fin 256) (k : Fin 1024) :
    k0_pay5 (View.ld (iblk m c 0 t) r0_0) (View.ld (iblk m c 1 t) r0_1) (View.ld (iblk m c 3 t) r0_2) (View.ld (iblk m c 2 t) r0_1) (View.ld (iblk m c 3 t) r0_3) (View.ld (iblk m c 4 t) r0_4) (ix2 r k)
      = val_main_v15 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ((((cfg0.win 9).blk t).view.emb (ix2 r 0)) 0) k) := by
  have e0 : View.ld (iblk m c 0 t) r0_0 = iblk m c 0 t := View.ld_unit_lit' (S := S256x1024) (off := ![0, 0]) _ _ (by decide)
  have e1 : View.ld (iblk m c 1 t) r0_1 = iblk m c 1 t := View.ld_unit_lit' (S := S256x512) (off := ![0, 0]) _ _ (by decide)
  have e2 : View.ld (iblk m c 2 t) r0_1 = iblk m c 2 t := View.ld_unit_lit' (S := S256x512) (off := ![0, 0]) _ _ (by decide)
  have e4 : View.ld (iblk m c 4 t) r0_4 = iblk m c 4 t := View.ld_unit_lit' (S := S1x1024) (off := ![0, 0]) _ _ (by decide)
  rw [e0, e1, e2, e4]
  have e : ((cfg0.win 9).blk t).view.emb (ix2 r k) = ix2 ((((cfg0.win 9).blk t).view.emb (ix2 r 0)) 0) k := by blk_ext! [idx t]
  exact (point9 m c t (ix2 r k)).trans (congrArg (val_main_v15 (F := Ideal) (m ((c : Thread nD τ).loc main_arg0)) (m ((c : Thread nD τ).loc main_arg1)) (m ((c : Thread nD τ).loc main_arg2)) (m ((c : Thread nD τ).loc main_arg3)) (m ((c : Thread nD τ).loc main_arg4))) e)

/-- One block of the router's queries, as the kernel forms them from two parts of each factor. -/
theorem queries (h : Cert.Pre_MidIdeal_mid_finite m) (c : Dev nD) (t : Fin cfg0.N) (r : Fin 256) (l : Fin 2048) :
    k0_pay28 (iblk m c 0 t) (iblk m c 1 t) (iblk m c 2 t) (iblk m c 3 t) (iblk m c 4 t) (iblk m c 5 t) (iblk m c 6 t) (iblk m c 7 t) (ix2 r l)
    = val_main_v16 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ((((cfg0.win 9).blk t).view.emb (ix2 r 0)) 0) l) := by
  pointwise [k0_pay28, k0_pay7, k0_pay26, k0_pay27, k0_pay6, dot_S256x1024_S1024x2048_S256x2048_1_0_0_1_n_n, val_main_v16]
  obtain ⟨-, h5⟩ := reals m h c
  have own := fun k : Fin 1024 => own m c t r k
  refine Eq.trans ?_ (split_dot Finset.univ (a := fun k : Fin 1024 => val_main_v15 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ((((cfg0.win 9).blk t).view.emb (ix2 r 0)) 0) k)) (w := fun k : Fin 1024 => m ((c : Thread nD τ).loc main_arg5) (ix2 k l)) (fun k => norm_real m h c _ k) (fun k => h5 _))
  refine congrArg₂ (· + ·) ?_ (congrArg₂ (· + ·) ?_ ?_)
  · exact Finset.sum_congr rfl fun k _ => congrArg₂ (· * ·) (own k) (by blk_point [iblk, V, idx t])
  · exact Finset.sum_congr rfl fun k _ => congrArg₂ (· * ·) (own k) (by blk_point [iblk, V, idx t])
  · exact Finset.sum_congr rfl fun k _ => congrArg₂ (· * ·) (congrArg₂ (· - ·) (own k) (own k)) (by blk_point [iblk, V, idx t])

/-- One block of the scores of all sixteen halves of the keys. -/
theorem point10 (h : Cert.Pre_MidIdeal_mid_finite m) (c : Dev nD) (t : Fin cfg0.N) (y) :
    out0_10 (iblk m c 0 t) (iblk m c 1 t) (iblk m c 2 t) (iblk m c 3 t) (iblk m c 4 t) (iblk m c 5 t) (iblk m c 6 t) (iblk m c 7 t) y = val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 10).blk t).view.emb y) := by
  rw [out10]
  pointwise [val_main_v20, val_main_v18, val_main_v17]
  refine Finset.sum_congr rfl fun d _ => congrArg₂ (· * ·) ?_ ((queries m h c t _ _).trans (congrArg (val_main_v16 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) ?_))
  · blk_point [iblk, V, idx t]
  · blk_ext! [idx t]

theorem final10 (h : Cert.Pre_MidIdeal_mid_finite m) (c : Dev nD) : (dats m 0 c).arrAt 10 cfg0.N = val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t _ y => ?_
  blk_simp
  rw [after0_10]
  exact point10 m h c t y

end Cert.MidIdeal.Hand
-- ==== Proof.Ple.lean ====
/-
  The per-layer embedding step: what the kernel's result array holds is
  the reference's value of the argument arrays.
-/
module

public import proofs.«01_k».proof.Proof.Gen.PleIdeal.Value
public import proofs.«01_k».proof.Proof.Gen.PleRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PleIdeal.Hand

open Cert.PleIdeal Cert.PleIdeal.Gen
open Cert.PleRefIdeal.Read

variable (m : (ℓ : Loc nD τ sig) → Buf (Elt Ideal) ℓ)

/-- The block indices of the windows at every grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![t.val, 0] :=
  (by decide +kernel : ∀ t : Fin grid0.N, _)

/-- The logistic function written out. -/
theorem logistic_eq (z : EReal) : Ideal.logistic z = Ideal.div 1 (1 + Ideal.exp (-z)) := rfl

set_option maxHeartbeats 2000000 in
/-- What one block of the result holds. -/
theorem point (c : Dev nD) (t : Fin cfg0.N) (y) :
    k0_pay1 (iblk m c 0 t) (iblk m c 1 t) (iblk m c 3 t) (iblk m c 4 t) (iblk m c 5 t) (iblk m c 2 t) (iblk m c 6 t) y
    = val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 8).blk t).view.emb y) := by
  pointwise [k0_pay1, dot_S512x1024_S1024x1024_S512x1024_1_0_0_1_n_n, dot_S512x256_S256x1024_S512x1024_1_0_0_1_n_n, val_main_v26, val_main_v25, val_main_v24, val_main_v23, val_main_v22, val_main_cst_3, val_main_v21, val_main_v20, val_main_cst_2, val_main_v19, val_main_v18, val_main_v17, val_main_v16, val_main_v15, val_main_v14, val_main_v13, val_main_v12, val_main_v11, val_main_v10, val_main_v9, val_main_v8, val_main_v7, val_main_v6, val_main_cst_1, val_main_v5, val_main_v4, val_main_cst_0, val_main_v3, val_main_v2, val_main_cst, val_main_v1, val_main_v0]
  blk_simp [iblk, idx t]
  simp only [logistic_eq]
  blk_point [iblk, V, idx t]

/-- What the whole of the result holds. -/
theorem final (c : Dev nD) : (dats m 0 c).arrAt 8 cfg0.N = val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]; frame_out
  exact point m c t y

end Cert.PleIdeal.Hand
-- ==== Proof.PleFinal.lean ====
/-
  The per-layer embedding step followed by the final normalisation: what the kernel's result array holds is
  the reference's value of the argument arrays.
-/
module

public import proofs.«01_k».proof.Proof.Gen.PleFinalIdeal.Value
public import proofs.«01_k».proof.Proof.Gen.PleFinalRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PleFinalIdeal.Hand

open Cert.PleFinalIdeal Cert.PleFinalIdeal.Gen
open Cert.PleFinalRefIdeal.Read

variable (m : (ℓ : Loc nD τ sig) → Buf (Elt Ideal) ℓ)

/-- The block indices of the windows at every grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![t.val, 0] :=
  (by decide +kernel : ∀ t : Fin grid0.N, _)

/-- The logistic function written out. -/
theorem logistic_eq (z : EReal) : Ideal.logistic z = Ideal.div 1 (1 + Ideal.exp (-z)) := rfl

set_option maxHeartbeats 2000000 in
/-- What one block of the result holds. -/
theorem point (c : Dev nD) (t : Fin cfg0.N) (y) :
    k0_pay1 (k0_pay2 (iblk m c 0 t) (iblk m c 1 t) (iblk m c 3 t) (iblk m c 4 t) (iblk m c 5 t) (iblk m c 2 t) (iblk m c 6 t)) (k0_pay3 (iblk m c 7 t)) (k0_pay4 (iblk m c 0 t) (iblk m c 1 t) (iblk m c 3 t) (iblk m c 4 t) (iblk m c 5 t) (iblk m c 2 t) (iblk m c 6 t)) y
    = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 8).blk t).view.emb y) := by
  pointwise [k0_pay1, k0_pay2, k0_pay3, k0_pay4, dot_S512x1024_S1024x1024_S512x1024_1_0_0_1_n_n, dot_S512x256_S256x1024_S512x1024_1_0_0_1_n_n, val_main_v39, val_main_v38, val_main_v37, val_main_v36, val_main_v35, val_main_v34, val_main_v33, val_main_v32, val_main_cst_6, val_main_v31, val_main_v30, val_main_cst_5, val_main_v29, val_main_v28, val_main_cst_4, val_main_v27, val_main_v26, val_main_v25, val_main_v24, val_main_v23, val_main_v22, val_main_cst_3, val_main_v21, val_main_v20, val_main_cst_2, val_main_v19, val_main_v18, val_main_v17, val_main_v16, val_main_v15, val_main_v14, val_main_v13, val_main_v12, val_main_v11, val_main_v10, val_main_v9, val_main_v8, val_main_v7, val_main_v6, val_main_cst_1, val_main_v5, val_main_v4, val_main_cst_0, val_main_v3, val_main_v2, val_main_cst, val_main_v1, val_main_v0]
  blk_simp [iblk, idx t]
  simp only [logistic_eq]
  blk_point [iblk, V, idx t]

/-- What the whole of the result holds. -/
theorem final (c : Dev nD) : (dats m 0 c).arrAt 8 cfg0.N = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8]; frame_out
  exact point m c t y

end Cert.PleFinalIdeal.Hand
-- ==== Proof.lean ====
module

public import proofs.«01_k».proof.Defs
public import proofs.«01_k».proof.Proof.Gen.Gla
public import proofs.«01_k».proof.Proof.Gen.Gla.Skeleton
public import proofs.«01_k».proof.Proof.Gen.Gla.Launch
public import proofs.«01_k».proof.Proof.Gen.Gla.Points
public import proofs.«01_k».proof.Proof.Gen.Gla.Frame
public import proofs.«01_k».proof.Proof.Gen.GlaIdeal
public import proofs.«01_k».proof.Proof.Gen.GlaIdeal.Skeleton
public import proofs.«01_k».proof.Proof.Gen.GlaIdeal.Launch
public import proofs.«01_k».proof.Proof.Gen.GlaIdeal.Points
public import proofs.«01_k».proof.Proof.Gen.GlaIdeal.Frame
public import proofs.«01_k».proof.Proof.Gen.GlaRefIdeal
public import proofs.«01_k».proof.Proof.Gen.Gdn
public import proofs.«01_k».proof.Proof.Gen.Gdn.Skeleton
public import proofs.«01_k».proof.Proof.Gen.Gdn.Launch
public import proofs.«01_k».proof.Proof.Gen.Gdn.Points
public import proofs.«01_k».proof.Proof.Gen.Gdn.Frame
public import proofs.«01_k».proof.Proof.Gen.GdnIdeal
public import proofs.«01_k».proof.Proof.Gen.GdnIdeal.Skeleton
public import proofs.«01_k».proof.Proof.Gen.GdnIdeal.Launch
public import proofs.«01_k».proof.Proof.Gen.GdnIdeal.Points
public import proofs.«01_k».proof.Proof.Gen.GdnIdeal.Frame
public import proofs.«01_k».proof.Proof.Gen.GdnRefIdeal
public import proofs.«01_k».proof.Proof.Gen.GlaPrompt
public import proofs.«01_k».proof.Proof.Gen.GlaPrompt.Skeleton
public import proofs.«01_k».proof.Proof.Gen.GlaPrompt.Launch
public import proofs.«01_k».proof.Proof.Gen.GlaPrompt.Points
public import proofs.«01_k».proof.Proof.Gen.GlaPrompt.Frame
public import proofs.«01_k».proof.Proof.Gen.GlaPromptIdeal
public import proofs.«01_k».proof.Proof.Gen.GlaPromptIdeal.Skeleton
public import proofs.«01_k».proof.Proof.Gen.GlaPromptIdeal.Launch
public import proofs.«01_k».proof.Proof.Gen.GlaPromptIdeal.Points
public import proofs.«01_k».proof.Proof.Gen.GlaPromptIdeal.Frame
public import proofs.«01_k».proof.Proof.Gen.GlaPromptIdeal.Value
public import proofs.«01_k».proof.Proof.Gen.GlaPromptRefIdeal
public import proofs.«01_k».proof.Proof.Gen.GlaPromptRefIdeal.Run
public import proofs.«01_k».proof.Proof.Gen.GlaPromptRefIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.Mid
public import proofs.«01_k».proof.Proof.Gen.Mid.Skeleton
public import proofs.«01_k».proof.Proof.Gen.Mid.Launch
public import proofs.«01_k».proof.Proof.Gen.Mid.Points
public import proofs.«01_k».proof.Proof.Gen.Mid.Frame
public import proofs.«01_k».proof.Proof.Gen.MidIdeal
public import proofs.«01_k».proof.Proof.Gen.MidIdeal.Skeleton
public import proofs.«01_k».proof.Proof.Gen.MidIdeal.Launch
public import proofs.«01_k».proof.Proof.Gen.MidIdeal.Points
public import proofs.«01_k».proof.Proof.Gen.MidIdeal.Frame
public import proofs.«01_k».proof.Proof.Gen.MidRefIdeal
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleRefIdeal
public import proofs.«01_k».proof.Proof.Gen.PleFinal
public import proofs.«01_k».proof.Proof.Gen.PleFinal.Skeleton
public import proofs.«01_k».proof.Proof.Gen.PleFinal.Launch
public import proofs.«01_k».proof.Proof.Gen.PleFinal.Points
public import proofs.«01_k».proof.Proof.Gen.PleFinal.Frame
public import proofs.«01_k».proof.Proof.Gen.PleFinalIdeal
public import proofs.«01_k».proof.Proof.Gen.PleFinalIdeal.Skeleton
public import proofs.«01_k».proof.Proof.Gen.PleFinalIdeal.Launch
public import proofs.«01_k».proof.Proof.Gen.PleFinalIdeal.Points
public import proofs.«01_k».proof.Proof.Gen.PleFinalIdeal.Frame
public import proofs.«01_k».proof.Proof.Gen.PleFinalRefIdeal
public import proofs.«01_k».proof.Proof.Gen.Pre_gdn_finite
public import proofs.«01_k».proof.Proof.Gen.Pre_mid_finite
public import proofs.«01_k».proof.Proof.Gla
public import proofs.«01_k».proof.Proof.GlpFin
public import proofs.«01_k».proof.Proof.GdnFin
public import proofs.«01_k».proof.Proof.InProj
public import proofs.«01_k».proof.Proof.Mid
public import proofs.«01_k».proof.Proof.Ple
public import proofs.«01_k».proof.Proof.PleFinal
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The run of the reference of `Gla` ends, its arguments are as they were and no counter is left above zero. -/
theorem frame_GlaRef : Cert.quiescent_GlaRefIdeal := fun m ρ _ =>
  (θ_run Cert.GlaRefIdeal.defs _ _).mono (fun r h => ⟨fun c => (h c).2.2, sem_eq_zero_of_no_sems (by decide) r.2⟩)
    (Cert.GlaRefIdeal.Value.run (F := Ideal) m ρ)

/-- The run of the reference of `GlaPrompt` ends, its arguments are as they were and no counter is left above zero. -/
theorem frame_GlaPromptRef : Cert.quiescent_GlaPromptRefIdeal := fun m ρ _ =>
  (θ_run Cert.GlaPromptRefIdeal.defs _ _).mono (fun r h => ⟨fun c => (h c).2, sem_eq_zero_of_no_sems (by decide) r.2⟩)
    (Cert.GlaPromptRefIdeal.Value.run (F := Ideal) m ρ)

/-- The run of the reference of `Gdn` ends, its arguments are as they were and no counter is left above zero. -/
theorem frame_GdnRef : Cert.quiescent_GdnRefIdeal := fun m ρ _ =>
  (θ_run Cert.GdnRefIdeal.defs _ _).mono (fun r h => ⟨fun c => (h c).2.2.2, sem_eq_zero_of_no_sems (by decide) r.2⟩)
    (Cert.GdnRefIdeal.Value.run (F := Ideal) m ρ)

/-- The run of the reference of `InProj` ends, its arguments are as they were and no counter is left above zero. -/
theorem frame_InProjRef : Cert.quiescent_InProjRefIdeal := fun m ρ _ =>
  (θ_run Cert.InProjRefIdeal.defs _ _).mono (fun r h => ⟨fun c => (h c).2.2, sem_eq_zero_of_no_sems (by decide) r.2⟩)
    (Cert.InProjRefIdeal.Value.run (F := Ideal) m ρ)

/-- The run of the reference of `Mid` ends, its arguments are as they were and no counter is left above zero. -/
theorem frame_MidRef : Cert.quiescent_MidRefIdeal := fun m ρ _ =>
  (θ_run Cert.MidRefIdeal.defs _ _).mono (fun r h => ⟨fun c => (h c).2.2.2, sem_eq_zero_of_no_sems (by decide) r.2⟩)
    (Cert.MidRefIdeal.Value.run (F := Ideal) m ρ)

/-- The run of the reference of `Ple` ends, its arguments are as they were and no counter is left above zero. -/
theorem frame_PleRef : Cert.quiescent_PleRefIdeal := fun m ρ _ =>
  (θ_run Cert.PleRefIdeal.defs _ _).mono (fun r h => ⟨fun c => (h c).2, sem_eq_zero_of_no_sems (by decide) r.2⟩)
    (Cert.PleRefIdeal.Value.run (F := Ideal) m ρ)

/-- The run of the reference of `PleFinal` ends, its arguments are as they were and no counter is left above zero. -/
theorem frame_PleFinalRef : Cert.quiescent_PleFinalRefIdeal := fun m ρ _ =>
  (θ_run Cert.PleFinalRefIdeal.defs _ _).mono (fun r h => ⟨fun c => (h c).2, sem_eq_zero_of_no_sems (by decide) r.2⟩)
    (Cert.PleFinalRefIdeal.Value.run (F := Ideal) m ρ)

/-- The norm and the input projection are the reference's, over the extended reals. -/
theorem algebraic_InProj : Cert.algebraic_InProjIdeal_InProjRefIdeal := by
  pair_intro
  · run_from Cert.InProjIdeal.Value.run_blocks m g
  · run_from Cert.InProjRefIdeal.Value.run m' g'
    exacts [(Cert.InProjIdeal.Hand.final3 m c).symm, (Cert.InProjIdeal.Hand.final4 m c).symm]

/-- The tail of an inner layer is the reference's, over the extended reals. -/
theorem algebraic_Ple : Cert.algebraic_PleIdeal_PleRefIdeal := by
  pair_intro
  · run_from Cert.PleIdeal.Value.run_blocks m g
  · run_from Cert.PleRefIdeal.Value.run m' g'
    exact (Cert.PleIdeal.Hand.final m c).symm

/-- The tail of the last layer with the closing norm is the reference's, over the extended reals. -/
theorem algebraic_PleFinal : Cert.algebraic_PleFinalIdeal_PleFinalRefIdeal := by
  pair_intro
  · run_from Cert.PleFinalIdeal.Value.run_blocks m g
  · run_from Cert.PleFinalRefIdeal.Value.run m' g'
    obtain ⟨e0, e1, e2, e3, e4, e5, e6, e7⟩ := hagree c
    refine (Cert.PleFinalRefIdeal.Read.val_main_v39_eq m' c).trans ?_
    simp only [e0, e1, e2, e3, e4, e5, e6, e7]
    exact (Cert.PleFinalIdeal.Hand.final m c).symm

/-- The gated linear attention of the sample batch is the reference's, over the extended reals. -/
theorem algebraic_Gla : Cert.algebraic_GlaIdeal_GlaRefIdeal := by
  pair_intro
  · run_from Cert.GlaIdeal.Value.run_blocks m g
  · run_from Cert.GlaRefIdeal.Value.run m' g'
    · obtain ⟨e0, e1, e2, e3, e4⟩ := hagree c
      refine (Cert.GlaRefIdeal.Read.val_main_v75_eq m' c).trans ?_
      simp only [e0, e1, e2, e3, e4]
      exact (Cert.GlaIdeal.Hand.final5 m c).symm
    · obtain ⟨e0, e1, e2, e3, e4⟩ := hagree c
      refine (Cert.GlaRefIdeal.Read.val_main_v76_eq m' c).trans ?_
      simp only [e0, e1, e2, e3, e4]
      exact (Cert.GlaIdeal.Hand.final6 m c).symm

/-- The state that the prompt's gated linear attention leaves is the reference's, over the extended reals. -/
theorem algebraic_GlaPrompt : Cert.algebraic_GlaPromptIdeal_GlaPromptRefIdeal := by
  pair_intro
  · run_from Cert.GlaPromptIdeal.Value.run_blocks m g
  · run_from Cert.GlaPromptRefIdeal.Value.run m' g'
    obtain ⟨e0, e1, e2, e3, e4⟩ := hagree c
    refine (Cert.GlaPromptRefIdeal.Read.val_main_v31_eq m' c).trans ?_
    simp only [e0, e2, e3]
    exact (Cert.GlaPromptIdeal.Hand.final6 m c).symm

/-- The output projection, the norm and the router's scores are the reference's, over the extended reals,
    where the weights of the norm and of the router's queries are finite. -/
theorem algebraic_Mid : Cert.algebraic_MidIdeal_MidRefIdeal_pre_mid_finite := by
  pair_intro
  · run_from Cert.MidIdeal.Value.run_blocks m g
  · run_from Cert.MidRefIdeal.Value.run m' g'
    all_goals rw [(hagree c).2.1, (hagree c).2.2.1]
    exacts [(Cert.MidIdeal.Hand.final8 m c).symm, (Cert.MidIdeal.Hand.final9 m c).symm, (Cert.MidIdeal.Hand.final10 m hpre c).symm]

/-- The gated delta rule of the sample batch with its short convolution is the reference's, over the extended reals,
    where what the values are convolved from is finite. -/
theorem algebraic_Gdn : Cert.algebraic_GdnIdeal_GdnRefIdeal_pre_gdn_finite := by
  pair_intro
  · run_from Cert.GdnIdeal.Value.run_blocks m g
  · run_from Cert.GdnRefIdeal.Value.run m' g'
    · obtain ⟨e0, e1, e2, e3, e4, e5, e6⟩ := hagree c
      rw [← e6]
      refine (Cert.GdnRefIdeal.Read.val_main_v343_eq (StableHlo.launchContents m' c)).trans ?_
      rw [show StableHlo.launchContents m' c (Proc.devRef .tc Cert.GdnRefIdeal.main_arg0) = _ from e0, show StableHlo.launchContents m' c (Proc.devRef .tc Cert.GdnRefIdeal.main_arg1) = _ from e1, show StableHlo.launchContents m' c (Proc.devRef .tc Cert.GdnRefIdeal.main_arg2) = _ from e2, show StableHlo.launchContents m' c (Proc.devRef .tc Cert.GdnRefIdeal.main_arg3) = _ from e3, show StableHlo.launchContents m' c (Proc.devRef .tc Cert.GdnRefIdeal.main_arg4) = _ from e4, show StableHlo.launchContents m' c (Proc.devRef .tc Cert.GdnRefIdeal.main_arg5) = _ from e5, show StableHlo.launchContents m' c (Proc.devRef .tc Cert.GdnRefIdeal.main_arg6) = _ from e6]
      exact (Cert.GdnIdeal.Hand.final7 m hpre c).symm
    · obtain ⟨e0, e1, e2, e3, e4, e5, e6⟩ := hagree c
      rw [← e1]
      refine (Cert.GdnRefIdeal.Read.val_main_v326_eq (StableHlo.launchContents m' c)).trans ?_
      rw [show StableHlo.launchContents m' c (Proc.devRef .tc Cert.GdnRefIdeal.main_arg0) = _ from e0, show StableHlo.launchContents m' c (Proc.devRef .tc Cert.GdnRefIdeal.main_arg1) = _ from e1, show StableHlo.launchContents m' c (Proc.devRef .tc Cert.GdnRefIdeal.main_arg2) = _ from e2, show StableHlo.launchContents m' c (Proc.devRef .tc Cert.GdnRefIdeal.main_arg3) = _ from e3, show StableHlo.launchContents m' c (Proc.devRef .tc Cert.GdnRefIdeal.main_arg4) = _ from e4, show StableHlo.launchContents m' c (Proc.devRef .tc Cert.GdnRefIdeal.main_arg5) = _ from e5]
      exact (Cert.GdnIdeal.Hand.final8 m hpre c).symm
    · obtain ⟨e0, e1, e2, e3, e4, e5, e6⟩ := hagree c
      refine (Cert.GdnRefIdeal.Read.val_main_v34_eq (StableHlo.launchContents m' c)).trans ?_
      rw [show StableHlo.launchContents m' c (Proc.devRef .tc Cert.GdnRefIdeal.main_arg0) = _ from e0, show StableHlo.launchContents m' c (Proc.devRef .tc Cert.GdnRefIdeal.main_arg2) = _ from e2]
      exact (Cert.GdnIdeal.Hand.final9 m c).symm

/-- The whole claim. -/
theorem claim : Cert.Claim := ⟨Cert.Gla.Gen.facts,
  Cert.GlaIdeal.Gen.facts,
  Cert.GlaRefIdeal.Gen.facts,
  Cert.GlaPrompt.Gen.facts,
  Cert.GlaPromptIdeal.Gen.facts,
  Cert.GlaPromptRefIdeal.Gen.facts,
  Cert.Gdn.Gen.facts,
  Cert.GdnIdeal.Gen.facts,
  Cert.GdnRefIdeal.Gen.facts,
  Cert.InProj.Gen.facts,
  Cert.InProjIdeal.Gen.facts,
  Cert.InProjRefIdeal.Gen.facts,
  Cert.Mid.Gen.facts,
  Cert.MidIdeal.Gen.facts,
  Cert.MidRefIdeal.Gen.facts,
  Cert.Ple.Gen.facts,
  Cert.PleIdeal.Gen.facts,
  Cert.PleRefIdeal.Gen.facts,
  Cert.PleFinal.Gen.facts,
  Cert.PleFinalIdeal.Gen.facts,
  Cert.PleFinalRefIdeal.Gen.facts,
  Cert.Pre_gdn_finite.Gen.facts,
  Cert.Pre_mid_finite.Gen.facts, fun m ρ _ => Cert.Gla.Gen.frame m ρ, fun m ρ _ => Cert.GlaIdeal.Gen.frame m ρ,
  frame_GlaRef,
  fun m ρ _ => Cert.GlaPrompt.Gen.frame m ρ, fun m ρ _ => Cert.GlaPromptIdeal.Gen.frame m ρ,
  frame_GlaPromptRef,
  fun m ρ _ => Cert.Gdn.Gen.frame m ρ, fun m ρ _ => Cert.GdnIdeal.Gen.frame m ρ,
  fun m ρ _ => Cert.GdnIdeal.Gen.frame m ρ,
  frame_GdnRef,
  fun m ρ _ => frame_GdnRef m ρ trivial,
  fun m ρ _ => Cert.InProj.Gen.frame m ρ, fun m ρ _ => Cert.InProjIdeal.Gen.frame m ρ,
  frame_InProjRef,
  fun m ρ _ => Cert.Mid.Gen.frame m ρ, fun m ρ _ => Cert.MidIdeal.Gen.frame m ρ,
  fun m ρ _ => Cert.MidIdeal.Gen.frame m ρ,
  frame_MidRef,
  fun m ρ _ => frame_MidRef m ρ trivial,
  fun m ρ _ => Cert.Ple.Gen.frame m ρ, fun m ρ _ => Cert.PleIdeal.Gen.frame m ρ,
  frame_PleRef,
  fun m ρ _ => Cert.PleFinal.Gen.frame m ρ, fun m ρ _ => Cert.PleFinalIdeal.Gen.frame m ρ,
  frame_PleFinalRef,
  trivial,
  algebraic_Gla,
  trivial,
  algebraic_GlaPrompt,
  trivial,
  algebraic_Gdn,
  trivial,
  algebraic_InProj,
  trivial,
  algebraic_Mid,
  trivial,
  algebraic_Ple,
  trivial,
  algebraic_PleFinal⟩

end Cert.Proof

end
